-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Experts [hPre_blocks_in_range : Cert.Pre_blocks_in_range.Facts] (m : (ℓ : Loc Cert.Experts.nD Cert.Experts.τ Cert.Experts.sig) → Buf (Elt Bits) ℓ) : Prop :=
  ∀ c : Dev Cert.Experts.nD,
    (Cert.Pre_blocks_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).1 = (fun _ => 1#1)
    ∧ (Cert.Pre_blocks_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))).2 = (fun _ => 1#1)

def Pre_ExpertsIdeal [hPre_blocks_in_range : Cert.Pre_blocks_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).1 = (fun _ => 1#1)
    ∧ (Cert.Pre_blocks_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_blocks_in_range [hPre_blocks_in_range : Cert.Pre_blocks_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_blocks_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).1 = (fun _ => 1#1)
    ∧ (Cert.Pre_blocks_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))).2 = (fun _ => 1#1)

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftReferenceIdeal (m : (ℓ : Loc Cert.ShiftReferenceIdeal.nD Cert.ShiftReferenceIdeal.τ Cert.ShiftReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def quiescent_Experts [hExperts : Cert.Experts.Facts] [hPre_blocks_in_range : Cert.Pre_blocks_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_blocks_in_range : Cert.Pre_blocks_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_ExpertsReferenceIdeal_pre_blocks_in_range [hExpertsReferenceIdeal : Cert.ExpertsReferenceIdeal.Facts] [hPre_blocks_in_range : Cert.Pre_blocks_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_blocks_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2)
      ∧ r.2.mem ((c.tc : Thread Cert.Shift.nD Cert.Shift.τ).loc Cert.Shift.main_arg3) = m ((c.tc : Thread Cert.Shift.nD Cert.Shift.τ).loc Cert.Shift.main_arg3)
      ∧ r.2.mem ((c.tc : Thread Cert.Shift.nD Cert.Shift.τ).loc Cert.Shift.main_arg4) = m ((c.tc : Thread Cert.Shift.nD Cert.Shift.τ).loc Cert.Shift.main_arg4)
      ∧ r.2.mem ((c.tc : Thread Cert.Shift.nD Cert.Shift.τ).loc Cert.Shift.main_arg5) = m ((c.tc : Thread Cert.Shift.nD Cert.Shift.τ).loc Cert.Shift.main_arg5)
      ∧ r.2.mem ((c.tc : Thread Cert.Shift.nD Cert.Shift.τ).loc Cert.Shift.main_arg6) = m ((c.tc : Thread Cert.Shift.nD Cert.Shift.τ).loc Cert.Shift.main_arg6)
      ∧ r.2.mem ((c.tc : Thread Cert.Shift.nD Cert.Shift.τ).loc Cert.Shift.main_arg7) = m ((c.tc : Thread Cert.Shift.nD Cert.Shift.τ).loc Cert.Shift.main_arg7)
      ∧ r.2.mem ((c.tc : Thread Cert.Shift.nD Cert.Shift.τ).loc Cert.Shift.main_arg8) = m ((c.tc : Thread Cert.Shift.nD Cert.Shift.τ).loc Cert.Shift.main_arg8)
      ∧ r.2.mem ((c.tc : Thread Cert.Shift.nD Cert.Shift.τ).loc Cert.Shift.main_arg9) = m ((c.tc : Thread Cert.Shift.nD Cert.Shift.τ).loc Cert.Shift.main_arg9)
      ∧ r.2.mem ((c.tc : Thread Cert.Shift.nD Cert.Shift.τ).loc Cert.Shift.main_arg10) = m ((c.tc : Thread Cert.Shift.nD Cert.Shift.τ).loc Cert.Shift.main_arg10))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
      ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3)
      ∧ r.2.mem ((c.tc : Thread Cert.ShiftIdeal.nD Cert.ShiftIdeal.τ).loc Cert.ShiftIdeal.main_arg4) = m ((c.tc : Thread Cert.ShiftIdeal.nD Cert.ShiftIdeal.τ).loc Cert.ShiftIdeal.main_arg4)
      ∧ r.2.mem ((c.tc : Thread Cert.ShiftIdeal.nD Cert.ShiftIdeal.τ).loc Cert.ShiftIdeal.main_arg5) = m ((c.tc : Thread Cert.ShiftIdeal.nD Cert.ShiftIdeal.τ).loc Cert.ShiftIdeal.main_arg5)
      ∧ r.2.mem ((c.tc : Thread Cert.ShiftIdeal.nD Cert.ShiftIdeal.τ).loc Cert.ShiftIdeal.main_arg6) = m ((c.tc : Thread Cert.ShiftIdeal.nD Cert.ShiftIdeal.τ).loc Cert.ShiftIdeal.main_arg6)
      ∧ r.2.mem ((c.tc : Thread Cert.ShiftIdeal.nD Cert.ShiftIdeal.τ).loc Cert.ShiftIdeal.main_arg7) = m ((c.tc : Thread Cert.ShiftIdeal.nD Cert.ShiftIdeal.τ).loc Cert.ShiftIdeal.main_arg7)
      ∧ r.2.mem ((c.tc : Thread Cert.ShiftIdeal.nD Cert.ShiftIdeal.τ).loc Cert.ShiftIdeal.main_arg8) = m ((c.tc : Thread Cert.ShiftIdeal.nD Cert.ShiftIdeal.τ).loc Cert.ShiftIdeal.main_arg8)
      ∧ r.2.mem ((c.tc : Thread Cert.ShiftIdeal.nD Cert.ShiftIdeal.τ).loc Cert.ShiftIdeal.main_arg9) = m ((c.tc : Thread Cert.ShiftIdeal.nD Cert.ShiftIdeal.τ).loc Cert.ShiftIdeal.main_arg9)
      ∧ r.2.mem ((c.tc : Thread Cert.ShiftIdeal.nD Cert.ShiftIdeal.τ).loc Cert.ShiftIdeal.main_arg10) = m ((c.tc : Thread Cert.ShiftIdeal.nD Cert.ShiftIdeal.τ).loc Cert.ShiftIdeal.main_arg10))
      ∧ r.2.sem = fun _ => 0)

def quiescent_ShiftReferenceIdeal [hShiftReferenceIdeal : Cert.ShiftReferenceIdeal.Facts] : Prop :=
  ∀ (m : (ℓ : Loc Cert.ShiftReferenceIdeal.nD Cert.ShiftReferenceIdeal.τ Cert.ShiftReferenceIdeal.sig) → Buf (Elt Ideal) ℓ) (g : Dev Cert.ShiftReferenceIdeal.nD → PrngReg), Pre_ShiftReferenceIdeal m →
    θ_run (Cert.ShiftReferenceIdeal.defs (F := Ideal)) (onTc (τ := Cert.ShiftReferenceIdeal.τ) (Cert.ShiftReferenceIdeal.main (F := Ideal))) ⟨m, fun _ => 0, g⟩ (fun r => (∀ c : Dev Cert.ShiftReferenceIdeal.nD,
      r.2.mem ((c.tc : Thread Cert.ShiftReferenceIdeal.nD Cert.ShiftReferenceIdeal.τ).loc Cert.ShiftReferenceIdeal.main_arg0) = m ((c.tc : Thread Cert.ShiftReferenceIdeal.nD Cert.ShiftReferenceIdeal.τ).loc Cert.ShiftReferenceIdeal.main_arg0)
      ∧ r.2.mem ((c.tc : Thread Cert.ShiftReferenceIdeal.nD Cert.ShiftReferenceIdeal.τ).loc Cert.ShiftReferenceIdeal.main_arg1) = m ((c.tc : Thread Cert.ShiftReferenceIdeal.nD Cert.ShiftReferenceIdeal.τ).loc Cert.ShiftReferenceIdeal.main_arg1)
      ∧ r.2.mem ((c.tc : Thread Cert.ShiftReferenceIdeal.nD Cert.ShiftReferenceIdeal.τ).loc Cert.ShiftReferenceIdeal.main_arg2) = m ((c.tc : Thread Cert.ShiftReferenceIdeal.nD Cert.ShiftReferenceIdeal.τ).loc Cert.ShiftReferenceIdeal.main_arg2)
      ∧ r.2.mem ((c.tc : Thread Cert.ShiftReferenceIdeal.nD Cert.ShiftReferenceIdeal.τ).loc Cert.ShiftReferenceIdeal.main_arg3) = m ((c.tc : Thread Cert.ShiftReferenceIdeal.nD Cert.ShiftReferenceIdeal.τ).loc Cert.ShiftReferenceIdeal.main_arg3)
      ∧ r.2.mem ((c.tc : Thread Cert.ShiftReferenceIdeal.nD Cert.ShiftReferenceIdeal.τ).loc Cert.ShiftReferenceIdeal.main_arg4) = m ((c.tc : Thread Cert.ShiftReferenceIdeal.nD Cert.ShiftReferenceIdeal.τ).loc Cert.ShiftReferenceIdeal.main_arg4)
      ∧ r.2.mem ((c.tc : Thread Cert.ShiftReferenceIdeal.nD Cert.ShiftReferenceIdeal.τ).loc Cert.ShiftReferenceIdeal.main_arg5) = m ((c.tc : Thread Cert.ShiftReferenceIdeal.nD Cert.ShiftReferenceIdeal.τ).loc Cert.ShiftReferenceIdeal.main_arg5)
      ∧ r.2.mem ((c.tc : Thread Cert.ShiftReferenceIdeal.nD Cert.ShiftReferenceIdeal.τ).loc Cert.ShiftReferenceIdeal.main_arg6) = m ((c.tc : Thread Cert.ShiftReferenceIdeal.nD Cert.ShiftReferenceIdeal.τ).loc Cert.ShiftReferenceIdeal.main_arg6)
      ∧ r.2.mem ((c.tc : Thread Cert.ShiftReferenceIdeal.nD Cert.ShiftReferenceIdeal.τ).loc Cert.ShiftReferenceIdeal.main_arg7) = m ((c.tc : Thread Cert.ShiftReferenceIdeal.nD Cert.ShiftReferenceIdeal.τ).loc Cert.ShiftReferenceIdeal.main_arg7)
      ∧ r.2.mem ((c.tc : Thread Cert.ShiftReferenceIdeal.nD Cert.ShiftReferenceIdeal.τ).loc Cert.ShiftReferenceIdeal.main_arg8) = m ((c.tc : Thread Cert.ShiftReferenceIdeal.nD Cert.ShiftReferenceIdeal.τ).loc Cert.ShiftReferenceIdeal.main_arg8)
      ∧ r.2.mem ((c.tc : Thread Cert.ShiftReferenceIdeal.nD Cert.ShiftReferenceIdeal.τ).loc Cert.ShiftReferenceIdeal.main_arg9) = m ((c.tc : Thread Cert.ShiftReferenceIdeal.nD Cert.ShiftReferenceIdeal.τ).loc Cert.ShiftReferenceIdeal.main_arg9)
      ∧ r.2.mem ((c.tc : Thread Cert.ShiftReferenceIdeal.nD Cert.ShiftReferenceIdeal.τ).loc Cert.ShiftReferenceIdeal.main_arg10) = m ((c.tc : Thread Cert.ShiftReferenceIdeal.nD Cert.ShiftReferenceIdeal.τ).loc Cert.ShiftReferenceIdeal.main_arg10))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v6_0)) (v1 : (c : Dev Cert.ProjectionIdeal.nD) → Buf (Elt Ideal) ((c.tc : Thread Cert.ProjectionIdeal.nD Cert.ProjectionIdeal.τ).loc Cert.ProjectionIdeal.main_v6_1)) (v2 : (c : Dev Cert.ProjectionIdeal.nD) → Buf (Elt Ideal) ((c.tc : Thread Cert.ProjectionIdeal.nD Cert.ProjectionIdeal.τ).loc Cert.ProjectionIdeal.main_v6_2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v6_0) = v0 c
          ∧ r.2.mem ((c.tc : Thread Cert.ProjectionIdeal.nD Cert.ProjectionIdeal.τ).loc Cert.ProjectionIdeal.main_v6_1) = v1 c
          ∧ r.2.mem ((c.tc : Thread Cert.ProjectionIdeal.nD Cert.ProjectionIdeal.τ).loc Cert.ProjectionIdeal.main_v6_2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v18) = v0 c
          ∧ r.2.mem ((c.tc : Thread Cert.ProjectionReferenceIdeal.nD Cert.ProjectionReferenceIdeal.τ).loc Cert.ProjectionReferenceIdeal.main_v20) = v1 c
          ∧ r.2.mem ((c.tc : Thread Cert.ProjectionReferenceIdeal.nD Cert.ProjectionReferenceIdeal.τ).loc Cert.ProjectionReferenceIdeal.main_v22) = v2 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_blocks_in_range : Cert.Pre_blocks_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v65) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def preserves_Shift_ShiftIdeal : Prop :=
  True

def algebraic_ShiftIdeal_ShiftReferenceIdeal [hShiftIdeal : Cert.ShiftIdeal.Facts] [hShiftReferenceIdeal : Cert.ShiftReferenceIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftReferenceIdeal.nD Cert.ShiftReferenceIdeal.τ Cert.ShiftReferenceIdeal.sig) → Buf (Elt Ideal) ℓ) (g' : Dev Cert.ShiftReferenceIdeal.nD → PrngReg), Pre_ShiftIdeal m →
    (∀ c : Dev Cert.ShiftIdeal.nD,
      m' ((c.tc : Thread Cert.ShiftReferenceIdeal.nD Cert.ShiftReferenceIdeal.τ).loc Cert.ShiftReferenceIdeal.main_arg0) = m ((c.tc : Thread Cert.ShiftIdeal.nD Cert.ShiftIdeal.τ).loc Cert.ShiftIdeal.main_arg0)
      ∧ m' ((c.tc : Thread Cert.ShiftReferenceIdeal.nD Cert.ShiftReferenceIdeal.τ).loc Cert.ShiftReferenceIdeal.main_arg1) = m ((c.tc : Thread Cert.ShiftIdeal.nD Cert.ShiftIdeal.τ).loc Cert.ShiftIdeal.main_arg1)
      ∧ m' ((c.tc : Thread Cert.ShiftReferenceIdeal.nD Cert.ShiftReferenceIdeal.τ).loc Cert.ShiftReferenceIdeal.main_arg2) = m ((c.tc : Thread Cert.ShiftIdeal.nD Cert.ShiftIdeal.τ).loc Cert.ShiftIdeal.main_arg2)
      ∧ m' ((c.tc : Thread Cert.ShiftReferenceIdeal.nD Cert.ShiftReferenceIdeal.τ).loc Cert.ShiftReferenceIdeal.main_arg3) = m ((c.tc : Thread Cert.ShiftIdeal.nD Cert.ShiftIdeal.τ).loc Cert.ShiftIdeal.main_arg3)
      ∧ m' ((c.tc : Thread Cert.ShiftReferenceIdeal.nD Cert.ShiftReferenceIdeal.τ).loc Cert.ShiftReferenceIdeal.main_arg4) = m ((c.tc : Thread Cert.ShiftIdeal.nD Cert.ShiftIdeal.τ).loc Cert.ShiftIdeal.main_arg4)
      ∧ m' ((c.tc : Thread Cert.ShiftReferenceIdeal.nD Cert.ShiftReferenceIdeal.τ).loc Cert.ShiftReferenceIdeal.main_arg5) = m ((c.tc : Thread Cert.ShiftIdeal.nD Cert.ShiftIdeal.τ).loc Cert.ShiftIdeal.main_arg5)
      ∧ m' ((c.tc : Thread Cert.ShiftReferenceIdeal.nD Cert.ShiftReferenceIdeal.τ).loc Cert.ShiftReferenceIdeal.main_arg6) = m ((c.tc : Thread Cert.ShiftIdeal.nD Cert.ShiftIdeal.τ).loc Cert.ShiftIdeal.main_arg6)
      ∧ m' ((c.tc : Thread Cert.ShiftReferenceIdeal.nD Cert.ShiftReferenceIdeal.τ).loc Cert.ShiftReferenceIdeal.main_arg7) = m ((c.tc : Thread Cert.ShiftIdeal.nD Cert.ShiftIdeal.τ).loc Cert.ShiftIdeal.main_arg7)
      ∧ m' ((c.tc : Thread Cert.ShiftReferenceIdeal.nD Cert.ShiftReferenceIdeal.τ).loc Cert.ShiftReferenceIdeal.main_arg8) = m ((c.tc : Thread Cert.ShiftIdeal.nD Cert.ShiftIdeal.τ).loc Cert.ShiftIdeal.main_arg8)
      ∧ m' ((c.tc : Thread Cert.ShiftReferenceIdeal.nD Cert.ShiftReferenceIdeal.τ).loc Cert.ShiftReferenceIdeal.main_arg9) = m ((c.tc : Thread Cert.ShiftIdeal.nD Cert.ShiftIdeal.τ).loc Cert.ShiftIdeal.main_arg9)
      ∧ m' ((c.tc : Thread Cert.ShiftReferenceIdeal.nD Cert.ShiftReferenceIdeal.τ).loc Cert.ShiftReferenceIdeal.main_arg10) = m ((c.tc : Thread Cert.ShiftIdeal.nD Cert.ShiftIdeal.τ).loc Cert.ShiftIdeal.main_arg10)) →
    ∃ (v0 : (c : Dev Cert.ShiftIdeal.nD) → Buf (Elt Ideal) ((c.tc : Thread Cert.ShiftIdeal.nD Cert.ShiftIdeal.τ).loc Cert.ShiftIdeal.main_v29_0)) (v1 : (c : Dev Cert.ShiftIdeal.nD) → Buf (Elt Ideal) ((c.tc : Thread Cert.ShiftIdeal.nD Cert.ShiftIdeal.τ).loc Cert.ShiftIdeal.main_v29_1)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v29_0) = v0 c
          ∧ r.2.mem ((c.tc : Thread Cert.ShiftIdeal.nD Cert.ShiftIdeal.τ).loc Cert.ShiftIdeal.main_v29_1) = v1 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
          ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3)
          ∧ r.2.mem ((c.tc : Thread Cert.ShiftIdeal.nD Cert.ShiftIdeal.τ).loc Cert.ShiftIdeal.main_arg4) = m ((c.tc : Thread Cert.ShiftIdeal.nD Cert.ShiftIdeal.τ).loc Cert.ShiftIdeal.main_arg4)
          ∧ r.2.mem ((c.tc : Thread Cert.ShiftIdeal.nD Cert.ShiftIdeal.τ).loc Cert.ShiftIdeal.main_arg5) = m ((c.tc : Thread Cert.ShiftIdeal.nD Cert.ShiftIdeal.τ).loc Cert.ShiftIdeal.main_arg5)
          ∧ r.2.mem ((c.tc : Thread Cert.ShiftIdeal.nD Cert.ShiftIdeal.τ).loc Cert.ShiftIdeal.main_arg6) = m ((c.tc : Thread Cert.ShiftIdeal.nD Cert.ShiftIdeal.τ).loc Cert.ShiftIdeal.main_arg6)
          ∧ r.2.mem ((c.tc : Thread Cert.ShiftIdeal.nD Cert.ShiftIdeal.τ).loc Cert.ShiftIdeal.main_arg7) = m ((c.tc : Thread Cert.ShiftIdeal.nD Cert.ShiftIdeal.τ).loc Cert.ShiftIdeal.main_arg7)
          ∧ r.2.mem ((c.tc : Thread Cert.ShiftIdeal.nD Cert.ShiftIdeal.τ).loc Cert.ShiftIdeal.main_arg8) = m ((c.tc : Thread Cert.ShiftIdeal.nD Cert.ShiftIdeal.τ).loc Cert.ShiftIdeal.main_arg8)
          ∧ r.2.mem ((c.tc : Thread Cert.ShiftIdeal.nD Cert.ShiftIdeal.τ).loc Cert.ShiftIdeal.main_arg9) = m ((c.tc : Thread Cert.ShiftIdeal.nD Cert.ShiftIdeal.τ).loc Cert.ShiftIdeal.main_arg9)
          ∧ r.2.mem ((c.tc : Thread Cert.ShiftIdeal.nD Cert.ShiftIdeal.τ).loc Cert.ShiftIdeal.main_arg10) = m ((c.tc : Thread Cert.ShiftIdeal.nD Cert.ShiftIdeal.τ).loc Cert.ShiftIdeal.main_arg10))
      ∧ θ_run (Cert.ShiftReferenceIdeal.defs (F := Ideal)) (onTc (τ := Cert.ShiftReferenceIdeal.τ) (Cert.ShiftReferenceIdeal.main (F := Ideal))) ⟨m', fun _ => 0, g'⟩ (fun r => ∀ c : Dev Cert.ShiftReferenceIdeal.nD,
          r.2.mem ((c.tc : Thread Cert.ShiftReferenceIdeal.nD Cert.ShiftReferenceIdeal.τ).loc Cert.ShiftReferenceIdeal.main_v21) = v0 c
          ∧ r.2.mem ((c.tc : Thread Cert.ShiftReferenceIdeal.nD Cert.ShiftReferenceIdeal.τ).loc Cert.ShiftReferenceIdeal.main_v25) = v1 c
          ∧ r.2.mem ((c.tc : Thread Cert.ShiftReferenceIdeal.nD Cert.ShiftReferenceIdeal.τ).loc Cert.ShiftReferenceIdeal.main_arg0) = m' ((c.tc : Thread Cert.ShiftReferenceIdeal.nD Cert.ShiftReferenceIdeal.τ).loc Cert.ShiftReferenceIdeal.main_arg0)
          ∧ r.2.mem ((c.tc : Thread Cert.ShiftReferenceIdeal.nD Cert.ShiftReferenceIdeal.τ).loc Cert.ShiftReferenceIdeal.main_arg1) = m' ((c.tc : Thread Cert.ShiftReferenceIdeal.nD Cert.ShiftReferenceIdeal.τ).loc Cert.ShiftReferenceIdeal.main_arg1)
          ∧ r.2.mem ((c.tc : Thread Cert.ShiftReferenceIdeal.nD Cert.ShiftReferenceIdeal.τ).loc Cert.ShiftReferenceIdeal.main_arg2) = m' ((c.tc : Thread Cert.ShiftReferenceIdeal.nD Cert.ShiftReferenceIdeal.τ).loc Cert.ShiftReferenceIdeal.main_arg2)
          ∧ r.2.mem ((c.tc : Thread Cert.ShiftReferenceIdeal.nD Cert.ShiftReferenceIdeal.τ).loc Cert.ShiftReferenceIdeal.main_arg3) = m' ((c.tc : Thread Cert.ShiftReferenceIdeal.nD Cert.ShiftReferenceIdeal.τ).loc Cert.ShiftReferenceIdeal.main_arg3)
          ∧ r.2.mem ((c.tc : Thread Cert.ShiftReferenceIdeal.nD Cert.ShiftReferenceIdeal.τ).loc Cert.ShiftReferenceIdeal.main_arg4) = m' ((c.tc : Thread Cert.ShiftReferenceIdeal.nD Cert.ShiftReferenceIdeal.τ).loc Cert.ShiftReferenceIdeal.main_arg4)
          ∧ r.2.mem ((c.tc : Thread Cert.ShiftReferenceIdeal.nD Cert.ShiftReferenceIdeal.τ).loc Cert.ShiftReferenceIdeal.main_arg5) = m' ((c.tc : Thread Cert.ShiftReferenceIdeal.nD Cert.ShiftReferenceIdeal.τ).loc Cert.ShiftReferenceIdeal.main_arg5)
          ∧ r.2.mem ((c.tc : Thread Cert.ShiftReferenceIdeal.nD Cert.ShiftReferenceIdeal.τ).loc Cert.ShiftReferenceIdeal.main_arg6) = m' ((c.tc : Thread Cert.ShiftReferenceIdeal.nD Cert.ShiftReferenceIdeal.τ).loc Cert.ShiftReferenceIdeal.main_arg6)
          ∧ r.2.mem ((c.tc : Thread Cert.ShiftReferenceIdeal.nD Cert.ShiftReferenceIdeal.τ).loc Cert.ShiftReferenceIdeal.main_arg7) = m' ((c.tc : Thread Cert.ShiftReferenceIdeal.nD Cert.ShiftReferenceIdeal.τ).loc Cert.ShiftReferenceIdeal.main_arg7)
          ∧ r.2.mem ((c.tc : Thread Cert.ShiftReferenceIdeal.nD Cert.ShiftReferenceIdeal.τ).loc Cert.ShiftReferenceIdeal.main_arg8) = m' ((c.tc : Thread Cert.ShiftReferenceIdeal.nD Cert.ShiftReferenceIdeal.τ).loc Cert.ShiftReferenceIdeal.main_arg8)
          ∧ r.2.mem ((c.tc : Thread Cert.ShiftReferenceIdeal.nD Cert.ShiftReferenceIdeal.τ).loc Cert.ShiftReferenceIdeal.main_arg9) = m' ((c.tc : Thread Cert.ShiftReferenceIdeal.nD Cert.ShiftReferenceIdeal.τ).loc Cert.ShiftReferenceIdeal.main_arg9)
          ∧ r.2.mem ((c.tc : Thread Cert.ShiftReferenceIdeal.nD Cert.ShiftReferenceIdeal.τ).loc Cert.ShiftReferenceIdeal.main_arg10) = m' ((c.tc : Thread Cert.ShiftReferenceIdeal.nD Cert.ShiftReferenceIdeal.τ).loc Cert.ShiftReferenceIdeal.main_arg10))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hExperts : Cert.Experts.Facts) (hExpertsIdeal : Cert.ExpertsIdeal.Facts) (hExpertsReferenceIdeal : Cert.ExpertsReferenceIdeal.Facts) (hShift : Cert.Shift.Facts) (hShiftIdeal : Cert.ShiftIdeal.Facts) (hShiftReferenceIdeal : Cert.ShiftReferenceIdeal.Facts) (hPre_finite_inputs : Cert.Pre_finite_inputs.Facts) (hPre_blocks_in_range : Cert.Pre_blocks_in_range.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Experts (hExperts := hExperts) (hPre_blocks_in_range := hPre_blocks_in_range)
    ∧ quiescent_ExpertsIdeal (hExpertsIdeal := hExpertsIdeal) (hPre_blocks_in_range := hPre_blocks_in_range)
    ∧ quiescent_ExpertsReferenceIdeal (hExpertsReferenceIdeal := hExpertsReferenceIdeal)
    ∧ quiescent_ExpertsReferenceIdeal_pre_blocks_in_range (hExpertsReferenceIdeal := hExpertsReferenceIdeal) (hPre_blocks_in_range := hPre_blocks_in_range)
    ∧ quiescent_Shift (hShift := hShift)
    ∧ quiescent_ShiftIdeal (hShiftIdeal := hShiftIdeal)
    ∧ quiescent_ShiftReferenceIdeal (hShiftReferenceIdeal := hShiftReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Projection_ProjectionIdeal
    ∧ algebraic_ProjectionIdeal_ProjectionReferenceIdeal (hProjectionIdeal := hProjectionIdeal) (hProjectionReferenceIdeal := hProjectionReferenceIdeal)
    ∧ preserves_Experts_ExpertsIdeal
    ∧ algebraic_ExpertsIdeal_ExpertsReferenceIdeal (hExpertsIdeal := hExpertsIdeal) (hExpertsReferenceIdeal := hExpertsReferenceIdeal) (hPre_blocks_in_range := hPre_blocks_in_range)
    ∧ preserves_Shift_ShiftIdeal
    ∧ algebraic_ShiftIdeal_ShiftReferenceIdeal (hShiftIdeal := hShiftIdeal) (hShiftReferenceIdeal := hShiftReferenceIdeal)
-- ==== Pre_blocks_in_range.lean ====
abbrev S288 : Shape := ⟨1, ![288]⟩
abbrev S1 : Shape := ⟨1, ![1]⟩
abbrev S1179648x128 : Shape := ⟨2, ![1179648, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S288 32) (main_arg2 : IVec S1 32) (main_arg3 : FVec F S1179648x128 .f32) (main_arg4 : FVec F S32x1024x2048 .f32) (main_arg5 : FVec F S32x1x2048 .f32) (main_arg6 : FVec F S32x1024x1024 .f32) (main_arg7 : FVec F S32x1x1024 .f32) : IVec S288 1 × IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 288#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 0#32
  let main_v5 : IVec S288 32 := broadcastInDim S288 ![] bcast_S_S288 main_c_1
  let main_v6 : IVec S288 1 := cmpi .sge main_arg1 main_v5
  let main_c_2 : IVec S_ 32 := constantI S_ 32 32#32
  let main_v7 : IVec S288 32 := broadcastInDim S288 ![] bcast_S_S288 main_c_2
  let main_v8 : IVec S288 1 := cmpi .slt main_arg1 main_v7
  let main_v9 : IVec S288 1 := andi main_v6 main_v8
  (main_v4, main_v9)
-- ==== Pre_finite_inputs.lean ====
abbrev S16x2048x1536 : Shape := ⟨3, ![16, 2048, 1536]⟩
abbrev S64 : Shape := ⟨1, ![64]⟩
abbrev S8x15x31 : Shape := ⟨3, ![8, 15, 31]⟩
abbrev S_ : Shape := ⟨0, ![]⟩

class Facts : Prop where
  bitsLt_bf16_f32 : FTy.bits .bf16 < FTy.bits .f32
  bcast_S_S16x2048x1536 : S_.BroadcastsInDim S16x2048x1536 (![] : Fin 0 → Fin S16x2048x1536.rank)
  bcast_S_S64 : S_.BroadcastsInDim S64 (![] : Fin 0 → Fin S64.rank)
  bcast_S_S8x15x31 : S_.BroadcastsInDim S8x15x31 (![] : Fin 0 → Fin S8x15x31.rank)

variable [Facts]

def fn {F : FTy → Type} [FloatOps F] (main_arg0 : FVec F S16x2048x1536 .bf16) (main_arg1 : FVec F S64 .f32) (main_arg2 : FVec F S64 .f32) (main_arg3 : FVec F S8x15x31 .f32) : IVec S16x2048x1536 1 × IVec S64 1 × IVec S64 1 × IVec S8x15x31 1 :=
  let main_v0 : FVec F S16x2048x1536 .f32 := (extf .f32 · bitsLt_bf16_f32) main_arg0
  let main_v1 : FVec F S16x2048x1536 .f32 := Host.absf main_v0
  let main_cst : FVec F S_ .f32 := constant S_ .f32 0x7F800000#32
  let main_v2 : FVec F S16x2048x1536 .f32 := broadcastInDim S16x2048x1536 ![] bcast_S_S16x2048x1536 main_cst
  let main_v3 : IVec S16x2048x1536 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S8x15x31 .f32 := Host.absf main_arg3
  let main_cst_2 : FVec F S_ .f32 := constant S_ .f32 0x7F800000#32
  let main_v11 : FVec F S8x15x31 .f32 := broadcastInDim S8x15x31 ![] bcast_S_S8x15x31 main_cst_2
  let main_v12 : IVec S8x15x31 1 := cmpf .olt main_v10 main_v11
  (main_v3, main_v6, main_v9, main_v12)
-- ==== Kernel.lean ====
abbrev S16x2048x1536 : Shape := ⟨3, ![16, 2048, 1536]⟩
abbrev S64 : Shape := ⟨1, ![64]⟩
abbrev S8x15x31 : Shape := ⟨3, ![8, 15, 31]⟩
abbrev S64x64 : Shape := ⟨2, ![64, 64]⟩
abbrev S_ : Shape := ⟨0, ![]⟩
abbrev S1x4096 : Shape := ⟨2, ![1, 4096]⟩
abbrev S31x4096 : Shape := ⟨2, ![31, 4096]⟩
abbrev S120x31 : Shape := ⟨2, ![120, 31]⟩
abbrev S120x4096 : Shape := ⟨2, ![120, 4096]⟩
abbrev S8x15x64x64 : Shape := ⟨4, ![8, 15, 64, 64]⟩
abbrev S1x1x64x64 : Shape := ⟨4, ![1, 1, 64, 64]⟩
abbrev S8x14x64x64 : Shape := ⟨4, ![8, 14, 64, 64]⟩
abbrev S8x14x64x128 : Shape := ⟨4, ![8, 14, 64, 128]⟩
abbrev S128x128 : Shape := ⟨2, ![128, 128]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S16x2048x512 : Shape := ⟨3, ![16, 2048, 512]⟩
abbrev S1x2048x128 : Shape := ⟨3, ![1, 2048, 128]⟩
abbrev S2x14x64x128 : Shape := ⟨4, ![2, 14, 64, 128]⟩
abbrev S2048x128 : Shape := ⟨2, ![2048, 128]⟩
abbrev S64x128 : Shape := ⟨2, ![64, 128]⟩
abbrev S512x128 : Shape := ⟨2, ![512, 128]⟩
abbrev S1x1x64x128 : Shape := ⟨4, ![1, 1, 64, 128]⟩
abbrev S1x64x128 : Shape := ⟨3, ![1, 64, 128]⟩
abbrev S64x512 : Shape := ⟨2, ![64, 512]⟩
abbrev S64x1 : Shape := ⟨2, ![64, 1]⟩

abbrev nBuf : Space → Nat
  | .hbm => 74
  | .vmem => 16
  | .smem => 0
  | _ => 0

abbrev bufTy : (tb : Table) → Fin (tcTables nBuf tb) → BufTy
  | .hbm, ⟨0, _⟩ => ⟨S16x2048x1536, .bf16⟩
  | .hbm, ⟨1, _⟩ => ⟨S64, .f32⟩
  | .hbm, ⟨2, _⟩ => ⟨S64, .f32⟩
  | .hbm, ⟨3, _⟩ => ⟨S8x15x31, .f32⟩
  | .hbm, ⟨4, _⟩ => ⟨S64x64, .i32⟩
  | .hbm, ⟨5, _⟩ => ⟨S64x64, .i32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S_, .i32⟩
  | .hbm, ⟨19, _⟩ => ⟨S64x64, .i32⟩
  | .hbm, ⟨20, _⟩ => ⟨S64x64, .i32⟩
  | .hbm, ⟨21, _⟩ => ⟨S64x64, .i1⟩
  | .hbm, ⟨22, _⟩ => ⟨S64x64, .i1⟩
  | .hbm, ⟨23, _⟩ => ⟨S64x64, .i32⟩
  | .hbm, ⟨24, _⟩ => ⟨S_, .i32⟩
  | .hbm, ⟨25, _⟩ => ⟨S64x64, .i32⟩
  | .hbm, ⟨26, _⟩ => ⟨S64x64, .i32⟩
  | .hbm, ⟨27, _⟩ => ⟨S_, .i32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S1x4096, .i32⟩
  | .hbm, ⟨39, _⟩ => ⟨S31x4096, .i32⟩
  | .hbm, ⟨40, _⟩ => ⟨S31x4096, .i32⟩
  | .hbm, ⟨41, _⟩ => ⟨S31x4096, .i1⟩
  | .hbm, ⟨42, _⟩ => ⟨S31x4096, .f32⟩
  | .hbm, ⟨43, _⟩ => ⟨S120x31, .f32⟩
  | .hbm, ⟨44, _⟩ => ⟨S120x4096, .f32⟩
  | .hbm, ⟨45, _⟩ => ⟨S8x15x64x64, .f32⟩
  | .hbm, ⟨46, _⟩ => ⟨S1x1x64x64, .i1⟩
  | .hbm, ⟨47, _⟩ => ⟨S_, .f32⟩
  | .hbm, ⟨48, _⟩ => ⟨S_, .f32⟩
  | .hbm, ⟨49, _⟩ => ⟨S8x15x64x64, .i1⟩
  | .hbm, ⟨50, _⟩ => ⟨S8x15x64x64, .f32⟩
  | .hbm, ⟨51, _⟩ => ⟨S8x15x64x64, .f32⟩
  | .hbm, ⟨52, _⟩ => ⟨S8x14x64x64, .f32⟩
  | .hbm, ⟨53, _⟩ => ⟨S8x14x64x64, .f32⟩
  | .hbm, ⟨54, _⟩ => ⟨S8x14x64x128, .f32⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S128x128, .bf16⟩
  | .hbm, ⟨65, _⟩ => ⟨S1x64, .f32⟩
  | .hbm, ⟨66, _⟩ => ⟨S1x1x1x64, .f32⟩
  | .hbm, ⟨67, _⟩ => ⟨S1x1x2x64, .f32⟩
  | .hbm, ⟨68, _⟩ => ⟨S1x128, .f32⟩
  | .hbm, ⟨69, _⟩ => ⟨S1x64, .f32⟩
  | .hbm, ⟨70, _⟩ => ⟨S1x1x1x64, .f32⟩
  | .hbm, ⟨71, _⟩ => ⟨S1x1x2x64, .f32⟩
  | .hbm, ⟨72, _⟩ => ⟨S1x128, .f32⟩
  | .hbm, ⟨73, _⟩ => ⟨S16x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128, .f32⟩
  | .local _ .vmem, ⟨7, _⟩ => ⟨S1x128, .f32⟩
  | .local _ .vmem, ⟨8, _⟩ => ⟨S2x14x64x128, .f32⟩
  | .local _ .vmem, ⟨9, _⟩ => ⟨S2x14x64x128, .f32⟩
  | .local _ .vmem, ⟨10, _⟩ => ⟨S128x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_c_5 : Ref sig .tc := ⟨.hbm, 30, rfl⟩
abbrev main_c_6 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def k0_mult1 : BitVec 32 :=
  let c0_i32 : BitVec 32 := 0#32
  let c32_i32 : BitVec 32 := 32#32
  let v62 : BitVec 32 := Scalar.muli c0_i32 c32_i32
  let c0_i32_28 : BitVec 32 := 0#32
  let v63 : BitVec 32 := Scalar.addi v62 c0_i32_28
  let c64_i32_156 : BitVec 32 := 64#32
  let v222 : BitVec 32 := Scalar.muli v63 c64_i32_156
  v222
def k0_off1 (c0_i32_28 : BitVec 32) : Fin 2 → Nat :=
  let c0_i32 : BitVec 32 := 0#32
  let c32_i32 : BitVec 32 := 32#32
  let v62 : BitVec 32 := Scalar.muli c0_i32 c32_i32
  let v63 : BitVec 32 := Scalar.addi v62 c0_i32_28
  let c64_i32_156 : BitVec 32 := 64#32
  let v222 : BitVec 32 := Scalar.muli v63 c64_i32_156
  let v223 : BitVec 32 := v222
  let v224 : Index := Scalar.indexCast v223
  let c0_157 : Index := 0#32
  ![v224.toNat, 0]
def k0_mult2 : BitVec 32 :=
  let c0_i32 : BitVec 32 := 0#32
  let c32_i32_29 : BitVec 32 := 32#32
  let v64 : BitVec 32 := Scalar.muli c0_i32 c32_i32_29
  let c1_i32 : BitVec 32 := 1#32
  let v65 : BitVec 32 := Scalar.addi v64 c1_i32
  let c64_i32_158 : BitVec 32 := 64#32
  let v226 : BitVec 32 := Scalar.muli v65 c64_i32_158
  v226
def k0_mult3 : BitVec 32 :=
  let c0_i32 : BitVec 32 := 0#32
  let c32_i32_30 : BitVec 32 := 32#32
  let v66 : BitVec 32 := Scalar.muli c0_i32 c32_i32_30
  let c2_i32 : BitVec 32 := 2#32
  let v67 : BitVec 32 := Scalar.addi v66 c2_i32
  let c64_i32_160 : BitVec 32 := 64#32
  let v230 : BitVec 32 := Scalar.muli v67 c64_i32_160
  v230
def k0_mult4 : BitVec 32 :=
  let c0_i32 : BitVec 32 := 0#32
  let c32_i32_31 : BitVec 32 := 32#32
  let v68 : BitVec 32 := Scalar.muli c0_i32 c32_i32_31
  let c3_i32 : BitVec 32 := 3#32
  let v69 : BitVec 32 := Scalar.addi v68 c3_i32
  let c64_i32_162 : BitVec 32 := 64#32
  let v234 : BitVec 32 := Scalar.muli v69 c64_i32_162
  v234
def k0_mult5 : BitVec 32 :=
  let c0_i32 : BitVec 32 := 0#32
  let c32_i32_32 : BitVec 32 := 32#32
  let v70 : BitVec 32 := Scalar.muli c0_i32 c32_i32_32
  let c4_i32 : BitVec 32 := 4#32
  let v71 : BitVec 32 := Scalar.addi v70 c4_i32
  let c64_i32_164 : BitVec 32 := 64#32
  let v238 : BitVec 32 := Scalar.muli v71 c64_i32_164
  v238
def k0_mult6 : BitVec 32 :=
  let c0_i32 : BitVec 32 := 0#32
  let c32_i32_33 : BitVec 32 := 32#32
  let v72 : BitVec 32 := Scalar.muli c0_i32 c32_i32_33
  let c5_i32 : BitVec 32 := 5#32
  let v73 : BitVec 32 := Scalar.addi v72 c5_i32
  let c64_i32_166 : BitVec 32 := 64#32
  let v242 : BitVec 32 := Scalar.muli v73 c64_i32_166
  v242
def k0_mult7 : BitVec 32 :=
  let c0_i32 : BitVec 32 := 0#32
  let c32_i32_34 : BitVec 32 := 32#32
  let v74 : BitVec 32 := Scalar.muli c0_i32 c32_i32_34
  let c6_i32 : BitVec 32 := 6#32
  let v75 : BitVec 32 := Scalar.addi v74 c6_i32
  let c64_i32_168 : BitVec 32 := 64#32
  let v246 : BitVec 32 := Scalar.muli v75 c64_i32_168
  v246
def k0_mult8 : BitVec 32 :=
  let c0_i32 : BitVec 32 := 0#32
  let c32_i32_35 : BitVec 32 := 32#32
  let v76 : BitVec 32 := Scalar.muli c0_i32 c32_i32_35
  let c7_i32 : BitVec 32 := 7#32
  let v77 : BitVec 32 := Scalar.addi v76 c7_i32
  let c64_i32_170 : BitVec 32 := 64#32
  let v250 : BitVec 32 := Scalar.muli v77 c64_i32_170
  v250
def k0_mult9 : BitVec 32 :=
  let c0_i32 : BitVec 32 := 0#32
  let c32_i32_36 : BitVec 32 := 32#32
  let v78 : BitVec 32 := Scalar.muli c0_i32 c32_i32_36
  let c8_i32 : BitVec 32 := 8#32
  let v79 : BitVec 32 := Scalar.addi v78 c8_i32
  let c64_i32_172 : BitVec 32 := 64#32
  let v254 : BitVec 32 := Scalar.muli v79 c64_i32_172
  v254
def k0_mult10 : BitVec 32 :=
  let c0_i32 : BitVec 32 := 0#32
  let c32_i32_37 : BitVec 32 := 32#32
  let v80 : BitVec 32 := Scalar.muli c0_i32 c32_i32_37
  let c9_i32 : BitVec 32 := 9#32
  let v81 : BitVec 32 := Scalar.addi v80 c9_i32
  let c64_i32_174 : BitVec 32 := 64#32
  let v258 : BitVec 32 := Scalar.muli v81 c64_i32_174
  v258
def k0_mult11 : BitVec 32 :=
  let c0_i32 : BitVec 32 := 0#32
  let c32_i32_38 : BitVec 32 := 32#32
  let v82 : BitVec 32 := Scalar.muli c0_i32 c32_i32_38
  let c10_i32 : BitVec 32 := 10#32
  let v83 : BitVec 32 := Scalar.addi v82 c10_i32
  let c64_i32_176 : BitVec 32 := 64#32
  let v262 : BitVec 32 := Scalar.muli v83 c64_i32_176
  v262
def k0_mult12 : BitVec 32 :=
  let c0_i32 : BitVec 32 := 0#32
  let c32_i32_39 : BitVec 32 := 32#32
  let v84 : BitVec 32 := Scalar.muli c0_i32 c32_i32_39
  let c11_i32 : BitVec 32 := 11#32
  let v85 : BitVec 32 := Scalar.addi v84 c11_i32
  let c64_i32_178 : BitVec 32 := 64#32
  let v266 : BitVec 32 := Scalar.muli v85 c64_i32_178
  v266
def k0_mult13 : BitVec 32 :=
  let c0_i32 : BitVec 32 := 0#32
  let c32_i32_40 : BitVec 32 := 32#32
  let v86 : BitVec 32 := Scalar.muli c0_i32 c32_i32_40
  let c12_i32 : BitVec 32 := 12#32
  let v87 : BitVec 32 := Scalar.addi v86 c12_i32
  let c64_i32_180 : BitVec 32 := 64#32
  let v270 : BitVec 32 := Scalar.muli v87 c64_i32_180
  v270
def k0_mult14 : BitVec 32 :=
  let c0_i32 : BitVec 32 := 0#32
  let c32_i32_41 : BitVec 32 := 32#32
  let v88 : BitVec 32 := Scalar.muli c0_i32 c32_i32_41
  let c13_i32 : BitVec 32 := 13#32
  let v89 : BitVec 32 := Scalar.addi v88 c13_i32
  let c64_i32_182 : BitVec 32 := 64#32
  let v274 : BitVec 32 := Scalar.muli v89 c64_i32_182
  v274
def k0_mult15 : BitVec 32 :=
  let c0_i32 : BitVec 32 := 0#32
  let c32_i32_42 : BitVec 32 := 32#32
  let v90 : BitVec 32 := Scalar.muli c0_i32 c32_i32_42
  let c14_i32 : BitVec 32 := 14#32
  let v91 : BitVec 32 := Scalar.addi v90 c14_i32
  let c64_i32_184 : BitVec 32 := 64#32
  let v278 : BitVec 32 := Scalar.muli v91 c64_i32_184
  v278
def k0_mult16 : BitVec 32 :=
  let c0_i32 : BitVec 32 := 0#32
  let c32_i32_43 : BitVec 32 := 32#32
  let v92 : BitVec 32 := Scalar.muli c0_i32 c32_i32_43
  let c15_i32 : BitVec 32 := 15#32
  let v93 : BitVec 32 := Scalar.addi v92 c15_i32
  let c64_i32_186 : BitVec 32 := 64#32
  let v282 : BitVec 32 := Scalar.muli v93 c64_i32_186
  v282
def k0_mult17 : BitVec 32 :=
  let c0_i32 : BitVec 32 := 0#32
  let c32_i32_44 : BitVec 32 := 32#32
  let v94 : BitVec 32 := Scalar.muli c0_i32 c32_i32_44
  let c16_i32 : BitVec 32 := 16#32
  let v95 : BitVec 32 := Scalar.addi v94 c16_i32
  let c64_i32_188 : BitVec 32 := 64#32
  let v286 : BitVec 32 := Scalar.muli v95 c64_i32_188
  v286
def k0_mult18 : BitVec 32 :=
  let c0_i32 : BitVec 32 := 0#32
  let c32_i32_45 : BitVec 32 := 32#32
  let v96 : BitVec 32 := Scalar.muli c0_i32 c32_i32_45
  let c17_i32 : BitVec 32 := 17#32
  let v97 : BitVec 32 := Scalar.addi v96 c17_i32
  let c64_i32_190 : BitVec 32 := 64#32
  let v290 : BitVec 32 := Scalar.muli v97 c64_i32_190
  v290
def k0_mult19 : BitVec 32 :=
  let c0_i32 : BitVec 32 := 0#32
  let c32_i32_46 : BitVec 32 := 32#32
  let v98 : BitVec 32 := Scalar.muli c0_i32 c32_i32_46
  let c18_i32 : BitVec 32 := 18#32
  let v99 : BitVec 32 := Scalar.addi v98 c18_i32
  let c64_i32_192 : BitVec 32 := 64#32
  let v294 : BitVec 32 := Scalar.muli v99 c64_i32_192
  v294
def k0_mult20 : BitVec 32 :=
  let c0_i32 : BitVec 32 := 0#32
  let c32_i32_47 : BitVec 32 := 32#32
  let v100 : BitVec 32 := Scalar.muli c0_i32 c32_i32_47
  let c19_i32 : BitVec 32 := 19#32
  let v101 : BitVec 32 := Scalar.addi v100 c19_i32
  let c64_i32_194 : BitVec 32 := 64#32
  let v298 : BitVec 32 := Scalar.muli v101 c64_i32_194
  v298
def k0_mult21 : BitVec 32 :=
  let c0_i32 : BitVec 32 := 0#32
  let c32_i32_48 : BitVec 32 := 32#32
  let v102 : BitVec 32 := Scalar.muli c0_i32 c32_i32_48
  let c20_i32 : BitVec 32 := 20#32
  let v103 : BitVec 32 := Scalar.addi v102 c20_i32
  let c64_i32_196 : BitVec 32 := 64#32
  let v302 : BitVec 32 := Scalar.muli v103 c64_i32_196
  v302
def k0_mult22 : BitVec 32 :=
  let c0_i32 : BitVec 32 := 0#32
  let c32_i32_49 : BitVec 32 := 32#32
  let v104 : BitVec 32 := Scalar.muli c0_i32 c32_i32_49
  let c21_i32 : BitVec 32 := 21#32
  let v105 : BitVec 32 := Scalar.addi v104 c21_i32
  let c64_i32_198 : BitVec 32 := 64#32
  let v306 : BitVec 32 := Scalar.muli v105 c64_i32_198
  v306
def k0_mult23 : BitVec 32 :=
  let c0_i32 : BitVec 32 := 0#32
  let c32_i32_50 : BitVec 32 := 32#32
  let v106 : BitVec 32 := Scalar.muli c0_i32 c32_i32_50
  let c22_i32 : BitVec 32 := 22#32
  let v107 : BitVec 32 := Scalar.addi v106 c22_i32
  let c64_i32_200 : BitVec 32 := 64#32
  let v310 : BitVec 32 := Scalar.muli v107 c64_i32_200
  v310
def k0_mult24 : BitVec 32 :=
  let c0_i32 : BitVec 32 := 0#32
  let c32_i32_51 : BitVec 32 := 32#32
  let v108 : BitVec 32 := Scalar.muli c0_i32 c32_i32_51
  let c23_i32 : BitVec 32 := 23#32
  let v109 : BitVec 32 := Scalar.addi v108 c23_i32
  let c64_i32_202 : BitVec 32 := 64#32
  let v314 : BitVec 32 := Scalar.muli v109 c64_i32_202
  v314
def k0_mult25 : BitVec 32 :=
  let c0_i32 : BitVec 32 := 0#32
  let c32_i32_52 : BitVec 32 := 32#32
  let v110 : BitVec 32 := Scalar.muli c0_i32 c32_i32_52
  let c24_i32 : BitVec 32 := 24#32
  let v111 : BitVec 32 := Scalar.addi v110 c24_i32
  let c64_i32_204 : BitVec 32 := 64#32
  let v318 : BitVec 32 := Scalar.muli v111 c64_i32_204
  v318
def k0_mult26 : BitVec 32 :=
  let c0_i32 : BitVec 32 := 0#32
  let c32_i32_53 : BitVec 32 := 32#32
  let v112 : BitVec 32 := Scalar.muli c0_i32 c32_i32_53
  let c25_i32 : BitVec 32 := 25#32
  let v113 : BitVec 32 := Scalar.addi v112 c25_i32
  let c64_i32_206 : BitVec 32 := 64#32
  let v322 : BitVec 32 := Scalar.muli v113 c64_i32_206
  v322
def k0_mult27 : BitVec 32 :=
  let c0_i32 : BitVec 32 := 0#32
  let c32_i32_54 : BitVec 32 := 32#32
  let v114 : BitVec 32 := Scalar.muli c0_i32 c32_i32_54
  let c26_i32 : BitVec 32 := 26#32
  let v115 : BitVec 32 := Scalar.addi v114 c26_i32
  let c64_i32_208 : BitVec 32 := 64#32
  let v326 : BitVec 32 := Scalar.muli v115 c64_i32_208
  v326
def k0_mult28 : BitVec 32 :=
  let c0_i32 : BitVec 32 := 0#32
  let c32_i32_55 : BitVec 32 := 32#32
  let v116 : BitVec 32 := Scalar.muli c0_i32 c32_i32_55
  let c27_i32 : BitVec 32 := 27#32
  let v117 : BitVec 32 := Scalar.addi v116 c27_i32
  let c64_i32_210 : BitVec 32 := 64#32
  let v330 : BitVec 32 := Scalar.muli v117 c64_i32_210
  v330
def k0_mult29 : BitVec 32 :=
  let c0_i32 : BitVec 32 := 0#32
  let c32_i32_56 : BitVec 32 := 32#32
  let v118 : BitVec 32 := Scalar.muli c0_i32 c32_i32_56
  let c28_i32 : BitVec 32 := 28#32
  let v119 : BitVec 32 := Scalar.addi v118 c28_i32
  let c64_i32_212 : BitVec 32 := 64#32
  let v334 : BitVec 32 := Scalar.muli v119 c64_i32_212
  v334
def k0_mult30 : BitVec 32 :=
  let c0_i32 : BitVec 32 := 0#32
  let c32_i32_57 : BitVec 32 := 32#32
  let v120 : BitVec 32 := Scalar.muli c0_i32 c32_i32_57
  let c29_i32 : BitVec 32 := 29#32
  let v121 : BitVec 32 := Scalar.addi v120 c29_i32
  let c64_i32_214 : BitVec 32 := 64#32
  let v338 : BitVec 32 := Scalar.muli v121 c64_i32_214
  v338
def k0_mult31 : BitVec 32 :=
  let c0_i32 : BitVec 32 := 0#32
  let c32_i32_58 : BitVec 32 := 32#32
  let v122 : BitVec 32 := Scalar.muli c0_i32 c32_i32_58
  let c30_i32 : BitVec 32 := 30#32
  let v123 : BitVec 32 := Scalar.addi v122 c30_i32
  let c64_i32_216 : BitVec 32 := 64#32
  let v342 : BitVec 32 := Scalar.muli v123 c64_i32_216
  v342
def k0_mult32 : BitVec 32 :=
  let c0_i32 : BitVec 32 := 0#32
  let c32_i32_59 : BitVec 32 := 32#32
  let v124 : BitVec 32 := Scalar.muli c0_i32 c32_i32_59
  let c31_i32 : BitVec 32 := 31#32
  let v125 : BitVec 32 := Scalar.addi v124 c31_i32
  let c64_i32_218 : BitVec 32 := 64#32
  let v346 : BitVec 32 := Scalar.muli v125 c64_i32_218
  v346
def k0_mult33 : BitVec 32 :=
  let c24_i32_62 : BitVec 32 := 24#32
  let c0_i32_61 : BitVec 32 := 0#32
  let c0_i32 : BitVec 32 := 0#32
  let c32_i32 : BitVec 32 := 32#32
  let v62 : BitVec 32 := Scalar.muli c0_i32 c32_i32
  let c0_i32_28 : BitVec 32 := 0#32
  let v63 : BitVec 32 := Scalar.addi v62 c0_i32_28
  let c4_i32_60 : BitVec 32 := 4#32
  let v126 : BitVec 32 := Scalar.subi v63 c4_i32_60
  let v127 : BitVec 32 := Scalar.maxsi c0_i32_61 v126
  let v128 : BitVec 32 := Scalar.minsi c24_i32_62 v127
  let c64_i32_220 : BitVec 32 := 64#32
  let v350 : BitVec 32 := Scalar.muli v128 c64_i32_220
  v350
def k0_off2 (c0_i32_28 : BitVec 32) : Fin 2 → Nat :=
  let c24_i32_62 : BitVec 32 := 24#32
  let c0_i32_61 : BitVec 32 := 0#32
  let c0_i32 : BitVec 32 := 0#32
  let c32_i32 : BitVec 32 := 32#32
  let v62 : BitVec 32 := Scalar.muli c0_i32 c32_i32
  let v63 : BitVec 32 := Scalar.addi v62 c0_i32_28
  let c4_i32_60 : BitVec 32 := 4#32
  let v126 : BitVec 32 := Scalar.subi v63 c4_i32_60
  let v127 : BitVec 32 := Scalar.maxsi c0_i32_61 v126
  let v128 : BitVec 32 := Scalar.minsi c24_i32_62 v127
  let c64_i32_220 : BitVec 32 := 64#32
  let v350 : BitVec 32 := Scalar.muli v128 c64_i32_220
  let v351 : BitVec 32 := v350
  let v352 : Index := Scalar.indexCast v351
  let c0_221 : Index := 0#32
  ![v352.toNat, 0]
def k0_mult34 : BitVec 32 :=
  let c24_i32_65 : BitVec 32 := 24#32
  let c0_i32_64 : BitVec 32 := 0#32
  let c0_i32 : BitVec 32 := 0#32
  let c32_i32_29 : BitVec 32 := 32#32
  let v64 : BitVec 32 := Scalar.muli c0_i32 c32_i32_29
  let c1_i32 : BitVec 32 := 1#32
  let v65 : BitVec 32 := Scalar.addi v64 c1_i32
  let c4_i32_63 : BitVec 32 := 4#32
  let v129 : BitVec 32 := Scalar.subi v65 c4_i32_63
  let v130 : BitVec 32 := Scalar.maxsi c0_i32_64 v129
  let v131 : BitVec 32 := Scalar.minsi c24_i32_65 v130
  let c64_i32_222 : BitVec 32 := 64#32
  let v354 : BitVec 32 := Scalar.muli v131 c64_i32_222
  v354
def k0_mult35 : BitVec 32 :=
  let c24_i32_68 : BitVec 32 := 24#32
  let c0_i32_67 : BitVec 32 := 0#32
  let c0_i32 : BitVec 32 := 0#32
  let c32_i32_30 : BitVec 32 := 32#32
  let v66 : BitVec 32 := Scalar.muli c0_i32 c32_i32_30
  let c2_i32 : BitVec 32 := 2#32
  let v67 : BitVec 32 := Scalar.addi v66 c2_i32
  let c4_i32_66 : BitVec 32 := 4#32
  let v132 : BitVec 32 := Scalar.subi v67 c4_i32_66
  let v133 : BitVec 32 := Scalar.maxsi c0_i32_67 v132
  let v134 : BitVec 32 := Scalar.minsi c24_i32_68 v133
  let c64_i32_224 : BitVec 32 := 64#32
  let v358 : BitVec 32 := Scalar.muli v134 c64_i32_224
  v358
def k0_mult36 : BitVec 32 :=
  let c24_i32_71 : BitVec 32 := 24#32
  let c0_i32_70 : BitVec 32 := 0#32
  let c0_i32 : BitVec 32 := 0#32
  let c32_i32_31 : BitVec 32 := 32#32
  let v68 : BitVec 32 := Scalar.muli c0_i32 c32_i32_31
  let c3_i32 : BitVec 32 := 3#32
  let v69 : BitVec 32 := Scalar.addi v68 c3_i32
  let c4_i32_69 : BitVec 32 := 4#32
  let v135 : BitVec 32 := Scalar.subi v69 c4_i32_69
  let v136 : BitVec 32 := Scalar.maxsi c0_i32_70 v135
  let v137 : BitVec 32 := Scalar.minsi c24_i32_71 v136
  let c64_i32_226 : BitVec 32 := 64#32
  let v362 : BitVec 32 := Scalar.muli v137 c64_i32_226
  v362
def k0_mult37 : BitVec 32 :=
  let c24_i32_74 : BitVec 32 := 24#32
  let c0_i32_73 : BitVec 32 := 0#32
  let c0_i32 : BitVec 32 := 0#32
  let c32_i32_32 : BitVec 32 := 32#32
  let v70 : BitVec 32 := Scalar.muli c0_i32 c32_i32_32
  let c4_i32 : BitVec 32 := 4#32
  let v71 : BitVec 32 := Scalar.addi v70 c4_i32
  let c4_i32_72 : BitVec 32 := 4#32
  let v138 : BitVec 32 := Scalar.subi v71 c4_i32_72
  let v139 : BitVec 32 := Scalar.maxsi c0_i32_73 v138
  let v140 : BitVec 32 := Scalar.minsi c24_i32_74 v139
  let c64_i32_228 : BitVec 32 := 64#32
  let v366 : BitVec 32 := Scalar.muli v140 c64_i32_228
  v366
def k0_mult38 : BitVec 32 :=
  let c24_i32_77 : BitVec 32 := 24#32
  let c0_i32_76 : BitVec 32 := 0#32
  let c0_i32 : BitVec 32 := 0#32
  let c32_i32_33 : BitVec 32 := 32#32
  let v72 : BitVec 32 := Scalar.muli c0_i32 c32_i32_33
  let c5_i32 : BitVec 32 := 5#32
  let v73 : BitVec 32 := Scalar.addi v72 c5_i32
  let c4_i32_75 : BitVec 32 := 4#32
  let v141 : BitVec 32 := Scalar.subi v73 c4_i32_75
  let v142 : BitVec 32 := Scalar.maxsi c0_i32_76 v141
  let v143 : BitVec 32 := Scalar.minsi c24_i32_77 v142
  let c64_i32_230 : BitVec 32 := 64#32
  let v370 : BitVec 32 := Scalar.muli v143 c64_i32_230
  v370
def k0_mult39 : BitVec 32 :=
  let c24_i32_80 : BitVec 32 := 24#32
  let c0_i32_79 : BitVec 32 := 0#32
  let c0_i32 : BitVec 32 := 0#32
  let c32_i32_34 : BitVec 32 := 32#32
  let v74 : BitVec 32 := Scalar.muli c0_i32 c32_i32_34
  let c6_i32 : BitVec 32 := 6#32
  let v75 : BitVec 32 := Scalar.addi v74 c6_i32
  let c4_i32_78 : BitVec 32 := 4#32
  let v144 : BitVec 32 := Scalar.subi v75 c4_i32_78
  let v145 : BitVec 32 := Scalar.maxsi c0_i32_79 v144
  let v146 : BitVec 32 := Scalar.minsi c24_i32_80 v145
  let c64_i32_232 : BitVec 32 := 64#32
  let v374 : BitVec 32 := Scalar.muli v146 c64_i32_232
  v374
def k0_mult40 : BitVec 32 :=
  let c24_i32_83 : BitVec 32 := 24#32
  let c0_i32_82 : BitVec 32 := 0#32
  let c0_i32 : BitVec 32 := 0#32
  let c32_i32_35 : BitVec 32 := 32#32
  let v76 : BitVec 32 := Scalar.muli c0_i32 c32_i32_35
  let c7_i32 : BitVec 32 := 7#32
  let v77 : BitVec 32 := Scalar.addi v76 c7_i32
  let c4_i32_81 : BitVec 32 := 4#32
  let v147 : BitVec 32 := Scalar.subi v77 c4_i32_81
  let v148 : BitVec 32 := Scalar.maxsi c0_i32_82 v147
  let v149 : BitVec 32 := Scalar.minsi c24_i32_83 v148
  let c64_i32_234 : BitVec 32 := 64#32
  let v378 : BitVec 32 := Scalar.muli v149 c64_i32_234
  v378
def k0_mult41 : BitVec 32 :=
  let c24_i32_86 : BitVec 32 := 24#32
  let c0_i32_85 : BitVec 32 := 0#32
  let c0_i32 : BitVec 32 := 0#32
  let c32_i32_36 : BitVec 32 := 32#32
  let v78 : BitVec 32 := Scalar.muli c0_i32 c32_i32_36
  let c8_i32 : BitVec 32 := 8#32
  let v79 : BitVec 32 := Scalar.addi v78 c8_i32
  let c4_i32_84 : BitVec 32 := 4#32
  let v150 : BitVec 32 := Scalar.subi v79 c4_i32_84
  let v151 : BitVec 32 := Scalar.maxsi c0_i32_85 v150
  let v152 : BitVec 32 := Scalar.minsi c24_i32_86 v151
  let c64_i32_236 : BitVec 32 := 64#32
  let v382 : BitVec 32 := Scalar.muli v152 c64_i32_236
  v382
def k0_mult42 : BitVec 32 :=
  let c24_i32_89 : BitVec 32 := 24#32
  let c0_i32_88 : BitVec 32 := 0#32
  let c0_i32 : BitVec 32 := 0#32
  let c32_i32_37 : BitVec 32 := 32#32
  let v80 : BitVec 32 := Scalar.muli c0_i32 c32_i32_37
  let c9_i32 : BitVec 32 := 9#32
  let v81 : BitVec 32 := Scalar.addi v80 c9_i32
  let c4_i32_87 : BitVec 32 := 4#32
  let v153 : BitVec 32 := Scalar.subi v81 c4_i32_87
  let v154 : BitVec 32 := Scalar.maxsi c0_i32_88 v153
  let v155 : BitVec 32 := Scalar.minsi c24_i32_89 v154
  let c64_i32_238 : BitVec 32 := 64#32
  let v386 : BitVec 32 := Scalar.muli v155 c64_i32_238
  v386
def k0_mult43 : BitVec 32 :=
  let c24_i32_92 : BitVec 32 := 24#32
  let c0_i32_91 : BitVec 32 := 0#32
  let c0_i32 : BitVec 32 := 0#32
  let c32_i32_38 : BitVec 32 := 32#32
  let v82 : BitVec 32 := Scalar.muli c0_i32 c32_i32_38
  let c10_i32 : BitVec 32 := 10#32
  let v83 : BitVec 32 := Scalar.addi v82 c10_i32
  let c4_i32_90 : BitVec 32 := 4#32
  let v156 : BitVec 32 := Scalar.subi v83 c4_i32_90
  let v157 : BitVec 32 := Scalar.maxsi c0_i32_91 v156
  let v158 : BitVec 32 := Scalar.minsi c24_i32_92 v157
  let c64_i32_240 : BitVec 32 := 64#32
  let v390 : BitVec 32 := Scalar.muli v158 c64_i32_240
  v390
def k0_mult44 : BitVec 32 :=
  let c24_i32_95 : BitVec 32 := 24#32
  let c0_i32_94 : BitVec 32 := 0#32
  let c0_i32 : BitVec 32 := 0#32
  let c32_i32_39 : BitVec 32 := 32#32
  let v84 : BitVec 32 := Scalar.muli c0_i32 c32_i32_39
  let c11_i32 : BitVec 32 := 11#32
  let v85 : BitVec 32 := Scalar.addi v84 c11_i32
  let c4_i32_93 : BitVec 32 := 4#32
  let v159 : BitVec 32 := Scalar.subi v85 c4_i32_93
  let v160 : BitVec 32 := Scalar.maxsi c0_i32_94 v159
  let v161 : BitVec 32 := Scalar.minsi c24_i32_95 v160
  let c64_i32_242 : BitVec 32 := 64#32
  let v394 : BitVec 32 := Scalar.muli v161 c64_i32_242
  v394
def k0_mult45 : BitVec 32 :=
  let c24_i32_98 : BitVec 32 := 24#32
  let c0_i32_97 : BitVec 32 := 0#32
  let c0_i32 : BitVec 32 := 0#32
  let c32_i32_40 : BitVec 32 := 32#32
  let v86 : BitVec 32 := Scalar.muli c0_i32 c32_i32_40
  let c12_i32 : BitVec 32 := 12#32
  let v87 : BitVec 32 := Scalar.addi v86 c12_i32
  let c4_i32_96 : BitVec 32 := 4#32
  let v162 : BitVec 32 := Scalar.subi v87 c4_i32_96
  let v163 : BitVec 32 := Scalar.maxsi c0_i32_97 v162
  let v164 : BitVec 32 := Scalar.minsi c24_i32_98 v163
  let c64_i32_244 : BitVec 32 := 64#32
  let v398 : BitVec 32 := Scalar.muli v164 c64_i32_244
  v398
def k0_mult46 : BitVec 32 :=
  let c24_i32_101 : BitVec 32 := 24#32
  let c0_i32_100 : BitVec 32 := 0#32
  let c0_i32 : BitVec 32 := 0#32
  let c32_i32_41 : BitVec 32 := 32#32
  let v88 : BitVec 32 := Scalar.muli c0_i32 c32_i32_41
  let c13_i32 : BitVec 32 := 13#32
  let v89 : BitVec 32 := Scalar.addi v88 c13_i32
  let c4_i32_99 : BitVec 32 := 4#32
  let v165 : BitVec 32 := Scalar.subi v89 c4_i32_99
  let v166 : BitVec 32 := Scalar.maxsi c0_i32_100 v165
  let v167 : BitVec 32 := Scalar.minsi c24_i32_101 v166
  let c64_i32_246 : BitVec 32 := 64#32
  let v402 : BitVec 32 := Scalar.muli v167 c64_i32_246
  v402
def k0_mult47 : BitVec 32 :=
  let c24_i32_104 : BitVec 32 := 24#32
  let c0_i32_103 : BitVec 32 := 0#32
  let c0_i32 : BitVec 32 := 0#32
  let c32_i32_42 : BitVec 32 := 32#32
  let v90 : BitVec 32 := Scalar.muli c0_i32 c32_i32_42
  let c14_i32 : BitVec 32 := 14#32
  let v91 : BitVec 32 := Scalar.addi v90 c14_i32
  let c4_i32_102 : BitVec 32 := 4#32
  let v168 : BitVec 32 := Scalar.subi v91 c4_i32_102
  let v169 : BitVec 32 := Scalar.maxsi c0_i32_103 v168
  let v170 : BitVec 32 := Scalar.minsi c24_i32_104 v169
  let c64_i32_248 : BitVec 32 := 64#32
  let v406 : BitVec 32 := Scalar.muli v170 c64_i32_248
  v406
def k0_mult48 : BitVec 32 :=
  let c24_i32_107 : BitVec 32 := 24#32
  let c0_i32_106 : BitVec 32 := 0#32
  let c0_i32 : BitVec 32 := 0#32
  let c32_i32_43 : BitVec 32 := 32#32
  let v92 : BitVec 32 := Scalar.muli c0_i32 c32_i32_43
  let c15_i32 : BitVec 32 := 15#32
  let v93 : BitVec 32 := Scalar.addi v92 c15_i32
  let c4_i32_105 : BitVec 32 := 4#32
  let v171 : BitVec 32 := Scalar.subi v93 c4_i32_105
  let v172 : BitVec 32 := Scalar.maxsi c0_i32_106 v171
  let v173 : BitVec 32 := Scalar.minsi c24_i32_107 v172
  let c64_i32_250 : BitVec 32 := 64#32
  let v410 : BitVec 32 := Scalar.muli v173 c64_i32_250
  v410
def k0_mult49 : BitVec 32 :=
  let c24_i32_110 : BitVec 32 := 24#32
  let c0_i32_109 : BitVec 32 := 0#32
  let c0_i32 : BitVec 32 := 0#32
  let c32_i32_44 : BitVec 32 := 32#32
  let v94 : BitVec 32 := Scalar.muli c0_i32 c32_i32_44
  let c16_i32 : BitVec 32 := 16#32
  let v95 : BitVec 32 := Scalar.addi v94 c16_i32
  let c4_i32_108 : BitVec 32 := 4#32
  let v174 : BitVec 32 := Scalar.subi v95 c4_i32_108
  let v175 : BitVec 32 := Scalar.maxsi c0_i32_109 v174
  let v176 : BitVec 32 := Scalar.minsi c24_i32_110 v175
  let c64_i32_252 : BitVec 32 := 64#32
  let v414 : BitVec 32 := Scalar.muli v176 c64_i32_252
  v414
def k0_mult50 : BitVec 32 :=
  let c24_i32_113 : BitVec 32 := 24#32
  let c0_i32_112 : BitVec 32 := 0#32
  let c0_i32 : BitVec 32 := 0#32
  let c32_i32_45 : BitVec 32 := 32#32
  let v96 : BitVec 32 := Scalar.muli c0_i32 c32_i32_45
  let c17_i32 : BitVec 32 := 17#32
  let v97 : BitVec 32 := Scalar.addi v96 c17_i32
  let c4_i32_111 : BitVec 32 := 4#32
  let v177 : BitVec 32 := Scalar.subi v97 c4_i32_111
  let v178 : BitVec 32 := Scalar.maxsi c0_i32_112 v177
  let v179 : BitVec 32 := Scalar.minsi c24_i32_113 v178
  let c64_i32_254 : BitVec 32 := 64#32
  let v418 : BitVec 32 := Scalar.muli v179 c64_i32_254
  v418
def k0_mult51 : BitVec 32 :=
  let c24_i32_116 : BitVec 32 := 24#32
  let c0_i32_115 : BitVec 32 := 0#32
  let c0_i32 : BitVec 32 := 0#32
  let c32_i32_46 : BitVec 32 := 32#32
  let v98 : BitVec 32 := Scalar.muli c0_i32 c32_i32_46
  let c18_i32 : BitVec 32 := 18#32
  let v99 : BitVec 32 := Scalar.addi v98 c18_i32
  let c4_i32_114 : BitVec 32 := 4#32
  let v180 : BitVec 32 := Scalar.subi v99 c4_i32_114
  let v181 : BitVec 32 := Scalar.maxsi c0_i32_115 v180
  let v182 : BitVec 32 := Scalar.minsi c24_i32_116 v181
  let c64_i32_256 : BitVec 32 := 64#32
  let v422 : BitVec 32 := Scalar.muli v182 c64_i32_256
  v422
def k0_mult52 : BitVec 32 :=
  let c24_i32_119 : BitVec 32 := 24#32
  let c0_i32_118 : BitVec 32 := 0#32
  let c0_i32 : BitVec 32 := 0#32
  let c32_i32_47 : BitVec 32 := 32#32
  let v100 : BitVec 32 := Scalar.muli c0_i32 c32_i32_47
  let c19_i32 : BitVec 32 := 19#32
  let v101 : BitVec 32 := Scalar.addi v100 c19_i32
  let c4_i32_117 : BitVec 32 := 4#32
  let v183 : BitVec 32 := Scalar.subi v101 c4_i32_117
  let v184 : BitVec 32 := Scalar.maxsi c0_i32_118 v183
  let v185 : BitVec 32 := Scalar.minsi c24_i32_119 v184
  let c64_i32_258 : BitVec 32 := 64#32
  let v426 : BitVec 32 := Scalar.muli v185 c64_i32_258
  v426
def k0_mult53 : BitVec 32 :=
  let c24_i32_122 : BitVec 32 := 24#32
  let c0_i32_121 : BitVec 32 := 0#32
  let c0_i32 : BitVec 32 := 0#32
  let c32_i32_48 : BitVec 32 := 32#32
  let v102 : BitVec 32 := Scalar.muli c0_i32 c32_i32_48
  let c20_i32 : BitVec 32 := 20#32
  let v103 : BitVec 32 := Scalar.addi v102 c20_i32
  let c4_i32_120 : BitVec 32 := 4#32
  let v186 : BitVec 32 := Scalar.subi v103 c4_i32_120
  let v187 : BitVec 32 := Scalar.maxsi c0_i32_121 v186
  let v188 : BitVec 32 := Scalar.minsi c24_i32_122 v187
  let c64_i32_260 : BitVec 32 := 64#32
  let v430 : BitVec 32 := Scalar.muli v188 c64_i32_260
  v430
def k0_mult54 : BitVec 32 :=
  let c24_i32_125 : BitVec 32 := 24#32
  let c0_i32_124 : BitVec 32 := 0#32
  let c0_i32 : BitVec 32 := 0#32
  let c32_i32_49 : BitVec 32 := 32#32
  let v104 : BitVec 32 := Scalar.muli c0_i32 c32_i32_49
  let c21_i32 : BitVec 32 := 21#32
  let v105 : BitVec 32 := Scalar.addi v104 c21_i32
  let c4_i32_123 : BitVec 32 := 4#32
  let v189 : BitVec 32 := Scalar.subi v105 c4_i32_123
  let v190 : BitVec 32 := Scalar.maxsi c0_i32_124 v189
  let v191 : BitVec 32 := Scalar.minsi c24_i32_125 v190
  let c64_i32_262 : BitVec 32 := 64#32
  let v434 : BitVec 32 := Scalar.muli v191 c64_i32_262
  v434
def k0_mult55 : BitVec 32 :=
  let c24_i32_128 : BitVec 32 := 24#32
  let c0_i32_127 : BitVec 32 := 0#32
  let c0_i32 : BitVec 32 := 0#32
  let c32_i32_50 : BitVec 32 := 32#32
  let v106 : BitVec 32 := Scalar.muli c0_i32 c32_i32_50
  let c22_i32 : BitVec 32 := 22#32
  let v107 : BitVec 32 := Scalar.addi v106 c22_i32
  let c4_i32_126 : BitVec 32 := 4#32
  let v192 : BitVec 32 := Scalar.subi v107 c4_i32_126
  let v193 : BitVec 32 := Scalar.maxsi c0_i32_127 v192
  let v194 : BitVec 32 := Scalar.minsi c24_i32_128 v193
  let c64_i32_264 : BitVec 32 := 64#32
  let v438 : BitVec 32 := Scalar.muli v194 c64_i32_264
  v438
def k0_mult56 : BitVec 32 :=
  let c24_i32_131 : BitVec 32 := 24#32
  let c0_i32_130 : BitVec 32 := 0#32
  let c0_i32 : BitVec 32 := 0#32
  let c32_i32_51 : BitVec 32 := 32#32
  let v108 : BitVec 32 := Scalar.muli c0_i32 c32_i32_51
  let c23_i32 : BitVec 32 := 23#32
  let v109 : BitVec 32 := Scalar.addi v108 c23_i32
  let c4_i32_129 : BitVec 32 := 4#32
  let v195 : BitVec 32 := Scalar.subi v109 c4_i32_129
  let v196 : BitVec 32 := Scalar.maxsi c0_i32_130 v195
  let v197 : BitVec 32 := Scalar.minsi c24_i32_131 v196
  let c64_i32_266 : BitVec 32 := 64#32
  let v442 : BitVec 32 := Scalar.muli v197 c64_i32_266
  v442
def k0_mult57 : BitVec 32 :=
  let c24_i32_134 : BitVec 32 := 24#32
  let c0_i32_133 : BitVec 32 := 0#32
  let c0_i32 : BitVec 32 := 0#32
  let c32_i32_52 : BitVec 32 := 32#32
  let v110 : BitVec 32 := Scalar.muli c0_i32 c32_i32_52
  let c24_i32 : BitVec 32 := 24#32
  let v111 : BitVec 32 := Scalar.addi v110 c24_i32
  let c4_i32_132 : BitVec 32 := 4#32
  let v198 : BitVec 32 := Scalar.subi v111 c4_i32_132
  let v199 : BitVec 32 := Scalar.maxsi c0_i32_133 v198
  let v200 : BitVec 32 := Scalar.minsi c24_i32_134 v199
  let c64_i32_268 : BitVec 32 := 64#32
  let v446 : BitVec 32 := Scalar.muli v200 c64_i32_268
  v446
def k0_mult58 : BitVec 32 :=
  let c24_i32_137 : BitVec 32 := 24#32
  let c0_i32_136 : BitVec 32 := 0#32
  let c0_i32 : BitVec 32 := 0#32
  let c32_i32_53 : BitVec 32 := 32#32
  let v112 : BitVec 32 := Scalar.muli c0_i32 c32_i32_53
  let c25_i32 : BitVec 32 := 25#32
  let v113 : BitVec 32 := Scalar.addi v112 c25_i32
  let c4_i32_135 : BitVec 32 := 4#32
  let v201 : BitVec 32 := Scalar.subi v113 c4_i32_135
  let v202 : BitVec 32 := Scalar.maxsi c0_i32_136 v201
  let v203 : BitVec 32 := Scalar.minsi c24_i32_137 v202
  let c64_i32_270 : BitVec 32 := 64#32
  let v450 : BitVec 32 := Scalar.muli v203 c64_i32_270
  v450
def k0_mult59 : BitVec 32 :=
  let c24_i32_140 : BitVec 32 := 24#32
  let c0_i32_139 : BitVec 32 := 0#32
  let c0_i32 : BitVec 32 := 0#32
  let c32_i32_54 : BitVec 32 := 32#32
  let v114 : BitVec 32 := Scalar.muli c0_i32 c32_i32_54
  let c26_i32 : BitVec 32 := 26#32
  let v115 : BitVec 32 := Scalar.addi v114 c26_i32
  let c4_i32_138 : BitVec 32 := 4#32
  let v204 : BitVec 32 := Scalar.subi v115 c4_i32_138
  let v205 : BitVec 32 := Scalar.maxsi c0_i32_139 v204
  let v206 : BitVec 32 := Scalar.minsi c24_i32_140 v205
  let c64_i32_272 : BitVec 32 := 64#32
  let v454 : BitVec 32 := Scalar.muli v206 c64_i32_272
  v454
def k0_mult60 : BitVec 32 :=
  let c24_i32_143 : BitVec 32 := 24#32
  let c0_i32_142 : BitVec 32 := 0#32
  let c0_i32 : BitVec 32 := 0#32
  let c32_i32_55 : BitVec 32 := 32#32
  let v116 : BitVec 32 := Scalar.muli c0_i32 c32_i32_55
  let c27_i32 : BitVec 32 := 27#32
  let v117 : BitVec 32 := Scalar.addi v116 c27_i32
  let c4_i32_141 : BitVec 32 := 4#32
  let v207 : BitVec 32 := Scalar.subi v117 c4_i32_141
  let v208 : BitVec 32 := Scalar.maxsi c0_i32_142 v207
  let v209 : BitVec 32 := Scalar.minsi c24_i32_143 v208
  let c64_i32_274 : BitVec 32 := 64#32
  let v458 : BitVec 32 := Scalar.muli v209 c64_i32_274
  v458
def k0_mult61 : BitVec 32 :=
  let c24_i32_146 : BitVec 32 := 24#32
  let c0_i32_145 : BitVec 32 := 0#32
  let c0_i32 : BitVec 32 := 0#32
  let c32_i32_56 : BitVec 32 := 32#32
  let v118 : BitVec 32 := Scalar.muli c0_i32 c32_i32_56
  let c28_i32 : BitVec 32 := 28#32
  let v119 : BitVec 32 := Scalar.addi v118 c28_i32
  let c4_i32_144 : BitVec 32 := 4#32
  let v210 : BitVec 32 := Scalar.subi v119 c4_i32_144
  let v211 : BitVec 32 := Scalar.maxsi c0_i32_145 v210
  let v212 : BitVec 32 := Scalar.minsi c24_i32_146 v211
  let c64_i32_276 : BitVec 32 := 64#32
  let v462 : BitVec 32 := Scalar.muli v212 c64_i32_276
  v462
def k0_mult62 : BitVec 32 :=
  let c24_i32_149 : BitVec 32 := 24#32
  let c0_i32_148 : BitVec 32 := 0#32
  let c0_i32 : BitVec 32 := 0#32
  let c32_i32_57 : BitVec 32 := 32#32
  let v120 : BitVec 32 := Scalar.muli c0_i32 c32_i32_57
  let c29_i32 : BitVec 32 := 29#32
  let v121 : BitVec 32 := Scalar.addi v120 c29_i32
  let c4_i32_147 : BitVec 32 := 4#32
  let v213 : BitVec 32 := Scalar.subi v121 c4_i32_147
  let v214 : BitVec 32 := Scalar.maxsi c0_i32_148 v213
  let v215 : BitVec 32 := Scalar.minsi c24_i32_149 v214
  let c64_i32_278 : BitVec 32 := 64#32
  let v466 : BitVec 32 := Scalar.muli v215 c64_i32_278
  v466
def k0_mult63 : BitVec 32 :=
  let c24_i32_152 : BitVec 32 := 24#32
  let c0_i32_151 : BitVec 32 := 0#32
  let c0_i32 : BitVec 32 := 0#32
  let c32_i32_58 : BitVec 32 := 32#32
  let v122 : BitVec 32 := Scalar.muli c0_i32 c32_i32_58
  let c30_i32 : BitVec 32 := 30#32
  let v123 : BitVec 32 := Scalar.addi v122 c30_i32
  let c4_i32_150 : BitVec 32 := 4#32
  let v216 : BitVec 32 := Scalar.subi v123 c4_i32_150
  let v217 : BitVec 32 := Scalar.maxsi c0_i32_151 v216
  let v218 : BitVec 32 := Scalar.minsi c24_i32_152 v217
  let c64_i32_280 : BitVec 32 := 64#32
  let v470 : BitVec 32 := Scalar.muli v218 c64_i32_280
  v470
def k0_mult64 : BitVec 32 :=
  let c24_i32_155 : BitVec 32 := 24#32
  let c0_i32_154 : BitVec 32 := 0#32
  let c0_i32 : BitVec 32 := 0#32
  let c32_i32_59 : BitVec 32 := 32#32
  let v124 : BitVec 32 := Scalar.muli c0_i32 c32_i32_59
  let c31_i32 : BitVec 32 := 31#32
  let v125 : BitVec 32 := Scalar.addi v124 c31_i32
  let c4_i32_153 : BitVec 32 := 4#32
  let v219 : BitVec 32 := Scalar.subi v125 c4_i32_153
  let v220 : BitVec 32 := Scalar.maxsi c0_i32_154 v219
  let v221 : BitVec 32 := Scalar.minsi c24_i32_155 v220
  let c64_i32_282 : BitVec 32 := 64#32
  let v474 : BitVec 32 := Scalar.muli v221 c64_i32_282
  v474
def k0_mult65 : BitVec 32 :=
  let c24_i32_62 : BitVec 32 := 24#32
  let c0_i32_61 : BitVec 32 := 0#32
  let c0_i32 : BitVec 32 := 0#32
  let c32_i32 : BitVec 32 := 32#32
  let v62 : BitVec 32 := Scalar.muli c0_i32 c32_i32
  let c0_i32_28 : BitVec 32 := 0#32
  let v63 : BitVec 32 := Scalar.addi v62 c0_i32_28
  let c4_i32_60 : BitVec 32 := 4#32
  let v126 : BitVec 32 := Scalar.subi v63 c4_i32_60
  let v127 : BitVec 32 := Scalar.maxsi c0_i32_61 v126
  let v128 : BitVec 32 := Scalar.minsi c24_i32_62 v127
  let c64_i32_284 : BitVec 32 := 64#32
  let v478 : BitVec 32 := Scalar.muli v128 c64_i32_284
  v478
def k0_mult66 : BitVec 32 :=
  let c24_i32_65 : BitVec 32 := 24#32
  let c0_i32_64 : BitVec 32 := 0#32
  let c0_i32 : BitVec 32 := 0#32
  let c32_i32_29 : BitVec 32 := 32#32
  let v64 : BitVec 32 := Scalar.muli c0_i32 c32_i32_29
  let c1_i32 : BitVec 32 := 1#32
  let v65 : BitVec 32 := Scalar.addi v64 c1_i32
  let c4_i32_63 : BitVec 32 := 4#32
  let v129 : BitVec 32 := Scalar.subi v65 c4_i32_63
  let v130 : BitVec 32 := Scalar.maxsi c0_i32_64 v129
  let v131 : BitVec 32 := Scalar.minsi c24_i32_65 v130
  let c64_i32_286 : BitVec 32 := 64#32
  let v482 : BitVec 32 := Scalar.muli v131 c64_i32_286
  v482
def k0_mult67 : BitVec 32 :=
  let c24_i32_68 : BitVec 32 := 24#32
  let c0_i32_67 : BitVec 32 := 0#32
  let c0_i32 : BitVec 32 := 0#32
  let c32_i32_30 : BitVec 32 := 32#32
  let v66 : BitVec 32 := Scalar.muli c0_i32 c32_i32_30
  let c2_i32 : BitVec 32 := 2#32
  let v67 : BitVec 32 := Scalar.addi v66 c2_i32
  let c4_i32_66 : BitVec 32 := 4#32
  let v132 : BitVec 32 := Scalar.subi v67 c4_i32_66
  let v133 : BitVec 32 := Scalar.maxsi c0_i32_67 v132
  let v134 : BitVec 32 := Scalar.minsi c24_i32_68 v133
  let c64_i32_288 : BitVec 32 := 64#32
  let v486 : BitVec 32 := Scalar.muli v134 c64_i32_288
  v486
def k0_mult68 : BitVec 32 :=
  let c24_i32_71 : BitVec 32 := 24#32
  let c0_i32_70 : BitVec 32 := 0#32
  let c0_i32 : BitVec 32 := 0#32
  let c32_i32_31 : BitVec 32 := 32#32
  let v68 : BitVec 32 := Scalar.muli c0_i32 c32_i32_31
  let c3_i32 : BitVec 32 := 3#32
  let v69 : BitVec 32 := Scalar.addi v68 c3_i32
  let c4_i32_69 : BitVec 32 := 4#32
  let v135 : BitVec 32 := Scalar.subi v69 c4_i32_69
  let v136 : BitVec 32 := Scalar.maxsi c0_i32_70 v135
  let v137 : BitVec 32 := Scalar.minsi c24_i32_71 v136
  let c64_i32_290 : BitVec 32 := 64#32
  let v490 : BitVec 32 := Scalar.muli v137 c64_i32_290
  v490
def k0_mult69 : BitVec 32 :=
  let c24_i32_74 : BitVec 32 := 24#32
  let c0_i32_73 : BitVec 32 := 0#32
  let c0_i32 : BitVec 32 := 0#32
  let c32_i32_32 : BitVec 32 := 32#32
  let v70 : BitVec 32 := Scalar.muli c0_i32 c32_i32_32
  let c4_i32 : BitVec 32 := 4#32
  let v71 : BitVec 32 := Scalar.addi v70 c4_i32
  let c4_i32_72 : BitVec 32 := 4#32
  let v138 : BitVec 32 := Scalar.subi v71 c4_i32_72
  let v139 : BitVec 32 := Scalar.maxsi c0_i32_73 v138
  let v140 : BitVec 32 := Scalar.minsi c24_i32_74 v139
  let c64_i32_292 : BitVec 32 := 64#32
  let v494 : BitVec 32 := Scalar.muli v140 c64_i32_292
  v494
def k0_mult70 : BitVec 32 :=
  let c24_i32_77 : BitVec 32 := 24#32
  let c0_i32_76 : BitVec 32 := 0#32
  let c0_i32 : BitVec 32 := 0#32
  let c32_i32_33 : BitVec 32 := 32#32
  let v72 : BitVec 32 := Scalar.muli c0_i32 c32_i32_33
  let c5_i32 : BitVec 32 := 5#32
  let v73 : BitVec 32 := Scalar.addi v72 c5_i32
  let c4_i32_75 : BitVec 32 := 4#32
  let v141 : BitVec 32 := Scalar.subi v73 c4_i32_75
  let v142 : BitVec 32 := Scalar.maxsi c0_i32_76 v141
  let v143 : BitVec 32 := Scalar.minsi c24_i32_77 v142
  let c64_i32_294 : BitVec 32 := 64#32
  let v498 : BitVec 32 := Scalar.muli v143 c64_i32_294
  v498
def k0_mult71 : BitVec 32 :=
  let c24_i32_80 : BitVec 32 := 24#32
  let c0_i32_79 : BitVec 32 := 0#32
  let c0_i32 : BitVec 32 := 0#32
  let c32_i32_34 : BitVec 32 := 32#32
  let v74 : BitVec 32 := Scalar.muli c0_i32 c32_i32_34
  let c6_i32 : BitVec 32 := 6#32
  let v75 : BitVec 32 := Scalar.addi v74 c6_i32
  let c4_i32_78 : BitVec 32 := 4#32
  let v144 : BitVec 32 := Scalar.subi v75 c4_i32_78
  let v145 : BitVec 32 := Scalar.maxsi c0_i32_79 v144
  let v146 : BitVec 32 := Scalar.minsi c24_i32_80 v145
  let c64_i32_296 : BitVec 32 := 64#32
  let v502 : BitVec 32 := Scalar.muli v146 c64_i32_296
  v502
def k0_mult72 : BitVec 32 :=
  let c24_i32_83 : BitVec 32 := 24#32
  let c0_i32_82 : BitVec 32 := 0#32
  let c0_i32 : BitVec 32 := 0#32
  let c32_i32_35 : BitVec 32 := 32#32
  let v76 : BitVec 32 := Scalar.muli c0_i32 c32_i32_35
  let c7_i32 : BitVec 32 := 7#32
  let v77 : BitVec 32 := Scalar.addi v76 c7_i32
  let c4_i32_81 : BitVec 32 := 4#32
  let v147 : BitVec 32 := Scalar.subi v77 c4_i32_81
  let v148 : BitVec 32 := Scalar.maxsi c0_i32_82 v147
  let v149 : BitVec 32 := Scalar.minsi c24_i32_83 v148
  let c64_i32_298 : BitVec 32 := 64#32
  let v506 : BitVec 32 := Scalar.muli v149 c64_i32_298
  v506
def k0_mult73 : BitVec 32 :=
  let c24_i32_86 : BitVec 32 := 24#32
  let c0_i32_85 : BitVec 32 := 0#32
  let c0_i32 : BitVec 32 := 0#32
  let c32_i32_36 : BitVec 32 := 32#32
  let v78 : BitVec 32 := Scalar.muli c0_i32 c32_i32_36
  let c8_i32 : BitVec 32 := 8#32
  let v79 : BitVec 32 := Scalar.addi v78 c8_i32
  let c4_i32_84 : BitVec 32 := 4#32
  let v150 : BitVec 32 := Scalar.subi v79 c4_i32_84
  let v151 : BitVec 32 := Scalar.maxsi c0_i32_85 v150
  let v152 : BitVec 32 := Scalar.minsi c24_i32_86 v151
  let c64_i32_300 : BitVec 32 := 64#32
  let v510 : BitVec 32 := Scalar.muli v152 c64_i32_300
  v510
def k0_mult74 : BitVec 32 :=
  let c24_i32_89 : BitVec 32 := 24#32
  let c0_i32_88 : BitVec 32 := 0#32
  let c0_i32 : BitVec 32 := 0#32
  let c32_i32_37 : BitVec 32 := 32#32
  let v80 : BitVec 32 := Scalar.muli c0_i32 c32_i32_37
  let c9_i32 : BitVec 32 := 9#32
  let v81 : BitVec 32 := Scalar.addi v80 c9_i32
  let c4_i32_87 : BitVec 32 := 4#32
  let v153 : BitVec 32 := Scalar.subi v81 c4_i32_87
  let v154 : BitVec 32 := Scalar.maxsi c0_i32_88 v153
  let v155 : BitVec 32 := Scalar.minsi c24_i32_89 v154
  let c64_i32_302 : BitVec 32 := 64#32
  let v514 : BitVec 32 := Scalar.muli v155 c64_i32_302
  v514
def k0_mult75 : BitVec 32 :=
  let c24_i32_92 : BitVec 32 := 24#32
  let c0_i32_91 : BitVec 32 := 0#32
  let c0_i32 : BitVec 32 := 0#32
  let c32_i32_38 : BitVec 32 := 32#32
  let v82 : BitVec 32 := Scalar.muli c0_i32 c32_i32_38
  let c10_i32 : BitVec 32 := 10#32
  let v83 : BitVec 32 := Scalar.addi v82 c10_i32
  let c4_i32_90 : BitVec 32 := 4#32
  let v156 : BitVec 32 := Scalar.subi v83 c4_i32_90
  let v157 : BitVec 32 := Scalar.maxsi c0_i32_91 v156
  let v158 : BitVec 32 := Scalar.minsi c24_i32_92 v157
  let c64_i32_304 : BitVec 32 := 64#32
  let v518 : BitVec 32 := Scalar.muli v158 c64_i32_304
  v518
def k0_mult76 : BitVec 32 :=
  let c24_i32_95 : BitVec 32 := 24#32
  let c0_i32_94 : BitVec 32 := 0#32
  let c0_i32 : BitVec 32 := 0#32
  let c32_i32_39 : BitVec 32 := 32#32
  let v84 : BitVec 32 := Scalar.muli c0_i32 c32_i32_39
  let c11_i32 : BitVec 32 := 11#32
  let v85 : BitVec 32 := Scalar.addi v84 c11_i32
  let c4_i32_93 : BitVec 32 := 4#32
  let v159 : BitVec 32 := Scalar.subi v85 c4_i32_93
  let v160 : BitVec 32 := Scalar.maxsi c0_i32_94 v159
  let v161 : BitVec 32 := Scalar.minsi c24_i32_95 v160
  let c64_i32_306 : BitVec 32 := 64#32
  let v522 : BitVec 32 := Scalar.muli v161 c64_i32_306
  v522
def k0_mult77 : BitVec 32 :=
  let c24_i32_98 : BitVec 32 := 24#32
  let c0_i32_97 : BitVec 32 := 0#32
  let c0_i32 : BitVec 32 := 0#32
  let c32_i32_40 : BitVec 32 := 32#32
  let v86 : BitVec 32 := Scalar.muli c0_i32 c32_i32_40
  let c12_i32 : BitVec 32 := 12#32
  let v87 : BitVec 32 := Scalar.addi v86 c12_i32
  let c4_i32_96 : BitVec 32 := 4#32
  let v162 : BitVec 32 := Scalar.subi v87 c4_i32_96
  let v163 : BitVec 32 := Scalar.maxsi c0_i32_97 v162
  let v164 : BitVec 32 := Scalar.minsi c24_i32_98 v163
  let c64_i32_308 : BitVec 32 := 64#32
  let v526 : BitVec 32 := Scalar.muli v164 c64_i32_308
  v526
def k0_mult78 : BitVec 32 :=
  let c24_i32_101 : BitVec 32 := 24#32
  let c0_i32_100 : BitVec 32 := 0#32
  let c0_i32 : BitVec 32 := 0#32
  let c32_i32_41 : BitVec 32 := 32#32
  let v88 : BitVec 32 := Scalar.muli c0_i32 c32_i32_41
  let c13_i32 : BitVec 32 := 13#32
  let v89 : BitVec 32 := Scalar.addi v88 c13_i32
  let c4_i32_99 : BitVec 32 := 4#32
  let v165 : BitVec 32 := Scalar.subi v89 c4_i32_99
  let v166 : BitVec 32 := Scalar.maxsi c0_i32_100 v165
  let v167 : BitVec 32 := Scalar.minsi c24_i32_101 v166
  let c64_i32_310 : BitVec 32 := 64#32
  let v530 : BitVec 32 := Scalar.muli v167 c64_i32_310
  v530
def k0_mult79 : BitVec 32 :=
  let c24_i32_104 : BitVec 32 := 24#32
  let c0_i32_103 : BitVec 32 := 0#32
  let c0_i32 : BitVec 32 := 0#32
  let c32_i32_42 : BitVec 32 := 32#32
  let v90 : BitVec 32 := Scalar.muli c0_i32 c32_i32_42
  let c14_i32 : BitVec 32 := 14#32
  let v91 : BitVec 32 := Scalar.addi v90 c14_i32
  let c4_i32_102 : BitVec 32 := 4#32
  let v168 : BitVec 32 := Scalar.subi v91 c4_i32_102
  let v169 : BitVec 32 := Scalar.maxsi c0_i32_103 v168
  let v170 : BitVec 32 := Scalar.minsi c24_i32_104 v169
  let c64_i32_312 : BitVec 32 := 64#32
  let v534 : BitVec 32 := Scalar.muli v170 c64_i32_312
  v534
def k0_mult80 : BitVec 32 :=
  let c24_i32_107 : BitVec 32 := 24#32
  let c0_i32_106 : BitVec 32 := 0#32
  let c0_i32 : BitVec 32 := 0#32
  let c32_i32_43 : BitVec 32 := 32#32
  let v92 : BitVec 32 := Scalar.muli c0_i32 c32_i32_43
  let c15_i32 : BitVec 32 := 15#32
  let v93 : BitVec 32 := Scalar.addi v92 c15_i32
  let c4_i32_105 : BitVec 32 := 4#32
  let v171 : BitVec 32 := Scalar.subi v93 c4_i32_105
  let v172 : BitVec 32 := Scalar.maxsi c0_i32_106 v171
  let v173 : BitVec 32 := Scalar.minsi c24_i32_107 v172
  let c64_i32_314 : BitVec 32 := 64#32
  let v538 : BitVec 32 := Scalar.muli v173 c64_i32_314
  v538
def k0_mult81 : BitVec 32 :=
  let c24_i32_110 : BitVec 32 := 24#32
  let c0_i32_109 : BitVec 32 := 0#32
  let c0_i32 : BitVec 32 := 0#32
  let c32_i32_44 : BitVec 32 := 32#32
  let v94 : BitVec 32 := Scalar.muli c0_i32 c32_i32_44
  let c16_i32 : BitVec 32 := 16#32
  let v95 : BitVec 32 := Scalar.addi v94 c16_i32
  let c4_i32_108 : BitVec 32 := 4#32
  let v174 : BitVec 32 := Scalar.subi v95 c4_i32_108
  let v175 : BitVec 32 := Scalar.maxsi c0_i32_109 v174
  let v176 : BitVec 32 := Scalar.minsi c24_i32_110 v175
  let c64_i32_316 : BitVec 32 := 64#32
  let v542 : BitVec 32 := Scalar.muli v176 c64_i32_316
  v542
def k0_mult82 : BitVec 32 :=
  let c24_i32_113 : BitVec 32 := 24#32
  let c0_i32_112 : BitVec 32 := 0#32
  let c0_i32 : BitVec 32 := 0#32
  let c32_i32_45 : BitVec 32 := 32#32
  let v96 : BitVec 32 := Scalar.muli c0_i32 c32_i32_45
  let c17_i32 : BitVec 32 := 17#32
  let v97 : BitVec 32 := Scalar.addi v96 c17_i32
  let c4_i32_111 : BitVec 32 := 4#32
  let v177 : BitVec 32 := Scalar.subi v97 c4_i32_111
  let v178 : BitVec 32 := Scalar.maxsi c0_i32_112 v177
  let v179 : BitVec 32 := Scalar.minsi c24_i32_113 v178
  let c64_i32_318 : BitVec 32 := 64#32
  let v546 : BitVec 32 := Scalar.muli v179 c64_i32_318
  v546
def k0_mult83 : BitVec 32 :=
  let c24_i32_116 : BitVec 32 := 24#32
  let c0_i32_115 : BitVec 32 := 0#32
  let c0_i32 : BitVec 32 := 0#32
  let c32_i32_46 : BitVec 32 := 32#32
  let v98 : BitVec 32 := Scalar.muli c0_i32 c32_i32_46
  let c18_i32 : BitVec 32 := 18#32
  let v99 : BitVec 32 := Scalar.addi v98 c18_i32
  let c4_i32_114 : BitVec 32 := 4#32
  let v180 : BitVec 32 := Scalar.subi v99 c4_i32_114
  let v181 : BitVec 32 := Scalar.maxsi c0_i32_115 v180
  let v182 : BitVec 32 := Scalar.minsi c24_i32_116 v181
  let c64_i32_320 : BitVec 32 := 64#32
  let v550 : BitVec 32 := Scalar.muli v182 c64_i32_320
  v550
def k0_mult84 : BitVec 32 :=
  let c24_i32_119 : BitVec 32 := 24#32
  let c0_i32_118 : BitVec 32 := 0#32
  let c0_i32 : BitVec 32 := 0#32
  let c32_i32_47 : BitVec 32 := 32#32
  let v100 : BitVec 32 := Scalar.muli c0_i32 c32_i32_47
  let c19_i32 : BitVec 32 := 19#32
  let v101 : BitVec 32 := Scalar.addi v100 c19_i32
  let c4_i32_117 : BitVec 32 := 4#32
  let v183 : BitVec 32 := Scalar.subi v101 c4_i32_117
  let v184 : BitVec 32 := Scalar.maxsi c0_i32_118 v183
  let v185 : BitVec 32 := Scalar.minsi c24_i32_119 v184
  let c64_i32_322 : BitVec 32 := 64#32
  let v554 : BitVec 32 := Scalar.muli v185 c64_i32_322
  v554
def k0_mult85 : BitVec 32 :=
  let c24_i32_122 : BitVec 32 := 24#32
  let c0_i32_121 : BitVec 32 := 0#32
  let c0_i32 : BitVec 32 := 0#32
  let c32_i32_48 : BitVec 32 := 32#32
  let v102 : BitVec 32 := Scalar.muli c0_i32 c32_i32_48
  let c20_i32 : BitVec 32 := 20#32
  let v103 : BitVec 32 := Scalar.addi v102 c20_i32
  let c4_i32_120 : BitVec 32 := 4#32
  let v186 : BitVec 32 := Scalar.subi v103 c4_i32_120
  let v187 : BitVec 32 := Scalar.maxsi c0_i32_121 v186
  let v188 : BitVec 32 := Scalar.minsi c24_i32_122 v187
  let c64_i32_324 : BitVec 32 := 64#32
  let v558 : BitVec 32 := Scalar.muli v188 c64_i32_324
  v558
def k0_mult86 : BitVec 32 :=
  let c24_i32_125 : BitVec 32 := 24#32
  let c0_i32_124 : BitVec 32 := 0#32
  let c0_i32 : BitVec 32 := 0#32
  let c32_i32_49 : BitVec 32 := 32#32
  let v104 : BitVec 32 := Scalar.muli c0_i32 c32_i32_49
  let c21_i32 : BitVec 32 := 21#32
  let v105 : BitVec 32 := Scalar.addi v104 c21_i32
  let c4_i32_123 : BitVec 32 := 4#32
  let v189 : BitVec 32 := Scalar.subi v105 c4_i32_123
  let v190 : BitVec 32 := Scalar.maxsi c0_i32_124 v189
  let v191 : BitVec 32 := Scalar.minsi c24_i32_125 v190
  let c64_i32_326 : BitVec 32 := 64#32
  let v562 : BitVec 32 := Scalar.muli v191 c64_i32_326
  v562
def k0_mult87 : BitVec 32 :=
  let c24_i32_128 : BitVec 32 := 24#32
  let c0_i32_127 : BitVec 32 := 0#32
  let c0_i32 : BitVec 32 := 0#32
  let c32_i32_50 : BitVec 32 := 32#32
  let v106 : BitVec 32 := Scalar.muli c0_i32 c32_i32_50
  let c22_i32 : BitVec 32 := 22#32
  let v107 : BitVec 32 := Scalar.addi v106 c22_i32
  let c4_i32_126 : BitVec 32 := 4#32
  let v192 : BitVec 32 := Scalar.subi v107 c4_i32_126
  let v193 : BitVec 32 := Scalar.maxsi c0_i32_127 v192
  let v194 : BitVec 32 := Scalar.minsi c24_i32_128 v193
  let c64_i32_328 : BitVec 32 := 64#32
  let v566 : BitVec 32 := Scalar.muli v194 c64_i32_328
  v566
def k0_mult88 : BitVec 32 :=
  let c24_i32_131 : BitVec 32 := 24#32
  let c0_i32_130 : BitVec 32 := 0#32
  let c0_i32 : BitVec 32 := 0#32
  let c32_i32_51 : BitVec 32 := 32#32
  let v108 : BitVec 32 := Scalar.muli c0_i32 c32_i32_51
  let c23_i32 : BitVec 32 := 23#32
  let v109 : BitVec 32 := Scalar.addi v108 c23_i32
  let c4_i32_129 : BitVec 32 := 4#32
  let v195 : BitVec 32 := Scalar.subi v109 c4_i32_129
  let v196 : BitVec 32 := Scalar.maxsi c0_i32_130 v195
  let v197 : BitVec 32 := Scalar.minsi c24_i32_131 v196
  let c64_i32_330 : BitVec 32 := 64#32
  let v570 : BitVec 32 := Scalar.muli v197 c64_i32_330
  v570
def k0_mult89 : BitVec 32 :=
  let c24_i32_134 : BitVec 32 := 24#32
  let c0_i32_133 : BitVec 32 := 0#32
  let c0_i32 : BitVec 32 := 0#32
  let c32_i32_52 : BitVec 32 := 32#32
  let v110 : BitVec 32 := Scalar.muli c0_i32 c32_i32_52
  let c24_i32 : BitVec 32 := 24#32
  let v111 : BitVec 32 := Scalar.addi v110 c24_i32
  let c4_i32_132 : BitVec 32 := 4#32
  let v198 : BitVec 32 := Scalar.subi v111 c4_i32_132
  let v199 : BitVec 32 := Scalar.maxsi c0_i32_133 v198
  let v200 : BitVec 32 := Scalar.minsi c24_i32_134 v199
  let c64_i32_332 : BitVec 32 := 64#32
  let v574 : BitVec 32 := Scalar.muli v200 c64_i32_332
  v574
def k0_mult90 : BitVec 32 :=
  let c24_i32_137 : BitVec 32 := 24#32
  let c0_i32_136 : BitVec 32 := 0#32
  let c0_i32 : BitVec 32 := 0#32
  let c32_i32_53 : BitVec 32 := 32#32
  let v112 : BitVec 32 := Scalar.muli c0_i32 c32_i32_53
  let c25_i32 : BitVec 32 := 25#32
  let v113 : BitVec 32 := Scalar.addi v112 c25_i32
  let c4_i32_135 : BitVec 32 := 4#32
  let v201 : BitVec 32 := Scalar.subi v113 c4_i32_135
  let v202 : BitVec 32 := Scalar.maxsi c0_i32_136 v201
  let v203 : BitVec 32 := Scalar.minsi c24_i32_137 v202
  let c64_i32_334 : BitVec 32 := 64#32
  let v578 : BitVec 32 := Scalar.muli v203 c64_i32_334
  v578
def k0_mult91 : BitVec 32 :=
  let c24_i32_140 : BitVec 32 := 24#32
  let c0_i32_139 : BitVec 32 := 0#32
  let c0_i32 : BitVec 32 := 0#32
  let c32_i32_54 : BitVec 32 := 32#32
  let v114 : BitVec 32 := Scalar.muli c0_i32 c32_i32_54
  let c26_i32 : BitVec 32 := 26#32
  let v115 : BitVec 32 := Scalar.addi v114 c26_i32
  let c4_i32_138 : BitVec 32 := 4#32
  let v204 : BitVec 32 := Scalar.subi v115 c4_i32_138
  let v205 : BitVec 32 := Scalar.maxsi c0_i32_139 v204
  let v206 : BitVec 32 := Scalar.minsi c24_i32_140 v205
  let c64_i32_336 : BitVec 32 := 64#32
  let v582 : BitVec 32 := Scalar.muli v206 c64_i32_336
  v582
def k0_mult92 : BitVec 32 :=
  let c24_i32_143 : BitVec 32 := 24#32
  let c0_i32_142 : BitVec 32 := 0#32
  let c0_i32 : BitVec 32 := 0#32
  let c32_i32_55 : BitVec 32 := 32#32
  let v116 : BitVec 32 := Scalar.muli c0_i32 c32_i32_55
  let c27_i32 : BitVec 32 := 27#32
  let v117 : BitVec 32 := Scalar.addi v116 c27_i32
  let c4_i32_141 : BitVec 32 := 4#32
  let v207 : BitVec 32 := Scalar.subi v117 c4_i32_141
  let v208 : BitVec 32 := Scalar.maxsi c0_i32_142 v207
  let v209 : BitVec 32 := Scalar.minsi c24_i32_143 v208
  let c64_i32_338 : BitVec 32 := 64#32
  let v586 : BitVec 32 := Scalar.muli v209 c64_i32_338
  v586
def k0_mult93 : BitVec 32 :=
  let c24_i32_146 : BitVec 32 := 24#32
  let c0_i32_145 : BitVec 32 := 0#32
  let c0_i32 : BitVec 32 := 0#32
  let c32_i32_56 : BitVec 32 := 32#32
  let v118 : BitVec 32 := Scalar.muli c0_i32 c32_i32_56
  let c28_i32 : BitVec 32 := 28#32
  let v119 : BitVec 32 := Scalar.addi v118 c28_i32
  let c4_i32_144 : BitVec 32 := 4#32
  let v210 : BitVec 32 := Scalar.subi v119 c4_i32_144
  let v211 : BitVec 32 := Scalar.maxsi c0_i32_145 v210
  let v212 : BitVec 32 := Scalar.minsi c24_i32_146 v211
  let c64_i32_340 : BitVec 32 := 64#32
  let v590 : BitVec 32 := Scalar.muli v212 c64_i32_340
  v590
def k0_mult94 : BitVec 32 :=
  let c24_i32_149 : BitVec 32 := 24#32
  let c0_i32_148 : BitVec 32 := 0#32
  let c0_i32 : BitVec 32 := 0#32
  let c32_i32_57 : BitVec 32 := 32#32
  let v120 : BitVec 32 := Scalar.muli c0_i32 c32_i32_57
  let c29_i32 : BitVec 32 := 29#32
  let v121 : BitVec 32 := Scalar.addi v120 c29_i32
  let c4_i32_147 : BitVec 32 := 4#32
  let v213 : BitVec 32 := Scalar.subi v121 c4_i32_147
  let v214 : BitVec 32 := Scalar.maxsi c0_i32_148 v213
  let v215 : BitVec 32 := Scalar.minsi c24_i32_149 v214
  let c64_i32_342 : BitVec 32 := 64#32
  let v594 : BitVec 32 := Scalar.muli v215 c64_i32_342
  v594
def k0_mult95 : BitVec 32 :=
  let c24_i32_152 : BitVec 32 := 24#32
  let c0_i32_151 : BitVec 32 := 0#32
  let c0_i32 : BitVec 32 := 0#32
  let c32_i32_58 : BitVec 32 := 32#32
  let v122 : BitVec 32 := Scalar.muli c0_i32 c32_i32_58
  let c30_i32 : BitVec 32 := 30#32
  let v123 : BitVec 32 := Scalar.addi v122 c30_i32
  let c4_i32_150 : BitVec 32 := 4#32
  let v216 : BitVec 32 := Scalar.subi v123 c4_i32_150
  let v217 : BitVec 32 := Scalar.maxsi c0_i32_151 v216
  let v218 : BitVec 32 := Scalar.minsi c24_i32_152 v217
  let c64_i32_344 : BitVec 32 := 64#32
  let v598 : BitVec 32 := Scalar.muli v218 c64_i32_344
  v598
def k0_mult96 : BitVec 32 :=
  let c24_i32_155 : BitVec 32 := 24#32
  let c0_i32_154 : BitVec 32 := 0#32
  let c0_i32 : BitVec 32 := 0#32
  let c32_i32_59 : BitVec 32 := 32#32
  let v124 : BitVec 32 := Scalar.muli c0_i32 c32_i32_59
  let c31_i32 : BitVec 32 := 31#32
  let v125 : BitVec 32 := Scalar.addi v124 c31_i32
  let c4_i32_153 : BitVec 32 := 4#32
  let v219 : BitVec 32 := Scalar.subi v125 c4_i32_153
  let v220 : BitVec 32 := Scalar.maxsi c0_i32_154 v219
  let v221 : BitVec 32 := Scalar.minsi c24_i32_155 v220
  let c64_i32_346 : BitVec 32 := 64#32
  let v602 : BitVec 32 := Scalar.muli v221 c64_i32_346
  v602
def k0_off3 (c0_i32_28 : BitVec 32) (c0_i32_351 : BitVec 32) : Fin 4 → Nat :=
  let c0_352 : Index := 0#32
  let c24_i32_62 : BitVec 32 := 24#32
  let c0_i32_61 : BitVec 32 := 0#32
  let c0_i32 : BitVec 32 := 0#32
  let c32_i32 : BitVec 32 := 32#32
  let v62 : BitVec 32 := Scalar.muli c0_i32 c32_i32
  let v63 : BitVec 32 := Scalar.addi v62 c0_i32_28
  let c4_i32_60 : BitVec 32 := 4#32
  let v126 : BitVec 32 := Scalar.subi v63 c4_i32_60
  let v127 : BitVec 32 := Scalar.maxsi c0_i32_61 v126
  let v128 : BitVec 32 := Scalar.minsi c24_i32_62 v127
  let v606 : BitVec 32 := Scalar.subi v128 v63
  let c8_i32_348 : BitVec 32 := 8#32
  let v607 : BitVec 32 := Scalar.addi v606 c8_i32_348
  let c1_i32_349 : BitVec 32 := 1#32
  let v608 : BitVec 32 := Scalar.subi v607 c1_i32_349
  let v613 : BitVec 32 := Scalar.addi v608 c0_i32_351
  let v614 : Index := Scalar.indexCast v613
  let c0_353 : Index := 0#32
  let c0_354 : Index := 0#32
  ![0, v614.toNat, 0, 0]
def k0_off4 (c0_i32_28 : BitVec 32) (c0_i32_370 : BitVec 32) : Fin 4 → Nat :=
  let c1 : Index := 1#32
  let c24_i32_62 : BitVec 32 := 24#32
  let c0_i32_61 : BitVec 32 := 0#32
  let c0_i32 : BitVec 32 := 0#32
  let c32_i32 : BitVec 32 := 32#32
  let v62 : BitVec 32 := Scalar.muli c0_i32 c32_i32
  let v63 : BitVec 32 := Scalar.addi v62 c0_i32_28
  let c4_i32_60 : BitVec 32 := 4#32
  let v126 : BitVec 32 := Scalar.subi v63 c4_i32_60
  let v127 : BitVec 32 := Scalar.maxsi c0_i32_61 v126
  let v128 : BitVec 32 := Scalar.minsi c24_i32_62 v127
  let v606 : BitVec 32 := Scalar.subi v128 v63
  let c8_i32_348 : BitVec 32 := 8#32
  let v607 : BitVec 32 := Scalar.addi v606 c8_i32_348
  let c1_i32_349 : BitVec 32 := 1#32
  let v608 : BitVec 32 := Scalar.subi v607 c1_i32_349
  let v641 : BitVec 32 := Scalar.addi v608 c0_i32_370
  let v642 : Index := Scalar.indexCast v641
  let c0_371 : Index := 0#32
  let c0_372 : Index := 0#32
  ![1, v642.toNat, 0, 0]
def k0_mult97 : BitVec 32 :=
  let c0_i32 : BitVec 32 := 0#32
  let c32_i32 : BitVec 32 := 32#32
  let v62 : BitVec 32 := Scalar.muli c0_i32 c32_i32
  let c0_i32_28 : BitVec 32 := 0#32
  let v63 : BitVec 32 := Scalar.addi v62 c0_i32_28
  let c64_i32_1787 : BitVec 32 := 64#32
  let v3046 : BitVec 32 := Scalar.muli v63 c64_i32_1787
  v3046
def k0_off5 (c0_i32_28 : BitVec 32) : Fin 3 → Nat :=
  let c0_1788 : Index := 0#32
  let c0_i32 : BitVec 32 := 0#32
  let c32_i32 : BitVec 32 := 32#32
  let v62 : BitVec 32 := Scalar.muli c0_i32 c32_i32
  let v63 : BitVec 32 := Scalar.addi v62 c0_i32_28
  let c64_i32_1787 : BitVec 32 := 64#32
  let v3046 : BitVec 32 := Scalar.muli v63 c64_i32_1787
  let v3047 : BitVec 32 := v3046
  let v3048 : Index := Scalar.indexCast v3047
  let c0_1789 : Index := 0#32
  ![0, v3048.toNat, 0]
def k0_mult98 : BitVec 32 :=
  let c0_i32 : BitVec 32 := 0#32
  let c32_i32_29 : BitVec 32 := 32#32
  let v64 : BitVec 32 := Scalar.muli c0_i32 c32_i32_29
  let c1_i32 : BitVec 32 := 1#32
  let v65 : BitVec 32 := Scalar.addi v64 c1_i32
  let c64_i32_1790 : BitVec 32 := 64#32
  let v3060 : BitVec 32 := Scalar.muli v65 c64_i32_1790
  v3060
def k0_mult99 : BitVec 32 :=
  let c0_i32 : BitVec 32 := 0#32
  let c32_i32_30 : BitVec 32 := 32#32
  let v66 : BitVec 32 := Scalar.muli c0_i32 c32_i32_30
  let c2_i32 : BitVec 32 := 2#32
  let v67 : BitVec 32 := Scalar.addi v66 c2_i32
  let c64_i32_1793 : BitVec 32 := 64#32
  let v3074 : BitVec 32 := Scalar.muli v67 c64_i32_1793
  v3074
def k0_mult100 : BitVec 32 :=
  let c0_i32 : BitVec 32 := 0#32
  let c32_i32_31 : BitVec 32 := 32#32
  let v68 : BitVec 32 := Scalar.muli c0_i32 c32_i32_31
  let c3_i32 : BitVec 32 := 3#32
  let v69 : BitVec 32 := Scalar.addi v68 c3_i32
  let c64_i32_1796 : BitVec 32 := 64#32
  let v3088 : BitVec 32 := Scalar.muli v69 c64_i32_1796
  v3088
def k0_mult101 : BitVec 32 :=
  let c0_i32 : BitVec 32 := 0#32
  let c32_i32_32 : BitVec 32 := 32#32
  let v70 : BitVec 32 := Scalar.muli c0_i32 c32_i32_32
  let c4_i32 : BitVec 32 := 4#32
  let v71 : BitVec 32 := Scalar.addi v70 c4_i32
  let c64_i32_1799 : BitVec 32 := 64#32
  let v3102 : BitVec 32 := Scalar.muli v71 c64_i32_1799
  v3102
def k0_mult102 : BitVec 32 :=
  let c0_i32 : BitVec 32 := 0#32
  let c32_i32_33 : BitVec 32 := 32#32
  let v72 : BitVec 32 := Scalar.muli c0_i32 c32_i32_33
  let c5_i32 : BitVec 32 := 5#32
  let v73 : BitVec 32 := Scalar.addi v72 c5_i32
  let c64_i32_1802 : BitVec 32 := 64#32
  let v3116 : BitVec 32 := Scalar.muli v73 c64_i32_1802
  v3116
def k0_mult103 : BitVec 32 :=
  let c0_i32 : BitVec 32 := 0#32
  let c32_i32_34 : BitVec 32 := 32#32
  let v74 : BitVec 32 := Scalar.muli c0_i32 c32_i32_34
  let c6_i32 : BitVec 32 := 6#32
  let v75 : BitVec 32 := Scalar.addi v74 c6_i32
  let c64_i32_1805 : BitVec 32 := 64#32
  let v3130 : BitVec 32 := Scalar.muli v75 c64_i32_1805
  v3130
def k0_mult104 : BitVec 32 :=
  let c0_i32 : BitVec 32 := 0#32
  let c32_i32_35 : BitVec 32 := 32#32
  let v76 : BitVec 32 := Scalar.muli c0_i32 c32_i32_35
  let c7_i32 : BitVec 32 := 7#32
  let v77 : BitVec 32 := Scalar.addi v76 c7_i32
  let c64_i32_1808 : BitVec 32 := 64#32
  let v3144 : BitVec 32 := Scalar.muli v77 c64_i32_1808
  v3144
def k0_mult105 : BitVec 32 :=
  let c0_i32 : BitVec 32 := 0#32
  let c32_i32_36 : BitVec 32 := 32#32
  let v78 : BitVec 32 := Scalar.muli c0_i32 c32_i32_36
  let c8_i32 : BitVec 32 := 8#32
  let v79 : BitVec 32 := Scalar.addi v78 c8_i32
  let c64_i32_1811 : BitVec 32 := 64#32
  let v3158 : BitVec 32 := Scalar.muli v79 c64_i32_1811
  v3158
def k0_mult106 : BitVec 32 :=
  let c0_i32 : BitVec 32 := 0#32
  let c32_i32_37 : BitVec 32 := 32#32
  let v80 : BitVec 32 := Scalar.muli c0_i32 c32_i32_37
  let c9_i32 : BitVec 32 := 9#32
  let v81 : BitVec 32 := Scalar.addi v80 c9_i32
  let c64_i32_1814 : BitVec 32 := 64#32
  let v3172 : BitVec 32 := Scalar.muli v81 c64_i32_1814
  v3172
def k0_mult107 : BitVec 32 :=
  let c0_i32 : BitVec 32 := 0#32
  let c32_i32_38 : BitVec 32 := 32#32
  let v82 : BitVec 32 := Scalar.muli c0_i32 c32_i32_38
  let c10_i32 : BitVec 32 := 10#32
  let v83 : BitVec 32 := Scalar.addi v82 c10_i32
  let c64_i32_1817 : BitVec 32 := 64#32
  let v3186 : BitVec 32 := Scalar.muli v83 c64_i32_1817
  v3186
def k0_mult108 : BitVec 32 :=
  let c0_i32 : BitVec 32 := 0#32
  let c32_i32_39 : BitVec 32 := 32#32
  let v84 : BitVec 32 := Scalar.muli c0_i32 c32_i32_39
  let c11_i32 : BitVec 32 := 11#32
  let v85 : BitVec 32 := Scalar.addi v84 c11_i32
  let c64_i32_1820 : BitVec 32 := 64#32
  let v3200 : BitVec 32 := Scalar.muli v85 c64_i32_1820
  v3200
def k0_mult109 : BitVec 32 :=
  let c0_i32 : BitVec 32 := 0#32
  let c32_i32_40 : BitVec 32 := 32#32
  let v86 : BitVec 32 := Scalar.muli c0_i32 c32_i32_40
  let c12_i32 : BitVec 32 := 12#32
  let v87 : BitVec 32 := Scalar.addi v86 c12_i32
  let c64_i32_1823 : BitVec 32 := 64#32
  let v3214 : BitVec 32 := Scalar.muli v87 c64_i32_1823
  v3214
def k0_mult110 : BitVec 32 :=
  let c0_i32 : BitVec 32 := 0#32
  let c32_i32_41 : BitVec 32 := 32#32
  let v88 : BitVec 32 := Scalar.muli c0_i32 c32_i32_41
  let c13_i32 : BitVec 32 := 13#32
  let v89 : BitVec 32 := Scalar.addi v88 c13_i32
  let c64_i32_1826 : BitVec 32 := 64#32
  let v3228 : BitVec 32 := Scalar.muli v89 c64_i32_1826
  v3228
def k0_mult111 : BitVec 32 :=
  let c0_i32 : BitVec 32 := 0#32
  let c32_i32_42 : BitVec 32 := 32#32
  let v90 : BitVec 32 := Scalar.muli c0_i32 c32_i32_42
  let c14_i32 : BitVec 32 := 14#32
  let v91 : BitVec 32 := Scalar.addi v90 c14_i32
  let c64_i32_1829 : BitVec 32 := 64#32
  let v3242 : BitVec 32 := Scalar.muli v91 c64_i32_1829
  v3242
def k0_mult112 : BitVec 32 :=
  let c0_i32 : BitVec 32 := 0#32
  let c32_i32_43 : BitVec 32 := 32#32
  let v92 : BitVec 32 := Scalar.muli c0_i32 c32_i32_43
  let c15_i32 : BitVec 32 := 15#32
  let v93 : BitVec 32 := Scalar.addi v92 c15_i32
  let c64_i32_1832 : BitVec 32 := 64#32
  let v3256 : BitVec 32 := Scalar.muli v93 c64_i32_1832
  v3256
def k0_mult113 : BitVec 32 :=
  let c0_i32 : BitVec 32 := 0#32
  let c32_i32_44 : BitVec 32 := 32#32
  let v94 : BitVec 32 := Scalar.muli c0_i32 c32_i32_44
  let c16_i32 : BitVec 32 := 16#32
  let v95 : BitVec 32 := Scalar.addi v94 c16_i32
  let c64_i32_1835 : BitVec 32 := 64#32
  let v3270 : BitVec 32 := Scalar.muli v95 c64_i32_1835
  v3270
def k0_mult114 : BitVec 32 :=
  let c0_i32 : BitVec 32 := 0#32
  let c32_i32_45 : BitVec 32 := 32#32
  let v96 : BitVec 32 := Scalar.muli c0_i32 c32_i32_45
  let c17_i32 : BitVec 32 := 17#32
  let v97 : BitVec 32 := Scalar.addi v96 c17_i32
  let c64_i32_1838 : BitVec 32 := 64#32
  let v3284 : BitVec 32 := Scalar.muli v97 c64_i32_1838
  v3284
def k0_mult115 : BitVec 32 :=
  let c0_i32 : BitVec 32 := 0#32
  let c32_i32_46 : BitVec 32 := 32#32
  let v98 : BitVec 32 := Scalar.muli c0_i32 c32_i32_46
  let c18_i32 : BitVec 32 := 18#32
  let v99 : BitVec 32 := Scalar.addi v98 c18_i32
  let c64_i32_1841 : BitVec 32 := 64#32
  let v3298 : BitVec 32 := Scalar.muli v99 c64_i32_1841
  v3298
def k0_mult116 : BitVec 32 :=
  let c0_i32 : BitVec 32 := 0#32
  let c32_i32_47 : BitVec 32 := 32#32
  let v100 : BitVec 32 := Scalar.muli c0_i32 c32_i32_47
  let c19_i32 : BitVec 32 := 19#32
  let v101 : BitVec 32 := Scalar.addi v100 c19_i32
  let c64_i32_1844 : BitVec 32 := 64#32
  let v3312 : BitVec 32 := Scalar.muli v101 c64_i32_1844
  v3312
def k0_mult117 : BitVec 32 :=
  let c0_i32 : BitVec 32 := 0#32
  let c32_i32_48 : BitVec 32 := 32#32
  let v102 : BitVec 32 := Scalar.muli c0_i32 c32_i32_48
  let c20_i32 : BitVec 32 := 20#32
  let v103 : BitVec 32 := Scalar.addi v102 c20_i32
  let c64_i32_1847 : BitVec 32 := 64#32
  let v3326 : BitVec 32 := Scalar.muli v103 c64_i32_1847
  v3326
def k0_mult118 : BitVec 32 :=
  let c0_i32 : BitVec 32 := 0#32
  let c32_i32_49 : BitVec 32 := 32#32
  let v104 : BitVec 32 := Scalar.muli c0_i32 c32_i32_49
  let c21_i32 : BitVec 32 := 21#32
  let v105 : BitVec 32 := Scalar.addi v104 c21_i32
  let c64_i32_1850 : BitVec 32 := 64#32
  let v3340 : BitVec 32 := Scalar.muli v105 c64_i32_1850
  v3340
def k0_mult119 : BitVec 32 :=
  let c0_i32 : BitVec 32 := 0#32
  let c32_i32_50 : BitVec 32 := 32#32
  let v106 : BitVec 32 := Scalar.muli c0_i32 c32_i32_50
  let c22_i32 : BitVec 32 := 22#32
  let v107 : BitVec 32 := Scalar.addi v106 c22_i32
  let c64_i32_1853 : BitVec 32 := 64#32
  let v3354 : BitVec 32 := Scalar.muli v107 c64_i32_1853
  v3354
def k0_mult120 : BitVec 32 :=
  let c0_i32 : BitVec 32 := 0#32
  let c32_i32_51 : BitVec 32 := 32#32
  let v108 : BitVec 32 := Scalar.muli c0_i32 c32_i32_51
  let c23_i32 : BitVec 32 := 23#32
  let v109 : BitVec 32 := Scalar.addi v108 c23_i32
  let c64_i32_1856 : BitVec 32 := 64#32
  let v3368 : BitVec 32 := Scalar.muli v109 c64_i32_1856
  v3368
def k0_mult121 : BitVec 32 :=
  let c0_i32 : BitVec 32 := 0#32
  let c32_i32_52 : BitVec 32 := 32#32
  let v110 : BitVec 32 := Scalar.muli c0_i32 c32_i32_52
  let c24_i32 : BitVec 32 := 24#32
  let v111 : BitVec 32 := Scalar.addi v110 c24_i32
  let c64_i32_1859 : BitVec 32 := 64#32
  let v3382 : BitVec 32 := Scalar.muli v111 c64_i32_1859
  v3382
def k0_mult122 : BitVec 32 :=
  let c0_i32 : BitVec 32 := 0#32
  let c32_i32_53 : BitVec 32 := 32#32
  let v112 : BitVec 32 := Scalar.muli c0_i32 c32_i32_53
  let c25_i32 : BitVec 32 := 25#32
  let v113 : BitVec 32 := Scalar.addi v112 c25_i32
  let c64_i32_1862 : BitVec 32 := 64#32
  let v3396 : BitVec 32 := Scalar.muli v113 c64_i32_1862
  v3396
def k0_mult123 : BitVec 32 :=
  let c0_i32 : BitVec 32 := 0#32
  let c32_i32_54 : BitVec 32 := 32#32
  let v114 : BitVec 32 := Scalar.muli c0_i32 c32_i32_54
  let c26_i32 : BitVec 32 := 26#32
  let v115 : BitVec 32 := Scalar.addi v114 c26_i32
  let c64_i32_1865 : BitVec 32 := 64#32
  let v3410 : BitVec 32 := Scalar.muli v115 c64_i32_1865
  v3410
def k0_mult124 : BitVec 32 :=
  let c0_i32 : BitVec 32 := 0#32
  let c32_i32_55 : BitVec 32 := 32#32
  let v116 : BitVec 32 := Scalar.muli c0_i32 c32_i32_55
  let c27_i32 : BitVec 32 := 27#32
  let v117 : BitVec 32 := Scalar.addi v116 c27_i32
  let c64_i32_1868 : BitVec 32 := 64#32
  let v3424 : BitVec 32 := Scalar.muli v117 c64_i32_1868
  v3424
def k0_mult125 : BitVec 32 :=
  let c0_i32 : BitVec 32 := 0#32
  let c32_i32_56 : BitVec 32 := 32#32
  let v118 : BitVec 32 := Scalar.muli c0_i32 c32_i32_56
  let c28_i32 : BitVec 32 := 28#32
  let v119 : BitVec 32 := Scalar.addi v118 c28_i32
  let c64_i32_1871 : BitVec 32 := 64#32
  let v3438 : BitVec 32 := Scalar.muli v119 c64_i32_1871
  v3438
def k0_mult126 : BitVec 32 :=
  let c0_i32 : BitVec 32 := 0#32
  let c32_i32_57 : BitVec 32 := 32#32
  let v120 : BitVec 32 := Scalar.muli c0_i32 c32_i32_57
  let c29_i32 : BitVec 32 := 29#32
  let v121 : BitVec 32 := Scalar.addi v120 c29_i32
  let c64_i32_1874 : BitVec 32 := 64#32
  let v3452 : BitVec 32 := Scalar.muli v121 c64_i32_1874
  v3452
def k0_mult127 : BitVec 32 :=
  let c0_i32 : BitVec 32 := 0#32
  let c32_i32_58 : BitVec 32 := 32#32
  let v122 : BitVec 32 := Scalar.muli c0_i32 c32_i32_58
  let c30_i32 : BitVec 32 := 30#32
  let v123 : BitVec 32 := Scalar.addi v122 c30_i32
  let c64_i32_1877 : BitVec 32 := 64#32
  let v3466 : BitVec 32 := Scalar.muli v123 c64_i32_1877
  v3466
def k0_mult128 : BitVec 32 :=
  let c0_i32 : BitVec 32 := 0#32
  let c32_i32_59 : BitVec 32 := 32#32
  let v124 : BitVec 32 := Scalar.muli c0_i32 c32_i32_59
  let c31_i32 : BitVec 32 := 31#32
  let v125 : BitVec 32 := Scalar.addi v124 c31_i32
  let c64_i32_1880 : BitVec 32 := 64#32
  let v3480 : BitVec 32 := Scalar.muli v125 c64_i32_1880
  v3480
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x14x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x2048x1536 : Shape := ⟨3, ![16, 2048, 1536]⟩
abbrev S64 : Shape := ⟨1, ![64]⟩
abbrev S8x15x31 : Shape := ⟨3, ![8, 15, 31]⟩
abbrev S16x2048x512 : Shape := ⟨3, ![16, 2048, 512]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x2 : Shape := ⟨3, ![2048, 2048, 2]⟩
abbrev S8x2048x2048 : Shape := ⟨3, ![8, 2048, 2048]⟩
abbrev S16x8x2048x2048 : Shape := ⟨4, ![16, 8, 2048, 2048]⟩
abbrev S1x8x2048x2048 : Shape := ⟨4, ![1, 8, 2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩

abbrev nBuf : Space → Nat
  | .hbm => 175
  | .vmem => 0
  | .smem => 0
  | _ => 0

abbrev hbmTy0_0 (i : Nat) : BufTy := match i % 128 with
  | 0 => ⟨S16x2048x1536, .bf16⟩
  | 1 => ⟨S64, .f32⟩
  | 2 => ⟨S64, .f32⟩
  | 3 => ⟨S8x15x31, .f32⟩
  | 4 => ⟨S16x2048x1536, .f32⟩
  | 5 => ⟨S16x2048x512, .f32⟩
  | 6 => ⟨S16x2048x512, .f32⟩
  | 7 => ⟨S16x2048x512, .f32⟩
  | 8 => ⟨S16x2048x8x64, .f32⟩
  | 9 => ⟨S16x2048x8x64, .f32⟩
  | 10 => ⟨S_, .f32⟩
  | 11 => ⟨S16x2048x8, .f32⟩
  | 12 => ⟨S16x2048x8x1, .f32⟩
  | 13 => ⟨S_, .f32⟩
  | 14 => ⟨S16x2048x8x1, .f32⟩
  | 15 => ⟨S16x2048x8x1, .f32⟩
  | 16 => ⟨S_, .f32⟩
  | 17 => ⟨S16x2048x8x1, .f32⟩
  | 18 => ⟨S16x2048x8x1, .f32⟩
  | 19 => ⟨S16x2048x8x1, .f32⟩
  | 20 => ⟨S16x2048x8x64, .f32⟩
  | 21 => ⟨S16x2048x8x64, .f32⟩
  | 22 => ⟨S1x1x1x64, .f32⟩
  | 23 => ⟨S16x2048x8x64, .f32⟩
  | 24 => ⟨S16x2048x8x64, .f32⟩
  | 25 => ⟨S16x2048x8x64, .f32⟩
  | 26 => ⟨S16x2048x8x64, .f32⟩
  | 27 => ⟨S_, .f32⟩
  | 28 => ⟨S16x2048x8, .f32⟩
  | 29 => ⟨S16x2048x8x1, .f32⟩
  | 30 => ⟨S_, .f32⟩
  | 31 => ⟨S16x2048x8x1, .f32⟩
  | 32 => ⟨S16x2048x8x1, .f32⟩
  | 33 => ⟨S_, .f32⟩
  | 34 => ⟨S16x2048x8x1, .f32⟩
  | 35 => ⟨S16x2048x8x1, .f32⟩
  | 36 => ⟨S16x2048x8x1, .f32⟩
  | 37 => ⟨S16x2048x8x64, .f32⟩
  | 38 => ⟨S16x2048x8x64, .f32⟩
  | 39 => ⟨S1x1x1x64, .f32⟩
  | 40 => ⟨S16x2048x8x64, .f32⟩
  | 41 => ⟨S16x2048x8x64, .f32⟩
  | 42 => ⟨S16x2048x8x64, .f32⟩
  | 43 => ⟨S2048, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S_, .i32⟩
  | 54 => ⟨S_, .i32⟩
  | 55 => ⟨S_, .i32⟩
  | 56 => ⟨S2048, .i32⟩
  | 57 => ⟨S2048, .i32⟩
  | 58 => ⟨S_, .i32⟩
  | 59 => ⟨S2048, .i32⟩
  | 60 => ⟨S2048, .i32⟩
  | 61 => ⟨S_, .i32⟩
  | 62 => ⟨S2048, .i32⟩
  | 63 => ⟨S2048, .i32⟩
  | 64 => ⟨S_, .i32⟩
  | 65 => ⟨S_, .i32⟩
  | 66 => ⟨S_, .i32⟩
  | 67 => ⟨S2048, .i32⟩
  | 68 => ⟨S2048, .i32⟩
  | 69 => ⟨S_, .i32⟩
  | 70 => ⟨S2048, .i32⟩
  | 71 => ⟨S2048, .i32⟩
  | 72 => ⟨S2048x1, .i32⟩
  | 73 => ⟨S2048x1, .i32⟩
  | 74 => ⟨S1x2048, .i32⟩
  | 75 => ⟨S1x2048, .i32⟩
  | 76 => ⟨S2048x1, .i32⟩
  | 77 => ⟨S2048x1, .i32⟩
  | 78 => ⟨S2048x2048, .i32⟩
  | 79 => ⟨S2048x2048, .i32⟩
  | 80 => ⟨S2048x2048, .i1⟩
  | 81 => ⟨S_, .i32⟩
  | 82 => ⟨S2048x1, .i32⟩
  | 83 => ⟨S2048x1, .i32⟩
  | 84 => ⟨S2048x2048, .i32⟩
  | 85 => ⟨S2048x2048, .i32⟩
  | 86 => ⟨S2048x2048, .i1⟩
  | 87 => ⟨S2048x2048, .i1⟩
  | 88 => ⟨S2048x2048, .i32⟩
  | 89 => ⟨S2048x2048, .i32⟩
  | 90 => ⟨S2048x2048, .i1⟩
  | 91 => ⟨S2048x2048, .i1⟩
  | 92 => ⟨S_, .i32⟩
  | 93 => ⟨S2048x1, .i32⟩
  | 94 => ⟨S2048x1, .i32⟩
  | 95 => ⟨S2048x2048, .i32⟩
  | 96 => ⟨S2048x2048, .i32⟩
  | 97 => ⟨S2048x2048, .i1⟩
  | 98 => ⟨S2048x2048, .i1⟩
  | 99 => ⟨S2048x2048, .i32⟩
  | 100 => ⟨S2048x2048, .i32⟩
  | 101 => ⟨S2048x2048, .i32⟩
  | 102 => ⟨S_, .i32⟩
  | 103 => ⟨S2048x2048, .i32⟩
  | 104 => ⟨S2048x2048, .i32⟩
  | 105 => ⟨S_, .i32⟩
  | 106 => ⟨S_, .i32⟩
  | 107 => ⟨S_, .i32⟩
  | 108 => ⟨S2048x2048, .i32⟩
  | 109 => ⟨S2048x2048, .i32⟩
  | 110 => ⟨S_, .i32⟩
  | 111 => ⟨S2048x2048, .i32⟩
  | 112 => ⟨S2048x2048, .i32⟩
  | 113 => ⟨S2048x2048, .i32⟩
  | 114 => ⟨S2048x2048, .i32⟩
  | 115 => ⟨S2048x2048, .i32⟩
  | 116 => ⟨S_, .i32⟩
  | 117 => ⟨S2048x2048, .i32⟩
  | 118 => ⟨S2048x2048, .i32⟩
  | 119 => ⟨S_, .i32⟩
  | 120 => ⟨S_, .i32⟩
  | 121 => ⟨S_, .i32⟩
  | 122 => ⟨S2048x2048, .i32⟩
  | 123 => ⟨S2048x2048, .i32⟩
  | 124 => ⟨S_, .i32⟩
  | 125 => ⟨S2048x2048, .i32⟩
  | 126 => ⟨S2048x2048, .i32⟩
  | 127 => ⟨S_, .i32⟩
  | _ => ⟨S16x2048x1536, .bf16⟩

abbrev hbmTy0_1 (i : Nat) : BufTy := match i % 128 with
  | 0 => ⟨S2048x2048, .i32⟩
  | 1 => ⟨S2048x2048, .i1⟩
  | 2 => ⟨S_, .i32⟩
  | 3 => ⟨S2048x2048, .i32⟩
  | 4 => ⟨S2048x2048, .i32⟩
  | 5 => ⟨S2048x2048, .i32⟩
  | 6 => ⟨S_, .i32⟩
  | 7 => ⟨S2048x2048, .i32⟩
  | 8 => ⟨S2048x2048, .i1⟩
  | 9 => ⟨S_, .i32⟩
  | 10 => ⟨S2048x2048, .i32⟩
  | 11 => ⟨S2048x2048, .i32⟩
  | 12 => ⟨S2048x2048, .i32⟩
  | 13 => ⟨S2048x2048x1, .i32⟩
  | 14 => ⟨S2048x2048x1, .i32⟩
  | 15 => ⟨S2048x2048x2, .i32⟩
  | 16 => ⟨S8x2048x2048, .f32⟩
  | 17 => ⟨S16x8x2048x2048, .f32⟩
  | 18 => ⟨S_, .f32⟩
  | 19 => ⟨S16x8x2048x2048, .f32⟩
  | 20 => ⟨S16x8x2048x2048, .f32⟩
  | 21 => ⟨S1x8x2048x2048, .f32⟩
  | 22 => ⟨S16x8x2048x2048, .f32⟩
  | 23 => ⟨S16x8x2048x2048, .f32⟩
  | 24 => ⟨S_, .f32⟩
  | 25 => ⟨S_, .f32⟩
  | 26 => ⟨S16x8x2048x2048, .i1⟩
  | 27 => ⟨S16x8x2048x2048, .f32⟩
  | 28 => ⟨S16x8x2048x2048, .f32⟩
  | 29 => ⟨S_, .f32⟩
  | 30 => ⟨S16x8x2048, .f32⟩
  | 31 => ⟨S_, .f32⟩
  | 32 => ⟨S16x8x2048, .f32⟩
  | 33 => ⟨S16x8x2048, .f32⟩
  | 34 => ⟨S16x8x2048x1, .f32⟩
  | 35 => ⟨S16x8x2048x2048, .f32⟩
  | 36 => ⟨S16x8x2048x2048, .f32⟩
  | 37 => ⟨S16x8x2048x2048, .f32⟩
  | 38 => ⟨S_, .f32⟩
  | 39 => ⟨S16x8x2048, .f32⟩
  | 40 => ⟨S16x8x2048x1, .f32⟩
  | 41 => ⟨S16x8x2048x2048, .f32⟩
  | 42 => ⟨S16x8x2048x2048, .f32⟩
  | 43 => ⟨S16x8x64x2048, .f32⟩
  | 44 => ⟨S16x2048x8x64, .f32⟩
  | 45 => ⟨S16x2048x512, .f32⟩
  | 46 => ⟨S16x2048x512, .bf16⟩
  | _ => ⟨S16x2048x1536, .bf16⟩

abbrev hbmTy (i : Nat) : BufTy := match i / 128 with
  | 0 => hbmTy0_0 i
  | 1 => hbmTy0_1 i
  | _ => ⟨S16x2048x1536, .bf16⟩

abbrev bufTy : (tb : Table) → Fin (tcTables nBuf tb) → BufTy
  | .hbm, ⟨i, _⟩ => hbmTy i
  | _, _ => ⟨S16x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_c_8 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_c_11 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_c_16 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_17 : Ref sig .tc := ⟨.hbm, 116, rfl⟩
abbrev main_v78 : Ref sig .tc := ⟨.hbm, 117, rfl⟩
abbrev main_v79 : Ref sig .tc := ⟨.hbm, 118, rfl⟩
abbrev main_c_18 : Ref sig .tc := ⟨.hbm, 119, rfl⟩
abbrev main_c_19 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_v80 : Ref sig .tc := ⟨.hbm, 126, rfl⟩
abbrev main_c_20 : Ref sig .tc := ⟨.hbm, 127, rfl⟩
abbrev main_v81 : Ref sig .tc := ⟨.hbm, 128, rfl⟩
abbrev main_v82 : Ref sig .tc := ⟨.hbm, 129, rfl⟩
abbrev main_c_21 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_22 : Ref sig .tc := ⟨.hbm, 134, rfl⟩
abbrev main_v86 : Ref sig .tc := ⟨.hbm, 135, rfl⟩
abbrev main_v87 : Ref sig .tc := ⟨.hbm, 136, rfl⟩
abbrev main_c_23 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_24 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_25 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v101 : Ref sig .tc := ⟨.hbm, 156, rfl⟩
abbrev main_cst_26 : Ref sig .tc := ⟨.hbm, 157, rfl⟩
abbrev main_v102 : Ref sig .tc := ⟨.hbm, 158, rfl⟩
abbrev main_cst_27 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_cst_28 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩

abbrev nD : Nat := 1
abbrev τ : Topo := Topo.v7x

variable {F : FTy → Type} [FloatOps F]
-- ==== Projection.lean ====
abbrev S16x2048x1024 : Shape := ⟨3, ![16, 2048, 1024]⟩
abbrev S1024 : Shape := ⟨1, ![1024]⟩
abbrev S1024x5504 : Shape := ⟨2, ![1024, 5504]⟩
abbrev S32768x1024 : Shape := ⟨2, ![32768, 1024]⟩
abbrev S1x1024 : Shape := ⟨2, ![1, 1024]⟩
abbrev S1024x1920 : Shape := ⟨2, ![1024, 1920]⟩
abbrev S1024x1536 : Shape := ⟨2, ![1024, 1536]⟩
abbrev S1024x2048 : Shape := ⟨2, ![1024, 2048]⟩
abbrev S32768x1920 : Shape := ⟨2, ![32768, 1920]⟩
abbrev S32768x1536 : Shape := ⟨2, ![32768, 1536]⟩
abbrev S32768x2048 : Shape := ⟨2, ![32768, 2048]⟩
abbrev S512x1024 : Shape := ⟨2, ![512, 1024]⟩
abbrev S512x1920 : Shape := ⟨2, ![512, 1920]⟩
abbrev S512x1536 : Shape := ⟨2, ![512, 1536]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5504, .f32⟩
  | .hbm, ⟨3, _⟩ => ⟨S1024x5504, .bf16⟩
  | .hbm, ⟨4, _⟩ => ⟨S32768x1024, .f32⟩
  | .hbm, ⟨5, _⟩ => ⟨S1x1024, .f32⟩
  | .hbm, ⟨6, _⟩ => ⟨S1024x1920, .bf16⟩
  | .hbm, ⟨7, _⟩ => ⟨S1024x1536, .bf16⟩
  | .hbm, ⟨8, _⟩ => ⟨S1024x2048, .bf16⟩
  | .hbm, ⟨9, _⟩ => ⟨S32768x1920, .bf16⟩
  | .hbm, ⟨10, _⟩ => ⟨S32768x1536, .bf16⟩
  | .hbm, ⟨11, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S1024x1536, .bf16⟩
  | .local _ .vmem, ⟨5, _⟩ => ⟨S1024x2048, .bf16⟩
  | .local _ .vmem, ⟨6, _⟩ => ⟨S512x1920, .bf16⟩
  | .local _ .vmem, ⟨7, _⟩ => ⟨S512x1920, .bf16⟩
  | .local _ .vmem, ⟨8, _⟩ => ⟨S512x1536, .bf16⟩
  | .local _ .vmem, ⟨9, _⟩ => ⟨S512x1536, .bf16⟩
  | .local _ .vmem, ⟨10, _⟩ => ⟨S512x2048, .bf16⟩
  | .local _ .vmem, ⟨11, _⟩ => ⟨S512x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1920 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjectionReferenceIdeal.lean ====
abbrev S16x2048x1024 : Shape := ⟨3, ![16, 2048, 1024]⟩
abbrev S1024 : Shape := ⟨1, ![1024]⟩
abbrev S1024x5504 : Shape := ⟨2, ![1024, 5504]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5504 : Shape := ⟨3, ![16, 2048, 5504]⟩
abbrev S16x2048x1920 : Shape := ⟨3, ![16, 2048, 1920]⟩
abbrev S16x2048x1536 : Shape := ⟨3, ![16, 2048, 1536]⟩
abbrev S16x2048x2048 : Shape := ⟨3, ![16, 2048, 2048]⟩
abbrev S32768x1920 : Shape := ⟨2, ![32768, 1920]⟩
abbrev S32768x1536 : Shape := ⟨2, ![32768, 1536]⟩
abbrev S32768x2048 : Shape := ⟨2, ![32768, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5504, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x5504, .f32⟩
  | .hbm, ⟨20, _⟩ => ⟨S16x2048x1920, .f32⟩
  | .hbm, ⟨21, _⟩ => ⟨S16x2048x1536, .f32⟩
  | .hbm, ⟨22, _⟩ => ⟨S16x2048x2048, .f32⟩
  | .hbm, ⟨23, _⟩ => ⟨S16x2048x1920, .bf16⟩
  | .hbm, ⟨24, _⟩ => ⟨S32768x1920, .bf16⟩
  | .hbm, ⟨25, _⟩ => ⟨S16x2048x1536, .bf16⟩
  | .hbm, ⟨26, _⟩ => ⟨S32768x1536, .bf16⟩
  | .hbm, ⟨27, _⟩ => ⟨S16x2048x2048, .bf16⟩
  | .hbm, ⟨28, _⟩ => ⟨S32768x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S1179648x128 : Shape := ⟨2, ![1179648, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S1179648x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S288, .i32⟩
  | .local _ .smem, ⟨2, _⟩ => ⟨S1, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S288 : Shape := ⟨1, ![288]⟩
abbrev S1 : Shape := ⟨1, ![1]⟩
abbrev S1179648x128 : Shape := ⟨2, ![1179648, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x1x2048 : Shape := ⟨3, ![288, 1, 2048]⟩
abbrev S288x1024x1024 : Shape := ⟨3, ![288, 1024, 1024]⟩
abbrev S288x1x1024 : Shape := ⟨3, ![288, 1, 1024]⟩
abbrev S288x1x1 : Shape := ⟨3, ![288, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S1, .i32⟩
  | .hbm, ⟨3, _⟩ => ⟨S1179648x128, .f32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S288x512x1024, .f32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S288x512x1024, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x1024x2048, .f32⟩
  | .hbm, ⟨27, _⟩ => ⟨S288x512x2048, .f32⟩
  | .hbm, ⟨28, _⟩ => ⟨S_, .i32⟩
  | .hbm, ⟨29, _⟩ => ⟨S288, .i32⟩
  | .hbm, ⟨30, _⟩ => ⟨S288, .i1⟩
  | .hbm, ⟨31, _⟩ => ⟨S_, .i32⟩
  | .hbm, ⟨32, _⟩ => ⟨S288, .i32⟩
  | .hbm, ⟨33, _⟩ => ⟨S288, .i32⟩
  | .hbm, ⟨34, _⟩ => ⟨S288, .i32⟩
  | .hbm, ⟨35, _⟩ => ⟨S288x1, .i32⟩
  | .hbm, ⟨36, _⟩ => ⟨S288x1x2048, .f32⟩
  | .hbm, ⟨37, _⟩ => ⟨S288x512x2048, .f32⟩
  | .hbm, ⟨38, _⟩ => ⟨S288x512x2048, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S288x512x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S288x512x1024, .f32⟩
  | .hbm, ⟨48, _⟩ => ⟨S288x512x1024, .f32⟩
  | .hbm, ⟨49, _⟩ => ⟨S_, .f32⟩
  | .hbm, ⟨50, _⟩ => ⟨S288x512x1024, .f32⟩
  | .hbm, ⟨51, _⟩ => ⟨S288x512x1024, .f32⟩
  | .hbm, ⟨52, _⟩ => ⟨S_, .f32⟩
  | .hbm, ⟨53, _⟩ => ⟨S288x512x1024, .f32⟩
  | .hbm, ⟨54, _⟩ => ⟨S288x512x1024, .f32⟩
  | .hbm, ⟨55, _⟩ => ⟨S288x512x1024, .f32⟩
  | .hbm, ⟨56, _⟩ => ⟨S288x512x1024, .f32⟩
  | .hbm, ⟨57, _⟩ => ⟨S_, .f32⟩
  | .hbm, ⟨58, _⟩ => ⟨S288x512x1024, .f32⟩
  | .hbm, ⟨59, _⟩ => ⟨S288x512x1024, .f32⟩
  | .hbm, ⟨60, _⟩ => ⟨S_, .f32⟩
  | .hbm, ⟨61, _⟩ => ⟨S288x512x1024, .f32⟩
  | .hbm, ⟨62, _⟩ => ⟨S288x512x1024, .f32⟩
  | .hbm, ⟨63, _⟩ => ⟨S288x512x1024, .f32⟩
  | .hbm, ⟨64, _⟩ => ⟨S_, .f32⟩
  | .hbm, ⟨65, _⟩ => ⟨S288x512x1024, .f32⟩
  | .hbm, ⟨66, _⟩ => ⟨S288x512x1024, .f32⟩
  | .hbm, ⟨67, _⟩ => ⟨S288x512x1024, .f32⟩
  | .hbm, ⟨68, _⟩ => ⟨S_, .i32⟩
  | .hbm, ⟨69, _⟩ => ⟨S288, .i32⟩
  | .hbm, ⟨70, _⟩ => ⟨S288, .i1⟩
  | .hbm, ⟨71, _⟩ => ⟨S_, .i32⟩
  | .hbm, ⟨72, _⟩ => ⟨S288, .i32⟩
  | .hbm, ⟨73, _⟩ => ⟨S288, .i32⟩
  | .hbm, ⟨74, _⟩ => ⟨S288, .i32⟩
  | .hbm, ⟨75, _⟩ => ⟨S288x1, .i32⟩
  | .hbm, ⟨76, _⟩ => ⟨S288x1024x1024, .f32⟩
  | .hbm, ⟨77, _⟩ => ⟨S288x512x1024, .f32⟩
  | .hbm, ⟨78, _⟩ => ⟨S_, .i32⟩
  | .hbm, ⟨79, _⟩ => ⟨S288, .i32⟩
  | .hbm, ⟨80, _⟩ => ⟨S288, .i1⟩
  | .hbm, ⟨81, _⟩ => ⟨S_, .i32⟩
  | .hbm, ⟨82, _⟩ => ⟨S288, .i32⟩
  | .hbm, ⟨83, _⟩ => ⟨S288, .i32⟩
  | .hbm, ⟨84, _⟩ => ⟨S288, .i32⟩
  | .hbm, ⟨85, _⟩ => ⟨S288x1, .i32⟩
  | .hbm, ⟨86, _⟩ => ⟨S288x1x1024, .f32⟩
  | .hbm, ⟨87, _⟩ => ⟨S288x512x1024, .f32⟩
  | .hbm, ⟨88, _⟩ => ⟨S288x512x1024, .f32⟩
  | .hbm, ⟨89, _⟩ => ⟨S288, .i32⟩
  | .hbm, ⟨90, _⟩ => ⟨S_, .i32⟩
  | .hbm, ⟨91, _⟩ => ⟨S288, .i32⟩
  | .hbm, ⟨92, _⟩ => ⟨S288, .i1⟩
  | .hbm, ⟨93, _⟩ => ⟨S288x1x1, .i1⟩
  | .hbm, ⟨94, _⟩ => ⟨S_, .f32⟩
  | .hbm, ⟨95, _⟩ => ⟨S_, .f32⟩
  | .hbm, ⟨96, _⟩ => ⟨S288x512x1024, .i1⟩
  | .hbm, ⟨97, _⟩ => ⟨S288x512x1024, .f32⟩
  | .hbm, ⟨98, _⟩ => ⟨S288x512x1024, .f32⟩
  | .hbm, ⟨99, _⟩ => ⟨S1179648x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_cst_6 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_13 : Ref sig .tc := ⟨.hbm, 78, rfl⟩
abbrev main_v50 : Ref sig .tc := ⟨.hbm, 79, rfl⟩
abbrev main_v51 : Ref sig .tc := ⟨.hbm, 80, rfl⟩
abbrev main_c_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_15 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Shift.lean ====
abbrev S16x2048x1920 : Shape := ⟨3, ![16, 2048, 1920]⟩
abbrev S1x1920 : Shape := ⟨2, ![1, 1920]⟩
abbrev S1x1024 : Shape := ⟨2, ![1, 1024]⟩
abbrev S128x1024 : Shape := ⟨2, ![128, 1024]⟩
abbrev S128x512 : Shape := ⟨2, ![128, 512]⟩
abbrev S1x512 : Shape := ⟨2, ![1, 512]⟩
abbrev S512x512 : Shape := ⟨2, ![512, 512]⟩
abbrev S_ : Shape := ⟨0, ![]⟩
abbrev S1x128x1024 : Shape := ⟨3, ![1, 128, 1024]⟩
abbrev S2x128x1024 : Shape := ⟨3, ![2, 128, 1024]⟩
abbrev S1x128x512 : Shape := ⟨3, ![1, 128, 512]⟩
abbrev S2x128x512 : Shape := ⟨3, ![2, 128, 512]⟩
abbrev S16x4x2048x128 : Shape := ⟨4, ![16, 4, 2048, 128]⟩
abbrev S16x2048x512 : Shape := ⟨3, ![16, 2048, 512]⟩
abbrev S1x512x1920 : Shape := ⟨3, ![1, 512, 1920]⟩
abbrev S1x16x1920 : Shape := ⟨3, ![1, 16, 1920]⟩
abbrev S1x4x512x128 : Shape := ⟨4, ![1, 4, 512, 128]⟩
abbrev S1x512x512 : Shape := ⟨3, ![1, 512, 512]⟩
abbrev S512x1920 : Shape := ⟨2, ![512, 1920]⟩
abbrev S1x1x1920 : Shape := ⟨3, ![1, 1, 1920]⟩
abbrev S512x1 : Shape := ⟨2, ![512, 1]⟩
abbrev S512x128 : Shape := ⟨2, ![512, 128]⟩
abbrev S512x1024 : Shape := ⟨2, ![512, 1024]⟩
abbrev S1x1x512x128 : Shape := ⟨4, ![1, 1, 512, 128]⟩

abbrev nBuf : Space → Nat
  | .hbm => 53
  | .vmem => 39
  | .smem => 0
  | _ => 0

abbrev bufTy : (tb : Table) → Fin (tcTables nBuf tb) → BufTy
  | .hbm, ⟨0, _⟩ => ⟨S16x2048x1920, .bf16⟩
  | .hbm, ⟨1, _⟩ => ⟨S1x1920, .f32⟩
  | .hbm, ⟨2, _⟩ => ⟨S1x1920, .f32⟩
  | .hbm, ⟨3, _⟩ => ⟨S1x1024, .f32⟩
  | .hbm, ⟨4, _⟩ => ⟨S128x1024, .f32⟩
  | .hbm, ⟨5, _⟩ => ⟨S1x1024, .f32⟩
  | .hbm, ⟨6, _⟩ => ⟨S128x1024, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S512x512, .i32⟩
  | .hbm, ⟨12, _⟩ => ⟨S_, .i32⟩
  | .hbm, ⟨13, _⟩ => ⟨S512x512, .i32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .bf16⟩
  | .hbm, ⟨21, _⟩ => ⟨S128x1024, .bf16⟩
  | .hbm, ⟨22, _⟩ => ⟨S128x1024, .f32⟩
  | .hbm, ⟨23, _⟩ => ⟨S128x1024, .f32⟩
  | .hbm, ⟨24, _⟩ => ⟨S128x1024, .bf16⟩
  | .hbm, ⟨25, _⟩ => ⟨S1x128x1024, .bf16⟩
  | .hbm, ⟨26, _⟩ => ⟨S1x128x1024, .bf16⟩
  | .hbm, ⟨27, _⟩ => ⟨S2x128x1024, .bf16⟩
  | .hbm, ⟨28, _⟩ => ⟨S128x1024, .bf16⟩
  | .hbm, ⟨29, _⟩ => ⟨S128x1024, .f32⟩
  | .hbm, ⟨30, _⟩ => ⟨S128x1024, .f32⟩
  | .hbm, ⟨31, _⟩ => ⟨S128x1024, .bf16⟩
  | .hbm, ⟨32, _⟩ => ⟨S1x128x1024, .bf16⟩
  | .hbm, ⟨33, _⟩ => ⟨S1x128x1024, .bf16⟩
  | .hbm, ⟨34, _⟩ => ⟨S2x128x1024, .bf16⟩
  | .hbm, ⟨35, _⟩ => ⟨S128x512, .bf16⟩
  | .hbm, ⟨36, _⟩ => ⟨S128x512, .f32⟩
  | .hbm, ⟨37, _⟩ => ⟨S128x512, .f32⟩
  | .hbm, ⟨38, _⟩ => ⟨S128x512, .bf16⟩
  | .hbm, ⟨39, _⟩ => ⟨S1x128x512, .bf16⟩
  | .hbm, ⟨40, _⟩ => ⟨S1x128x512, .bf16⟩
  | .hbm, ⟨41, _⟩ => ⟨S2x128x512, .bf16⟩
  | .hbm, ⟨42, _⟩ => ⟨S16x4x2048x128, .bf16⟩
  | .hbm, ⟨43, _⟩ => ⟨S16x4x2048x128, .bf16⟩
  | .hbm, ⟨44, _⟩ => ⟨S16x4x2048x128, .bf16⟩
  | .hbm, ⟨45, _⟩ => ⟨S16x4x2048x128, .f32⟩
  | .hbm, ⟨46, _⟩ => ⟨S16x4x2048x128, .f32⟩
  | .hbm, ⟨47, _⟩ => ⟨S16x4x2048x128, .bf16⟩
  | .hbm, ⟨48, _⟩ => ⟨S16x4x2048x128, .bf16⟩
  | .hbm, ⟨49, _⟩ => ⟨S16x4x2048x128, .bf16⟩
  | .hbm, ⟨50, _⟩ => ⟨S16x4x2048x128, .bf16⟩
  | .hbm, ⟨51, _⟩ => ⟨S16x2048x512, .bf16⟩
  | .hbm, ⟨52, _⟩ => ⟨S16x2048x512, .bf16⟩
  | .local _ .vmem, ⟨0, _⟩ => ⟨S1x512x1920, .bf16⟩
  | .local _ .vmem, ⟨1, _⟩ => ⟨S1x512x1920, .bf16⟩
  | .local _ .vmem, ⟨2, _⟩ => ⟨S1x16x1920, .bf16⟩
  | .local _ .vmem, ⟨3, _⟩ => ⟨S1x16x1920, .bf16⟩
  | .local _ .vmem, ⟨4, _⟩ => ⟨S1x16x1920, .bf16⟩
  | .local _ .vmem, ⟨5, _⟩ => ⟨S1x16x1920, .bf16⟩
  | .local _ .vmem, ⟨6, _⟩ => ⟨S1x1920, .f32⟩
  | .local _ .vmem, ⟨7, _⟩ => ⟨S1x1920, .f32⟩
  | .local _ .vmem, ⟨8, _⟩ => ⟨S1x1024, .f32⟩
  | .local _ .vmem, ⟨9, _⟩ => ⟨S2x128x1024, .bf16⟩
  | .local _ .vmem, ⟨10, _⟩ => ⟨S1x1024, .f32⟩
  | .local _ .vmem, ⟨11, _⟩ => ⟨S2x128x1024, .bf16⟩
  | .local _ .vmem, ⟨12, _⟩ => ⟨S2x128x512, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S1x4x512x128, .bf16⟩
  | .local _ .vmem, ⟨18, _⟩ => ⟨S1x4x512x128, .bf16⟩
  | .local _ .vmem, ⟨19, _⟩ => ⟨S1x4x512x128, .bf16⟩
  | .local _ .vmem, ⟨20, _⟩ => ⟨S1x4x512x128, .bf16⟩
  | .local _ .vmem, ⟨21, _⟩ => ⟨S1x4x512x128, .bf16⟩
  | .local _ .vmem, ⟨22, _⟩ => ⟨S1x4x512x128, .bf16⟩
  | .local _ .vmem, ⟨23, _⟩ => ⟨S1x4x512x128, .f32⟩
  | .local _ .vmem, ⟨24, _⟩ => ⟨S1x4x512x128, .f32⟩
  | .local _ .vmem, ⟨25, _⟩ => ⟨S1x4x512x128, .f32⟩
  | .local _ .vmem, ⟨26, _⟩ => ⟨S1x4x512x128, .f32⟩
  | .local _ .vmem, ⟨27, _⟩ => ⟨S1x4x512x128, .bf16⟩
  | .local _ .vmem, ⟨28, _⟩ => ⟨S1x4x512x128, .bf16⟩
  | .local _ .vmem, ⟨29, _⟩ => ⟨S1x4x512x128, .bf16⟩
  | .local _ .vmem, ⟨30, _⟩ => ⟨S1x4x512x128, .bf16⟩
  | .local _ .vmem, ⟨31, _⟩ => ⟨S1x4x512x128, .bf16⟩
  | .local _ .vmem, ⟨32, _⟩ => ⟨S1x4x512x128, .bf16⟩
  | .local _ .vmem, ⟨33, _⟩ => ⟨S1x4x512x128, .bf16⟩
  | .local _ .vmem, ⟨34, _⟩ => ⟨S1x4x512x128, .bf16⟩
  | .local _ .vmem, ⟨35, _⟩ => ⟨S1x512x512, .bf16⟩
  | .local _ .vmem, ⟨36, _⟩ => ⟨S1x512x512, .bf16⟩
  | .local _ .vmem, ⟨37, _⟩ => ⟨S1x512x512, .bf16⟩
  | .local _ .vmem, ⟨38, _⟩ => ⟨S1x512x512, .bf16⟩
  | _, _ => ⟨S16x2048x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_v29_6 : Ref sig .tc := ⟨.hbm, 48, rfl⟩
abbrev main_v29_7 : Ref sig .tc := ⟨.hbm, 49, rfl⟩
abbrev main_v29_8 : Ref sig .tc := ⟨.hbm, 50, rfl⟩
abbrev main_v29_9 : Ref sig .tc := ⟨.hbm, 51, rfl⟩
abbrev main_v29_10 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1920 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x4x512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== ShiftReferenceIdeal.lean ====
abbrev S16x2048x1920 : Shape := ⟨3, ![16, 2048, 1920]⟩
abbrev S1x1920 : Shape := ⟨2, ![1, 1920]⟩
abbrev S1x1024 : Shape := ⟨2, ![1, 1024]⟩
abbrev S128x1024 : Shape := ⟨2, ![128, 1024]⟩
abbrev S128x512 : Shape := ⟨2, ![128, 512]⟩
abbrev S1x512 : Shape := ⟨2, ![1, 512]⟩
abbrev S_ : Shape := ⟨0, ![]⟩
abbrev S16x1x1920 : Shape := ⟨3, ![16, 1, 1920]⟩
abbrev S16x2047x1920 : Shape := ⟨3, ![16, 2047, 1920]⟩
abbrev S1920 : Shape := ⟨1, ![1920]⟩
abbrev S1x1x1920 : Shape := ⟨3, ![1, 1, 1920]⟩
abbrev S16x2048x512 : Shape := ⟨3, ![16, 2048, 512]⟩
abbrev S16x2048x4x128 : Shape := ⟨4, ![16, 2048, 4, 128]⟩
abbrev S16x4x2048x128 : Shape := ⟨4, ![16, 4, 2048, 128]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x1920, .bf16⟩
  | .hbm, ⟨1, _⟩ => ⟨S1x1920, .f32⟩
  | .hbm, ⟨2, _⟩ => ⟨S1x1920, .f32⟩
  | .hbm, ⟨3, _⟩ => ⟨S1x1024, .f32⟩
  | .hbm, ⟨4, _⟩ => ⟨S128x1024, .f32⟩
  | .hbm, ⟨5, _⟩ => ⟨S1x1024, .f32⟩
  | .hbm, ⟨6, _⟩ => ⟨S128x1024, .f32⟩
  | .hbm, ⟨7, _⟩ => ⟨S128x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S16x2048x1920, .f32⟩
  | .hbm, ⟨12, _⟩ => ⟨S_, .f32⟩
  | .hbm, ⟨13, _⟩ => ⟨S16x1x1920, .f32⟩
  | .hbm, ⟨14, _⟩ => ⟨S16x2047x1920, .f32⟩
  | .hbm, ⟨15, _⟩ => ⟨S16x2048x1920, .f32⟩
  | .hbm, ⟨16, _⟩ => ⟨S16x2047x1920, .f32⟩
  | .hbm, ⟨17, _⟩ => ⟨S16x2048x1920, .f32⟩
  | .hbm, ⟨18, _⟩ => ⟨S1920, .f32⟩
  | .hbm, ⟨19, _⟩ => ⟨S16x2048x1920, .f32⟩
  | .hbm, ⟨20, _⟩ => ⟨S1x1x1920, .f32⟩
  | .hbm, ⟨21, _⟩ => ⟨S16x2048x1920, .f32⟩
  | .hbm, ⟨22, _⟩ => ⟨S16x2048x1920, .f32⟩
  | .hbm, ⟨23, _⟩ => ⟨S16x2048x1920, .f32⟩
  | .hbm, ⟨24, _⟩ => ⟨S1920, .f32⟩
  | .hbm, ⟨25, _⟩ => ⟨S16x2048x1920, .f32⟩
  | .hbm, ⟨26, _⟩ => ⟨S1x1x1920, .f32⟩
  | .hbm, ⟨27, _⟩ => ⟨S16x2048x1920, .f32⟩
  | .hbm, ⟨28, _⟩ => ⟨S16x2048x1920, .f32⟩
  | .hbm, ⟨29, _⟩ => ⟨S16x2048x1920, .f32⟩
  | .hbm, ⟨30, _⟩ => ⟨S16x2048x512, .f32⟩
  | .hbm, ⟨31, _⟩ => ⟨S16x2048x4x128, .f32⟩
  | .hbm, ⟨32, _⟩ => ⟨S16x4x2048x128, .f32⟩
  | .hbm, ⟨33, _⟩ => ⟨S16x4x2048x128, .bf16⟩
  | .hbm, ⟨34, _⟩ => ⟨S16x2048x512, .f32⟩
  | .hbm, ⟨35, _⟩ => ⟨S16x2048x4x128, .f32⟩
  | .hbm, ⟨36, _⟩ => ⟨S16x4x2048x128, .f32⟩
  | .hbm, ⟨37, _⟩ => ⟨S16x4x2048x128, .bf16⟩
  | _, _ => ⟨S16x2048x1920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Host.lean ====
/- What the host prepares for the attention kernel: the bias table, the block of ones and the repeated gains. -/
module

public import proofs.«01_k».proof.Proof.Gen.KernelIdeal.Frame.Runs
public import Idealize.ShloMosaic.Lib.Pointwise

@[expose] public section

noncomputable section

namespace Cert.KernelIdeal.Host

open Cert.KernelIdeal Cert.KernelIdeal.Gen Idealize.ShloMosaic Idealize.ShloMosaic.TcCoe Idealize.ShloMosaic.Tactic

variable {F : FTy → Type} [FloatOps F]

/-- The query column of an entry of the 64 by 64 table of columns. -/
def queryCol : IVec S64x64 32 := iotaInDim S64x64 32 0

/-- The key column. -/
def keyCol : IVec S64x64 32 := iotaInDim S64x64 32 1

/-- The same word at every entry. -/
def word (n : BitVec 32) : IVec S64x64 32 := broadcastInDim S64x64 ![] bcast_S_S64x64 (constantI S_ 32 n)

/-- The first column of the query's window. -/
def firstCol : IVec S64x64 32 := minsi (word 48#32) (maxsi (word 0#32) (subi queryCol (word 8#32)))

/-- The key columns of the window. -/
def inside : IVec S64x64 1 := andi (cmpi .sge keyCol firstCol) (cmpi .slt keyCol (addi firstCol (word 16#32)))

/-- The bias column of a query column and a key column. -/
def biasIndex : IVec S64x64 32 :=
  minsi (word 30#32) (maxsi (word 0#32) (subi (addi (subi keyCol queryCol) (word 16#32)) (word 1#32)))

/-- One in the row of the bias column, zero in the other rows. -/
def oneHot : Vec F S31x4096 .f32 :=
  uitofp .f32 (cmpi .eq (broadcastInDim S31x4096 ![0, 1] bcast_S1x4096_S31x4096_0_1 (shapeCast S1x4096 biasIndex shapeCasts_S64x64_S1x4096))
    (iotaInDim S31x4096 32 0))

/-- The bias of every head and bias row at every pair of columns. -/
def spread (w : Vec F S8x15x31 .f32) : Vec F S8x15x64x64 .f32 :=
  shapeCast S8x15x64x64
    (Host.dotGeneral dot_S120x31_S31x4096_S120x4096_1_0_0_1_n_n (some .fp32) (shapeCast S120x31 w shapeCasts_S8x15x31_S120x31) oneHot)
    shapeCasts_S120x4096_S8x15x64x64

/-- Minus infinity outside the window's columns. -/
def masked (w : Vec F S8x15x31 .f32) : Vec F S8x15x64x64 .f32 :=
  select (broadcastInDim S8x15x64x64 ![0, 1, 2, 3] bcast_S1x1x64x64_S8x15x64x64_0_1_2_3
      (broadcastInDim S1x1x64x64 ![2, 3] bcast_S64x64_S1x1x64x64_2_3 inside))
    (spread w) (broadcastInDim S8x15x64x64 ![] bcast_S_S8x15x64x64 (constant S_ .f32 0xFF800000#32))

/-- The table: two successive bias rows side by side. -/
def table (w : Vec F S8x15x31 .f32) : Vec F S8x14x64x128 .f32 :=
  concatenate S8x14x64x128 3 [⟨S8x14x64x64, extractStridedSlice S8x14x64x64 ![0, 0, 0, 0] (masked w) slices_S8x15x64x64_S8x14x64x64_0_0_0_0⟩,
    ⟨S8x14x64x64, extractStridedSlice S8x14x64x64 ![0, 1, 0, 0] (masked w) slices_S8x15x64x64_S8x14x64x64_0_1_0_0⟩]
    concatenates_S8x14x64x64_S8x14x64x64_S8x14x64x128_d3

/-- The head of a lane, by its row or its column. -/
def headOf (a : Fin 2) : IVec S128x128 32 :=
  Host.divsi (iotaInDim S128x128 32 a) (broadcastInDim S128x128 ![] bcast_S_S128x128 (constantI S_ 32 64#32))

/-- Ones where both lanes lie in the same head. -/
def ones : Vec F S128x128 .bf16 := uitofp .bf16 (cmpi .eq (headOf 0) (headOf 1))

/-- A gain repeated for both heads of a pair. -/
def repeated (g : Vec F S64 .f32) : Vec F S1x128 .f32 :=
  shapeCast S1x128 (broadcastInDim S1x1x2x64 ![0, 1, 2, 3] bcast_S1x1x1x64_S1x1x2x64_0_1_2_3
    (shapeCast S1x1x1x64 (shapeCast S1x64 g shapeCasts_S64_S1x64) shapeCasts_S1x64_S1x1x1x64)) shapeCasts_S1x1x2x64_S1x128

variable (m : (ℓ : Loc nD τ sig) → Buf (Elt F) ℓ) (c : Dev nD)

theorem V_table : V m c main_v28 = table (m ((c : Thread nD τ).loc main_arg3)) := by
  sl_kernel_rfl

theorem V_ones : V m c main_v36 = ones := by
  sl_kernel_rfl

theorem V_gq : V m c main_v40 = repeated (m ((c : Thread nD τ).loc main_arg1)) := by
  sl_kernel_rfl

theorem V_gk : V m c main_v44 = repeated (m ((c : Thread nD τ).loc main_arg2)) := by
  sl_kernel_rfl

end Cert.KernelIdeal.Host

end
-- ==== Proof.Rows.lean ====
/- One row of the token grid, as the kernel computes it: the scores of the row's 64 queries against the 512 keys of the
   row's window, one score array for each of the pair's two heads, their softmax weights, and the weighted sums of the
   values. The kernel's body writes this out once for each of the 32 rows; here it is one function. -/
module

public import proofs.«01_k».proof.Proof.Gen.KernelIdeal

@[expose] public section

noncomputable section

namespace Cert.KernelIdeal.Rows

open Cert.KernelIdeal Cert.KernelIdeal.Gen Idealize.ShloMosaic Idealize.SL.Sem

variable {F : FTy → Type} [FloatOps F]

/-- The lanes of the pair's first head. -/
def firstHead : IVec S1x128 1 := cmpi .slt (iota .tc S1x128 32 [1] iota_S1x128_d1_w32) (broadcast S1x128 64#32)

/-- The lanes of the pair's second head. -/
def secondHead : IVec S1x128 1 := xori firstHead (constantI S1x128 1 1#1)

/-- One condition per lane, for each of the row's 64 queries. -/
def lanes (h : IVec S1x128 1) : IVec S64x128 1 :=
  broadcastTo S64x128 (shapeCast S1x128 h shapeCasts_S1x128_S1x128) broadcasts_S1x128_S64x128

/-- The queries with the lanes of the other head set to zero. -/
def keep (h : IVec S1x128 1) (q : Vec F S64x128 .bf16) : FVec F S64x128 .bf16 :=
  select (lanes h) q (broadcast S64x128 (Scalar.ofBits .bf16 0x0000#16))

/-- One tile of the bias table. -/
def tile (t : Vec F S1x1x64x128 .f32) : FVec F S64x128 .f32 :=
  shapeCast S64x128 (shapeCast S1x64x128 t shapeCasts_S1x1x64x128_S1x64x128) shapeCasts_S1x64x128_S64x128

/-- The scores: queries times keys, plus four bias tiles side by side. -/
def scores (q : FVec F S64x128 .bf16) (kw : Vec F S512x128 .bf16) (t : Fin 4 → Vec F S1x1x64x128 .f32) : FVec F S64x512 .f32 :=
  addf (matmul dot_S64x128_S512x128_S64x512_1_1_0_0_n_n none q kw (constant S64x512 .f32 0x00000000#32))
    (concatenate S64x512 1 [⟨S64x128, tile (t 0)⟩, ⟨S64x128, tile (t 1)⟩, ⟨S64x128, tile (t 2)⟩, ⟨S64x128, tile (t 3)⟩]
      concatenates_S64x128_S64x128_S64x128_S64x128_S64x512_d1)

/-- The exponentials of the scores less their row's maximum. -/
def expo (s : FVec F S64x512 .f32) : FVec F S64x512 .f32 :=
  exp (subf s (broadcastTo S64x512
    (shapeCast S64x1 (multiReduction .maximumf [1] S64 s 0xFF800000#32 reduces_S64x512_S64 (.inl rfl) rfl) shapeCasts_S64_S64x1)
    broadcasts_S64x1_S64x512))

/-- The weighted sum of the values, divided by the sum of the weights. -/
def average (p : FVec F S64x512 .f32) (vw : Vec F S512x128 .bf16) : FVec F S64x128 .f32 :=
  divf (matmul dot_S64x512_S512x128_S64x128_1_0_0_1_n_n none (truncf .bf16 p bitsLt_bf16_f32) vw (constant S64x128 .f32 0x00000000#32))
    (broadcastTo S64x128
      (shapeCast S64x1 (multiReduction .add [1] S64 p 0x00000000#32 reduces_S64x512_S64 (.inl rfl) rfl) shapeCasts_S64_S64x1)
      broadcasts_S64x1_S64x128)

/-- The attention of one head on one row. -/
def attend (h : IVec S1x128 1) (q : Vec F S64x128 .bf16) (kw vw : Vec F S512x128 .bf16) (t : Fin 4 → Vec F S1x1x64x128 .f32) :
    FVec F S64x128 .f32 :=
  average (expo (scores (keep h q) kw t)) vw

/-- What the body stores for one row. -/
def rowOut (q : Vec F S64x128 .bf16) (kw vw : Vec F S512x128 .bf16) (t t' : Fin 4 → Vec F S1x1x64x128 .f32) :
    FVec F S1x64x128 .bf16 :=
  shapeCast S1x64x128
    (truncf .bf16 (select (lanes firstHead) (attend firstHead q kw vw t) (attend secondHead q kw vw t')) bitsLt_bf16_f32)
    shapeCasts_S64x128_S1x64x128

end Cert.KernelIdeal.Rows
-- ==== Proof.Pieces.lean ====
/- What the body stores: 32 pieces, one per row of the token grid, each the attention of that row's queries on its
   window of keys and values. -/
module

public import proofs.«01_k».proof.Proof.Rows
public import proofs.«01_k».proof.Proof.Gen.KernelIdeal.Value

@[expose] public section

set_option maxRecDepth 16384

noncomputable section

namespace Cert.KernelIdeal.Rows

open Cert.KernelIdeal Cert.KernelIdeal.Gen Idealize.ShloMosaic Idealize.ShloMosaic.TcCoe
open Idealize.SL Idealize.SL.Sem

variable {F : FTy → Type} [FloatOps F]

/-- The first row of row `r`'s window. -/
def start (r : Fin 32) : ℕ := min (r.val - 4) 24

theorem start_le (r : Fin 32) : start r ≤ 24 := Nat.min_le_right _ _

theorem start_le_row (r : Fin 32) : start r ≤ r.val := (Nat.min_le_left _ _).trans (Nat.sub_le _ _)

theorem row_le_start (r : Fin 32) : r.val ≤ start r + 7 := by
  have := r.isLt; unfold start; omega

theorem inb_query (r : Fin 32) : ∀ a, (![64 * r.val, 0] : Fin 2 → ℕ) a + S64x128.size a ≤ S2048x128.size a := by
  have h := r.isLt
  intro a; fin_cases a <;> simp [S64x128, S2048x128]; omega

theorem inb_window (r : Fin 32) : ∀ a, (![64 * start r, 0] : Fin 2 → ℕ) a + S512x128.size a ≤ S2048x128.size a := by
  have h := start_le r
  intro a; fin_cases a <;> simp [S512x128, S2048x128]; omega

theorem inb_tile (e : Fin 2) (r : Fin 32) (k : Fin 4) :
    ∀ a, (![e.val, start r + 7 - r.val + 2 * k.val, 0, 0] : Fin 4 → ℕ) a + S1x1x64x128.size a ≤ S2x14x64x128.size a := by
  have h := start_le_row r; have h' := row_le_start r; have hk := k.isLt; have he := e.isLt
  intro a; fin_cases a <;> simp [S1x1x64x128, S2x14x64x128] <;> omega

theorem inb_store (r : Fin 32) : ∀ a, (![0, 64 * r.val, 0] : Fin 3 → ℕ) a + S1x64x128.size a ≤ S1x2048x128.size a := by
  have h := r.isLt
  intro a; fin_cases a <;> simp [S1x64x128, S1x2048x128]; omega

/-- Row `r`'s queries. -/
abbrev queryRect (r : Fin 32) : Rect S2048x128 := Rect.unit ![64 * r.val, 0] S64x128.size (inb_query r)

/-- Row `r`'s window of keys or values. -/
abbrev windowRect (r : Fin 32) : Rect S2048x128 := Rect.unit ![64 * start r, 0] S512x128.size (inb_window r)

/-- Tile `k` of head `e`'s bias on row `r`: the column block of two window rows. -/
abbrev tileRect (e : Fin 2) (r : Fin 32) (k : Fin 4) : Rect S2x14x64x128 :=
  Rect.unit ![e.val, start r + 7 - r.val + 2 * k.val, 0, 0] S1x1x64x128.size (inb_tile e r k)

/-- Row `r` of the output block. -/
abbrev storeRect (r : Fin 32) : Rect S1x2048x128 := Rect.unit ![0, 64 * r.val, 0] S1x64x128.size (inb_store r)

/-- The normalised queries of the pair, as the body keeps them. -/
def queries (x0 : Vec F S1x2048x128 .bf16) (x3 : Vec F S1x128 .f32) (x6 : Vec F S128x128 .bf16) : Vec F S2048x128 .bf16 :=
  k0_pay7 (k0_pay4 x6 x0 x3)

/-- The normalised keys of the pair. -/
def keys (x1 : Vec F S1x2048x128 .bf16) (x4 : Vec F S1x128 .f32) (x6 : Vec F S128x128 .bf16) : Vec F S2048x128 .bf16 :=
  k0_pay8 (k0_pay3 x1) (k0_pay5 x6 x1) k0_pay6 x4

/-- The values of the pair. -/
def values (x2 : Vec F S1x2048x128 .bf16) : Vec F S2048x128 .bf16 := k0_pay9 x2

/-- What the body stores for row `r`. -/
def rowValue (Q K V : Vec F S2048x128 .bf16) (B : Vec F S2x14x64x128 .f32) (r : Fin 32) : Vec F S1x64x128 .bf16 :=
  rowOut (View.ld Q (queryRect r)) (View.ld K (windowRect r)) (View.ld V (windowRect r))
    (fun k => View.ld B (tileRect 0 r k)) (fun k => View.ld B (tileRect 1 r k))

/-- The stored pieces with the loads as the run finds them. -/
theorem pieces_run (c : Dev nD) (i : grid0.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16)
    (harg4 : arg4.IsWhole) (arg5 : Memref sig .tc .vmem S1x128 .f32) (harg5 : arg5.IsWhole)
    (arg6 : Memref sig .tc .vmem S1x128 .f32) (harg6 : arg6.IsWhole) (arg7 : Memref sig .tc .vmem S2x14x64x128 .f32)
    (harg7 : arg7.IsWhole) (arg8 : Memref sig .tc .vmem S128x128 .bf16) (harg8 : arg8.IsWhole)
    (arg9 : Memref sig .tc .vmem S1x2048x128 .bf16) (harg9 : arg9.IsWhole) (arg10 : Memref sig .tc .vmem S2048x128 .bf16)
    (harg10 : arg10.IsWhole) (arg11 : Memref sig .tc .vmem S2048x128 .bf16) (harg11 : arg11.IsWhole)
    (arg12 : Memref sig .tc .vmem S2048x128 .bf16) (harg12 : arg12.IsWhole)
    (x0 x1 x2 : Vec F S1x2048x128 .bf16) (x3 x4 : Vec F S1x128 .f32) (x5 : Vec F S2x14x64x128 .f32) (x6 : Vec F S128x128 .bf16) :
    (kernelRun0_A c i arg2 harg2 arg3 harg3 arg4 harg4 arg5 harg5 arg6 harg6 arg7 harg7 arg8 harg8 arg9 harg9 arg10 harg10
        arg11 harg11 arg12 harg12 x0 x1 x2 x3 x4 x5 x6).1
      = List.ofFn fun s : Fin 32 =>
        (⟨storeRect s.rev,
          rowOut
            (arg10.view.readCov (kernelRun0_A.sl.HS0_1 c arg2 harg2 arg5 harg5 arg8 harg8 x0 x3 x6) (queryRect s.rev).toLoadRect)
            (arg11.view.readCov (kernelRun0_A.sl.HS1_1 c arg3 harg3 arg6 harg6 arg8 harg8 x1 x4 x6) (windowRect s.rev).toLoadRect)
            (arg12.view.readCov (kernelRun0_A.sl.HS2_1 c arg4 harg4 x2) (windowRect s.rev).toLoadRect)
            (fun k => View.readAt (Elt F) arg7.view (tileRect 0 s.rev k).toLoadRect (harg7.unread x5))
            (fun k => View.readAt (Elt F) arg7.view (tileRect 1 s.rev k).toLoadRect (harg7.unread x5))⟩ :
          View.Piece (Elt F) S1x2048x128 .bf16) := by
  sl_kernel_rfl

end Cert.KernelIdeal.Rows
-- ==== Proof.Consts.lean ====
/- The constants of the two programs, as extended reals. -/
module

public import Idealize.ShloMosaic.Init
public import Idealize.ShloMosaic.Lib.Pointwise

@[expose] public section

noncomputable section

namespace Cert.Consts

open Idealize.ShloMosaic

/-- The number the word `0x3727C5AC` holds: the float nearest to 1e-5. -/
def eps : ℝ := 10995116 / 2 ^ 40

theorem eps_pos : 0 < eps := by unfold eps; positivity

theorem ofBits_eps : Ideal.ofBits .f32 0x3727C5AC#32 = (eps : EReal) := by
  simp [Ideal.ofBits, Ideal.ieee, -EReal.coe_mul, eps]; norm_num

theorem ofBits_sixtyfourth : Ideal.ofBits .f32 0x3C800000#32 = ((1 / 64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_bottom : Ideal.ofBits .f32 0xFF800000#32 = ⊥ := by
  simp [Ideal.ofBits, Ideal.ieee]

theorem rsqrt_pos {r : ℝ} (h : 0 < r) : Ideal.rsqrt (r : EReal) = (((√r)⁻¹ : ℝ) : EReal) := by
  rw [Ideal.rsqrt_coe, if_neg (not_lt.mpr h.le), if_neg h.ne']

end Cert.Consts
-- ==== Proof.Soft.lean ====
/- Softmax-weighted averages over the extended reals. A score is a real number, or minus infinity where the key is
   outside the window. Whatever real number is taken off all scores, the average of the values weighted by the
   exponentials is the real quotient of two sums, in either order of dividing. -/
module

public import Idealize.ShloMosaic.PureOps.Ideal.Laws

@[expose] public section

namespace Cert.Soft

open Idealize.ShloMosaic

/-- A sum of reals is a sum of extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

variable {n : ℕ}

/-- The weight of a key: the exponential of its score, and zero outside the window. -/
noncomputable def weight (P : Fin n → Prop) [DecidablePred P] (a : Fin n → ℝ) (j : Fin n) : ℝ := if P j then Real.exp (a j) else 0

variable (P : Fin n → Prop) [DecidablePred P] (a : Fin n → ℝ)

/-- The score of a key: minus infinity outside the window. -/
noncomputable def score (j : Fin n) : EReal := if P j then (a j : EReal) else ⊥

theorem exp_score (m : ℝ) (j : Fin n) :
    Ideal.exp (score P a j - (m : EReal)) = ((weight P a j * Real.exp (-m) : ℝ) : EReal) := by
  unfold score weight
  split_ifs with h
  · rw [← EReal.coe_sub, Ideal.exp_coe, ← Real.exp_add, sub_eq_add_neg]
  · rw [zero_mul, EReal.coe_zero, sub_eq_add_neg, EReal.bot_add, Ideal.exp_bot]

theorem weight_nonneg (j : Fin n) : 0 ≤ weight P a j := by
  unfold weight
  split_ifs
  · exact (Real.exp_pos _).le
  · exact le_rfl

theorem total_pos (h : ∃ j, P j) : 0 < ∑ j, weight P a j := by
  obtain ⟨j, hj⟩ := h
  refine Finset.sum_pos' (fun i _ => weight_nonneg P a i) ⟨j, Finset.mem_univ j, ?_⟩
  unfold weight
  rw [if_pos hj]
  exact Real.exp_pos _

theorem sum_exp (m : ℝ) : ∑ j, Ideal.exp (score P a j - (m : EReal)) = (((∑ j, weight P a j) * Real.exp (-m) : ℝ) : EReal) := by
  rw [Finset.sum_mul, coe_sum]
  exact Finset.sum_congr rfl fun j _ => exp_score P a m j

/-- Weigh first, then divide the sum. -/
theorem average_div (h : ∃ j, P j) (m : ℝ) (v : Fin n → ℝ) :
    Ideal.div (∑ j, Ideal.exp (score P a j - (m : EReal)) * (v j : EReal)) (∑ j, Ideal.exp (score P a j - (m : EReal)))
      = (((∑ j, weight P a j * v j) / ∑ j, weight P a j : ℝ) : EReal) := by
  have hw := total_pos P a h
  have he := Real.exp_pos (-m)
  have hne : (∑ j, weight P a j) * Real.exp (-m) ≠ 0 := (mul_pos hw he).ne'
  rw [sum_exp, Ideal.div_coe hne]
  have : ∑ j, Ideal.exp (score P a j - (m : EReal)) * (v j : EReal) = (((∑ j, weight P a j * v j) * Real.exp (-m) : ℝ) : EReal) := by
    rw [Finset.sum_mul, coe_sum]
    refine Finset.sum_congr rfl fun j _ => ?_
    rw [exp_score, ← EReal.coe_mul]
    congr 1
    ring
  rw [this, ← EReal.coe_mul]
  congr 1
  field_simp

/-- Divide every weight by their sum first. -/
theorem div_average (h : ∃ j, P j) (m : ℝ) (v : Fin n → ℝ) :
    ∑ j, Ideal.div (Ideal.exp (score P a j - (m : EReal))) (∑ k, Ideal.exp (score P a k - (m : EReal))) * (v j : EReal)
      = (((∑ j, weight P a j * v j) / ∑ j, weight P a j : ℝ) : EReal) := by
  have hw := total_pos P a h
  have he := Real.exp_pos (-m)
  have hne : (∑ j, weight P a j) * Real.exp (-m) ≠ 0 := (mul_pos hw he).ne'
  rw [sum_exp, Finset.sum_div, coe_sum]
  refine Finset.sum_congr rfl fun j _ => ?_
  rw [Ideal.div_coe hne, exp_score, ← EReal.coe_mul, ← EReal.coe_mul]
  congr 1
  field_simp

/-- The greatest of the scores is a real number when some key is in the window. -/
theorem exists_max (h : ∃ j, P j) : ∃ m : ℝ, Finset.univ.fold max ⊥ (score P a) = (m : EReal) := by
  have hb : Finset.univ.fold max ⊥ (score P a) = Finset.univ.sup (score P a) := rfl
  rw [hb]
  obtain ⟨j, hj⟩ := h
  obtain ⟨i, -, hi⟩ := Finset.exists_mem_eq_sup Finset.univ ⟨j, Finset.mem_univ j⟩ (score P a)
  have hle : score P a j ≤ Finset.univ.sup (score P a) := Finset.le_sup (Finset.mem_univ j)
  rw [hi] at hle ⊢
  by_cases hp : P i
  · exact ⟨a i, by unfold score; rw [if_pos hp]⟩
  · unfold score at hle
    rw [if_pos hj, if_neg hp] at hle
    exact absurd (le_bot_iff.mp hle) (EReal.coe_ne_bot _)

end Cert.Soft
-- ==== Proof.Spec.lean ====
/- The attention as a function of real numbers: what both programs are shown to compute. -/
module

public import proofs.«01_k».proof.Proof.Consts
public import proofs.«01_k».proof.Proof.Soft

@[expose] public section

noncomputable section

namespace Cert.Spec

open Cert.Consts

/-- A sum of terms that vanish outside a window is the sum over the window. -/
theorem sum_window {N n : ℕ} (s : ℕ) (h : s + n ≤ N) (f : Fin N → ℝ) (h0 : ∀ k : Fin N, k.val < s ∨ s + n ≤ k.val → f k = 0) :
    ∑ k, f k = ∑ j : Fin n, f ⟨s + j.val, by have := j.isLt; omega⟩ := by
  refine (Finset.sum_of_injOn (fun j : Fin n => (⟨s + j.val, by have := j.isLt; omega⟩ : Fin N)) ?_ (fun _ _ => Finset.mem_coe.mpr (Finset.mem_univ _))
    (fun k _ hk => h0 k ?_) (fun _ _ => rfl)).symm
  · intro a _ b _ hab
    simp only [Fin.mk.injEq] at hab
    exact Fin.ext (by omega)
  · by_contra hc
    push Not at hc
    exact hk ⟨⟨k.val - s, by omega⟩, Finset.mem_coe.mpr (Finset.mem_univ _), Fin.ext (by simp; omega)⟩

/-- One head's vector divided by its root mean square and scaled by the gain. -/
def headNorm (y g : Fin 64 → ℝ) (d : Fin 64) : ℝ := y d * (√((∑ e, y e * y e) / 64 + eps))⁻¹ * g d

theorem mean_pos (y : Fin 64 → ℝ) : 0 < (∑ e, y e * y e) / 64 + eps := by
  have : 0 ≤ ∑ e, y e * y e := Finset.sum_nonneg fun e _ => mul_self_nonneg _
  have := eps_pos
  positivity

/-- The column of part `s` (queries, keys, values), head `h`, entry `d`. -/
def column (s : Fin 3) (h : Fin 8) (d : Fin 64) : Fin 1536 := ⟨512 * s.val + 64 * h.val + d.val, by omega⟩

/-- The first row of the window of a query in row `r`. -/
def rowStart (r : ℕ) : ℕ := min (r - 4) 24

/-- The first column of the window of a query in column `c`. -/
def colStart (c : ℕ) : ℕ := min (c - 8) 48

/-- Key column `kc` lies in the window of a query in column `c`. -/
def NearCol (c kc : ℕ) : Prop := colStart c ≤ kc ∧ kc < colStart c + 16

/-- Key row `kr` lies in the window of a query in row `r`. -/
def NearRow (r kr : ℕ) : Prop := rowStart r ≤ kr ∧ kr < rowStart r + 8

instance (c kc : ℕ) : Decidable (NearCol c kc) := inferInstanceAs (Decidable (_ ∧ _))
instance (r kr : ℕ) : Decidable (NearRow r kr) := inferInstanceAs (Decidable (_ ∧ _))

/-- Key `k` lies in the window of query `t`. -/
def Near (t k : Fin 2048) : Prop := NearRow (t.val / 64) (k.val / 64) ∧ NearCol (t.val % 64) (k.val % 64)

instance (t : Fin 2048) : DecidablePred (Near t) := fun k => inferInstanceAs (Decidable (_ ∧ _))

/-- The bias row of query row `r` and key row `kr`. -/
def biasRow (r kr : ℕ) : Fin 15 := ⟨min (kr + 7 - r) 14, by omega⟩

/-- The bias column of query column `c` and key column `kc`. -/
def biasCol (c kc : ℕ) : Fin 31 := ⟨min (kc + 15 - c) 30, by omega⟩

variable (x : Fin 16 → Fin 2048 → Fin 1536 → ℝ) (gq gk : Fin 64 → ℝ) (w : Fin 8 → Fin 15 → Fin 31 → ℝ)

/-- The normalised query. -/
def query (b : Fin 16) (h : Fin 8) (t : Fin 2048) : Fin 64 → ℝ := headNorm (fun d => x b t (column 0 h d)) gq

/-- The normalised key. -/
def key (b : Fin 16) (h : Fin 8) (t : Fin 2048) : Fin 64 → ℝ := headNorm (fun d => x b t (column 1 h d)) gk

/-- The score of key `k` for query `t`. -/
def logit (b : Fin 16) (h : Fin 8) (t k : Fin 2048) : ℝ :=
  (∑ d, query x gq b h t d * key x gk b h k d) * (1 / 8)
    + w h (biasRow (t.val / 64) (k.val / 64)) (biasCol (t.val % 64) (k.val % 64))

/-- The attention's output: the values of the window averaged with the exponentials of the scores. -/
def out (b : Fin 16) (h : Fin 8) (t : Fin 2048) (d : Fin 64) : ℝ :=
  (∑ k, Soft.weight (Near t) (logit x gq gk w b h t) k * x b k (column 2 h d))
    / ∑ k, Soft.weight (Near t) (logit x gq gk w b h t) k

theorem near_self (t : Fin 2048) : Near t t := by
  have := t.isLt
  unfold Near NearRow NearCol rowStart colStart
  omega

end Cert.Spec
-- ==== Proof.Norm.lean ====
/- The kernel's normalised queries and keys, and its values, as real numbers. -/
module

public import proofs.«01_k».proof.Proof.Pieces
public import proofs.«01_k».proof.Proof.Spec

@[expose] public section

noncomputable section

namespace Cert.KernelIdeal.Rows

open Cert.KernelIdeal Cert.KernelIdeal.Gen Idealize.ShloMosaic Cert.Consts

/-- The lane of entry `d` of the pair's head `e`. -/
def lane (e : Fin 2) (d : Fin 64) : Fin 128 := ⟨64 * e.val + d.val, by omega⟩

/-- The matrix that sums over the lanes of one head. -/
def SumsHeads (x6 : Vec Ideal S128x128 .bf16) : Prop :=
  ∀ a l : Fin 128, x6 (ix2 a l) = ((if a.val / 64 = l.val / 64 then 1 else 0 : ℝ) : EReal)

theorem sum_head (f : Fin 128 → ℝ) (e : Fin 2) (d : Fin 64) :
    ∑ a : Fin 128, f a * (if a.val / 64 = (lane e d).val / 64 then 1 else 0 : ℝ) = ∑ a : Fin 64, f (lane e a) := by
  have hl : (lane e d).val / 64 = e.val := by have := d.isLt; simp only [lane]; omega
  rw [Spec.sum_window (64 * e.val) (by have := e.isLt; omega : 64 * e.val + 64 ≤ 128)]
  · refine Finset.sum_congr rfl fun a _ => ?_
    have ha : (64 * e.val + a.val) / 64 = (lane e d).val / 64 := by rw [hl]; have := a.isLt; omega
    show f ⟨64 * e.val + a.val, _⟩ * (if (64 * e.val + a.val) / 64 = (lane e d).val / 64 then 1 else 0 : ℝ) = f (lane e a)
    rw [if_pos ha, mul_one]
    rfl
  · intro k hk
    have hk' : ¬ k.val / 64 = (lane e d).val / 64 := by rw [hl]; omega
    rw [if_neg hk', mul_zero]

/-- The reciprocal root mean square of a head, as the kernel computes it: the squares in two parts, of which the second
    is zero. -/
theorem root_mean (x6 : Vec Ideal S128x128 .bf16) (h6 : SumsHeads x6) (y : Fin 128 → ℝ) (e : Fin 2) (d : Fin 64) :
    Ideal.rsqrt ((∑ a, (y a : EReal) * (y a : EReal) * x6 (ix2 a (lane e d))
        + ∑ a, ((y a : EReal) * (y a : EReal) - (y a : EReal) * (y a : EReal)) * x6 (ix2 a (lane e d)))
          * Ideal.ofBits .f32 0x3C800000#32 + Ideal.ofBits .f32 0x3727C5AC#32)
      = (((√((∑ a, y (lane e a) * y (lane e a)) / 64 + eps))⁻¹ : ℝ) : EReal) := by
  have h1 : ∑ a, (y a : EReal) * (y a : EReal) * x6 (ix2 a (lane e d)) = ((∑ a, y (lane e a) * y (lane e a) : ℝ) : EReal) := by
    rw [← sum_head (fun a => y a * y a) e d, Soft.coe_sum]
    refine Finset.sum_congr rfl fun a _ => ?_
    rw [h6, EReal.coe_mul, EReal.coe_mul]
  have h2 : ∑ a, ((y a : EReal) * (y a : EReal) - (y a : EReal) * (y a : EReal)) * x6 (ix2 a (lane e d)) = ((0 : ℝ) : EReal) := by
    rw [EReal.coe_zero]
    refine Finset.sum_eq_zero fun a _ => ?_
    rw [← EReal.coe_mul, ← EReal.coe_sub, sub_self, EReal.coe_zero, zero_mul]
  rw [h1, h2, ofBits_sixtyfourth, ofBits_eps, ← EReal.coe_add, ← EReal.coe_mul, ← EReal.coe_add, add_zero, mul_one_div]
  exact rsqrt_pos (Spec.mean_pos fun a => y (lane e a))

theorem values_apply (x2 : Vec Ideal S1x2048x128 .bf16) (t : Fin 2048) (l : Fin 128) :
    values x2 (ix2 t l) = x2 (ix3 0 t l) := by
  pointwise [values, k0_pay9]

/-- The queries carry the factor 1/8 of the scores. -/
theorem queries_apply (x0 : Vec Ideal S1x2048x128 .bf16) (x3 : Vec Ideal S1x128 .f32) (x6 : Vec Ideal S128x128 .bf16)
    (h6 : SumsHeads x6) (t : Fin 2048) (y : Fin 128 → ℝ) (hy : ∀ l, x0 (ix3 0 t l) = (y l : EReal)) (g : Fin 64 → ℝ) (e : Fin 2)
    (hg : ∀ d, x3 (ix2 0 (lane e d)) = (g d : EReal)) (d : Fin 64) :
    queries x0 x3 x6 (ix2 t (lane e d)) = ((Spec.headNorm (fun d => y (lane e d)) g d * (1 / 8) : ℝ) : EReal) := by
  pointwise [queries, k0_pay7, k0_pay4, k0_pay2]
  simp only [hy]
  rw [root_mean x6 h6 y e d, hg, ofBits_eighth, ← EReal.coe_mul, ← EReal.coe_mul, ← EReal.coe_mul]
  refine congrArg Real.toEReal ?_
  simp only [Spec.headNorm]
  ring

theorem keys_apply (x1 : Vec Ideal S1x2048x128 .bf16) (x4 : Vec Ideal S1x128 .f32) (x6 : Vec Ideal S128x128 .bf16)
    (h6 : SumsHeads x6) (t : Fin 2048) (y : Fin 128 → ℝ) (hy : ∀ l, x1 (ix3 0 t l) = (y l : EReal)) (g : Fin 64 → ℝ) (e : Fin 2)
    (hg : ∀ d, x4 (ix2 0 (lane e d)) = (g d : EReal)) (d : Fin 64) :
    keys x1 x4 x6 (ix2 t (lane e d)) = ((Spec.headNorm (fun d => y (lane e d)) g d : ℝ) : EReal) := by
  pointwise [keys, k0_pay8, k0_pay3, k0_pay5, k0_pay6, k0_pay2]
  simp only [hy]
  rw [root_mean x6 h6 y e d, hg, ← EReal.coe_mul, ← EReal.coe_mul]
  rfl

end Cert.KernelIdeal.Rows
-- ==== Proof.RowValue.lean ====
/- One row of the kernel at an index: the softmax average over the row's window. -/
module

public import proofs.«01_k».proof.Proof.Norm

@[expose] public section

noncomputable section

namespace Cert.KernelIdeal.Rows

open Cert.KernelIdeal Cert.KernelIdeal.Gen Idealize.ShloMosaic Cert.Consts

/-- The lanes of the pair's head `e`. -/
def headMask (e : Fin 2) : IVec S1x128 1 := if e = 0 then firstHead else secondHead

theorem headMask_apply (e : Fin 2) (l : Fin 128) : headMask e (ix2 0 l) = if l.val / 64 = e.val then 1#1 else 0#1 := by
  have h0 : firstHead (ix2 0 l) = IntOp.cmpi .slt (BitVec.ofNat 32 l.val) 64#32 := by pointwise [firstHead]
  have h1 : secondHead (ix2 0 l) = (IntOp.cmpi .slt (BitVec.ofNat 32 l.val) 64#32) ^^^ 1#1 := by
    pointwise [secondHead, firstHead]
    rfl
  have hd : ∀ l : Fin 128, IntOp.cmpi .slt (BitVec.ofNat 32 l.val) 64#32 = if l.val / 64 = 0 then 1#1 else 0#1 := by decide +kernel
  have hl : l.val / 64 < 2 := by omega
  rw [hd] at h0 h1
  unfold headMask
  match e with
  | ⟨0, _⟩ => exact h0
  | ⟨1, _⟩ =>
    refine h1.trans ?_
    by_cases h : l.val / 64 = 0
    · rw [if_pos h, if_neg (by simp [h])]; rfl
    · rw [if_neg h, if_pos (by show l.val / 64 = 1; omega)]; rfl

theorem select_head (e : Fin 2) (l : Fin 128) (a b : EReal) :
    Scalar.select (headMask e (ix2 0 l)) a b = if l.val / 64 = e.val then a else b := by
  rw [headMask_apply]
  split_ifs <;> rfl

/-- The score array at a query and a key of the window. -/
theorem scores_apply (e : Fin 2) (q : Vec Ideal S64x128 .bf16) (kw : Vec Ideal S512x128 .bf16)
    (t : Fin 4 → Vec Ideal S1x1x64x128 .f32) (c : Fin 64) (qq : Fin 64 → ℝ) (kk : Fin 512 → Fin 64 → ℝ) (B : Fin 512 → EReal)
    (hq : ∀ d, q (ix2 c (lane e d)) = (qq d : EReal)) (hk : ∀ j d, kw (ix2 j (lane e d)) = (kk j d : EReal))
    (hB : ∀ (m : Fin 4) (u : Fin 128) (j : Fin 512), j.val = 128 * m.val + u.val → t m (ix4 0 0 c u) = B j) (j : Fin 512) :
    scores (keep (headMask e) q) kw t (ix2 c j) = ((∑ d, qq d * kk j d : ℝ) : EReal) + B j := by
  pointwise [scores, keep, lanes, tile]
  refine congr (congrArg HAdd.hAdd ?_) ?_
  · have hs : ∀ l : Fin 128, Scalar.select (headMask e (ix2 0 l)) (q (ix2 c l) * kw (ix2 j l)) 0
        = ((if h : l.val / 64 = e.val then qq ⟨l.val - 64 * e.val, by omega⟩ * kk j ⟨l.val - 64 * e.val, by omega⟩ else 0 : ℝ) : EReal) := by
      intro l
      rw [select_head]
      by_cases h : l.val / 64 = e.val
      · have hl : l = lane e ⟨l.val - 64 * e.val, by omega⟩ := Fin.ext (by simp only [lane]; omega)
        rw [if_pos h, dif_pos h, EReal.coe_mul, ← hq, ← hk, ← hl]
      · rw [if_neg h, dif_neg h, EReal.coe_zero]
    rw [Finset.sum_congr rfl fun l _ => hs l, ← Soft.coe_sum]
    refine congrArg Real.toEReal ?_
    rw [Spec.sum_window (64 * e.val) (by have := e.isLt; omega : 64 * e.val + 64 ≤ 128)]
    · refine Finset.sum_congr rfl fun d _ => ?_
      have hd : (64 * e.val + d.val) / 64 = e.val := by have := d.isLt; omega
      rw [dif_pos hd]
      simp only [Nat.add_sub_cancel_left]
    · intro k hk'
      rw [dif_neg (by omega)]
  · split_ifs <;> first
      | exact absurd rfl ‹_›
      | exact hB 0 _ j (by simp)
      | exact hB 1 _ j (by simp; omega)
      | exact hB 2 _ j (by simp; omega)
      | exact hB 3 _ j (by simp; omega)

/-- The attention of one head on one row, at a query and a lane. -/
theorem attend_apply (e : Fin 2) (q : Vec Ideal S64x128 .bf16) (kw vw : Vec Ideal S512x128 .bf16)
    (t : Fin 4 → Vec Ideal S1x1x64x128 .f32) (c : Fin 64) (qq : Fin 64 → ℝ) (kk : Fin 512 → Fin 64 → ℝ)
    (P : Fin 512 → Prop) [DecidablePred P] (hP : ∃ j, P j) (bb : Fin 512 → ℝ)
    (hq : ∀ d, q (ix2 c (lane e d)) = (qq d : EReal)) (hk : ∀ j d, kw (ix2 j (lane e d)) = (kk j d : EReal))
    (hB : ∀ (m : Fin 4) (u : Fin 128) (j : Fin 512), j.val = 128 * m.val + u.val → t m (ix4 0 0 c u) = if P j then (bb j : EReal) else ⊥)
    (l : Fin 128) (v : Fin 512 → ℝ) (hv : ∀ j, vw (ix2 j l) = (v j : EReal)) :
    attend (headMask e) q kw vw t (ix2 c l)
      = (((∑ j, Soft.weight P (fun j => ∑ d, qq d * kk j d + bb j) j * v j)
          / ∑ j, Soft.weight P (fun j => ∑ d, qq d * kk j d + bb j) j : ℝ) : EReal) := by
  have hs : ∀ j, scores (keep (headMask e) q) kw t (ix2 c j) = Soft.score P (fun j => ∑ d, qq d * kk j d + bb j) j := by
    intro j
    rw [scores_apply e q kw t c qq kk (fun j => if P j then (bb j : EReal) else ⊥) hq hk hB j]
    unfold Soft.score
    split_ifs with h
    · rw [EReal.coe_add]
    · rw [EReal.add_bot]
  obtain ⟨m, hm⟩ := Soft.exists_max P (fun j => ∑ d, qq d * kk j d + bb j) hP
  have he : ∀ j, expo (scores (keep (headMask e) q) kw t) (ix2 c j)
      = Ideal.exp (Soft.score P (fun j => ∑ d, qq d * kk j d + bb j) j - (m : EReal)) := by
    intro j
    pointwise [expo]
    simp only [hs, ofBits_bottom]
    rw [show (Finset.univ.fold max ⊥ fun x => Soft.score P (fun j => ∑ d, qq d * kk j d + bb j) x) = (m : EReal) from hm]
  unfold attend
  pointwise [average]
  simp only [he, hv]
  exact Soft.average_div P _ hP m v

end Cert.KernelIdeal.Rows
-- ==== Proof.Block.lean ====
/- One grid point of the kernel: the block of one batch element and one pair of heads. -/
module

public import proofs.«01_k».proof.Proof.RowValue
public import Idealize.ShloMosaic.Lib.Pipeline.ValueKit.Tiles

@[expose] public section

noncomputable section

namespace Cert.KernelIdeal.Rows

open Cert.KernelIdeal Cert.KernelIdeal.Gen Idealize.ShloMosaic Idealize.ShloMosaic.TcCoe Cert.Consts
open Idealize.SL Idealize.SL.Sem

section Pieces

variable {F : FTy → Type} [FloatOps F]

theorem zeros2 : (![0, 0] : Fin 2 → ℕ) = fun _ => 0 := by decide

theorem zeros3 : (![0, 0, 0] : Fin 3 → ℕ) = fun _ => 0 := by decide

/-- A load of a whole staging buffer reads its contents. -/
theorem read_whole {S : Shape} {e : EltTy} {arg : Memref sig .tc .vmem S e} (h : arg.IsWhole) {off : Fin S.rank → ℕ}
    (h0 : off = fun _ => 0) (inb : ∀ a, off a + S.size a ≤ S.size a) (x : Vec F S e) :
    View.readAt (Elt F) arg.view (Rect.unit off S.size inb).toLoadRect (h.unread x) = x := by
  rw [View.readAt_eq_ld, h.read_unread, View.ld_unit_zero h0]

/-- The output block as the canonical contents of the 32 stored rows. -/
theorem out_pieces (c : Dev nD) (i : grid0.Coords) (arg2 : Memref sig .tc .vmem S1x2048x128 .bf16) (harg2 : arg2.IsWhole)
    (arg3 : Memref sig .tc .vmem S1x2048x128 .bf16) (harg3 : arg3.IsWhole) (arg4 : Memref sig .tc .vmem S1x2048x128 .bf16)
    (harg4 : arg4.IsWhole) (arg5 : Memref sig .tc .vmem S1x128 .f32) (harg5 : arg5.IsWhole)
    (arg6 : Memref sig .tc .vmem S1x128 .f32) (harg6 : arg6.IsWhole) (arg7 : Memref sig .tc .vmem S2x14x64x128 .f32)
    (harg7 : arg7.IsWhole) (arg8 : Memref sig .tc .vmem S128x128 .bf16) (harg8 : arg8.IsWhole)
    (arg9 : Memref sig .tc .vmem S1x2048x128 .bf16) (harg9 : arg9.IsWhole) (arg10 : Memref sig .tc .vmem S2048x128 .bf16)
    (harg10 : arg10.IsWhole) (arg11 : Memref sig .tc .vmem S2048x128 .bf16) (harg11 : arg11.IsWhole)
    (arg12 : Memref sig .tc .vmem S2048x128 .bf16) (harg12 : arg12.IsWhole)
    (x0 x1 x2 : Vec F S1x2048x128 .bf16) (x3 x4 : Vec F S1x128 .f32) (x5 : Vec F S2x14x64x128 .f32) (x6 : Vec F S128x128 .bf16) :
    out0_A_7 c i arg2 harg2 arg3 harg3 arg4 harg4 arg5 harg5 arg6 harg6 arg7 harg7 arg8 harg8 arg9 harg9 arg10 harg10
        arg11 harg11 arg12 harg12 x0 x1 x2 x3 x4 x5 x6
      = View.canon (List.ofFn fun s : Fin 32 => (⟨storeRect s.rev, rowValue (queries x0 x3 x6) (keys x1 x4 x6) (values x2) x5 s.rev⟩ : View.Piece (Elt F) S1x2048x128 .bf16)) := by
  have h2 : View.canon (kernelRun0_A.sl.HS0_1 c arg2 harg2 arg5 harg5 arg8 harg8 x0 x3 x6) = queries x0 x3 x6 := by
    unfold kernelRun0_A.sl.HS0_1
    rw [View.canon_unit_zero zeros2]
    unfold kernelRun0_A.sl.r_1
    rw [read_whole harg2 zeros3, read_whole harg5 zeros2, read_whole harg8 zeros2]
    rfl
  have h3 : View.canon (kernelRun0_A.sl.HS1_1 c arg3 harg3 arg6 harg6 arg8 harg8 x1 x4 x6) = keys x1 x4 x6 := by
    unfold kernelRun0_A.sl.HS1_1
    rw [View.canon_unit_zero zeros2]
    unfold kernelRun0_A.sl.r kernelRun0_A.sl.r_2
    rw [read_whole harg3 zeros3, read_whole harg6 zeros2, read_whole harg8 zeros2]
    rfl
  have h4 : View.canon (kernelRun0_A.sl.HS2_1 c arg4 harg4 x2) = values x2 := by
    unfold kernelRun0_A.sl.HS2_1
    rw [View.canon_unit_zero zeros2]
    rw [read_whole harg4 zeros3]
    rfl
  unfold out0_A_7
  rw [View.read_writes_junk_eq_canon, pieces_run]
  refine congrArg View.canon (congrArg List.ofFn (funext fun s => ?_))
  unfold rowValue
  simp only [View.readCov_eq_canon', h2, h3, h4, View.readAt_eq_ld, harg7.read_unread]

/-- The block at a token and a lane is that token's row at its query. -/
theorem canon_row (Q K V : Vec F S2048x128 .bf16) (B : Vec F S2x14x64x128 .f32) (r : Fin 32) (c : Fin 64) (l : Fin 128) (t : Fin 2048)
    (ht : t.val = 64 * r.val + c.val) :
    View.canon (List.ofFn fun s : Fin 32 => (⟨storeRect s.rev, rowValue Q K V B s.rev⟩ : View.Piece (Elt F) S1x2048x128 .bf16))
        (ix3 0 t l) = rowValue Q K V B r (ix3 0 c l) := by
  refine View.canon_ofFn_eq_of_forall (fun s : Fin 32 => storeRect s.rev) (fun s => rowValue Q K V B s.rev) _ _ ⟨r.rev, ?_⟩ ?_
  · refine Rect.mem_set_unit.mpr fun a => ?_
    have hc := c.isLt
    rw [Fin.rev_rev]
    fin_cases a
    · exact ⟨Nat.le_refl 0, Nat.one_pos⟩
    · exact ⟨by show 64 * r.val ≤ t.val; omega, by show t.val < 64 * r.val + 64; omega⟩
    · exact ⟨Nat.zero_le _, by show l.val < 0 + 128; omega⟩
  · intro s y hy
    have h1 : 64 * s.rev.val + 1 * (y 1).val = t.val := congrArg Fin.val (congrFun hy 1)
    have h2 : 0 + 1 * (y 2).val = l.val := congrArg Fin.val (congrFun hy 2)
    have hy1 : (y 1).val < 64 := (y 1).isLt
    have hr : s.rev = r := Fin.ext (by have := c.isLt; omega)
    rw [hr] at h1 ⊢
    refine congrArg _ ?_
    rw [eq_ix3 y]
    refine congr (congr (congrArg ix3 ?_) (Fin.ext ?_)) (Fin.ext ?_)
    · exact Subsingleton.elim (α := Fin 1) _ _
    · omega
    · omega

end Pieces

end Cert.KernelIdeal.Rows
-- ==== Proof.BlockValue.lean ====
/- One grid point of the kernel computes the attention of its batch element and its two heads. -/
module

public import proofs.«01_k».proof.Proof.Block

@[expose] public section

noncomputable section

namespace Cert.KernelIdeal.Rows

open Cert.KernelIdeal Cert.KernelIdeal.Gen Idealize.ShloMosaic Cert.Consts

/-- Head `e` of pair `p`. -/
def head (p : Fin 4) (e : Fin 2) : Fin 8 := ⟨2 * p.val + e.val, by omega⟩

/-- Entry `h, d, c, l` of the bias table: the bias of the key in window row `d + l / 64`, column `l mod 64`, minus infinity
    outside the columns of the window. -/
def biasEntry (w : Fin 8 → Fin 15 → Fin 31 → ℝ) (h : Fin 8) (d : Fin 14) (c : Fin 64) (l : Fin 128) : EReal :=
  if Spec.NearCol c.val (l.val % 64) then (w h ⟨d.val + l.val / 64, by omega⟩ (Spec.biasCol c.val (l.val % 64)) : EReal) else ⊥

variable (x : Fin 16 → Fin 2048 → Fin 1536 → ℝ) (gq gk : Fin 64 → ℝ) (w : Fin 8 → Fin 15 → Fin 31 → ℝ)

/-- The kernel's average over the 512 keys of the window is the average over all the keys near the query. -/
theorem window_out (b : Fin 16) (h : Fin 8) (r : Fin 32) (c : Fin 64) (t : Fin 2048) (ht : t.val = 64 * r.val + c.val) (d : Fin 64)
    (k : Fin 512 → Fin 2048) (hk : ∀ j, (k j).val = 64 * start r + j.val) :
    (∑ j : Fin 512, Soft.weight (fun j => Spec.NearCol c.val (j.val % 64))
          (fun j => ∑ d, (Spec.query x gq b h t d * (1 / 8)) * Spec.key x gk b h (k j) d
            + w h (Spec.biasRow r.val (start r + j.val / 64)) (Spec.biasCol c.val (j.val % 64))) j * x b (k j) (Spec.column 2 h d))
        / ∑ j : Fin 512, Soft.weight (fun j => Spec.NearCol c.val (j.val % 64))
          (fun j => ∑ d, (Spec.query x gq b h t d * (1 / 8)) * Spec.key x gk b h (k j) d
            + w h (Spec.biasRow r.val (start r + j.val / 64)) (Spec.biasCol c.val (j.val % 64))) j
      = Spec.out x gq gk w b h t d := by
  have hs := start_le r
  have hc := c.isLt
  have htr : t.val / 64 = r.val := by omega
  have htc : t.val % 64 = c.val := by omega
  have hrow : Spec.rowStart r.val = start r := rfl
  have h0 : ∀ k : Fin 2048, k.val < 64 * start r ∨ 64 * start r + 512 ≤ k.val →
      Soft.weight (Spec.Near t) (Spec.logit x gq gk w b h t) k = 0 := by
    intro k hk
    refine if_neg fun hn => ?_
    have := hn.1
    unfold Spec.NearRow at this
    rw [htr, hrow] at this
    omega
  have h1 : ∀ j : Fin 512, Soft.weight (Spec.Near t) (Spec.logit x gq gk w b h t) ⟨64 * start r + j.val, by omega⟩
      = Soft.weight (fun j : Fin 512 => Spec.NearCol c.val (j.val % 64))
          (fun j => ∑ d, (Spec.query x gq b h t d * (1 / 8)) * Spec.key x gk b h (k j) d
            + w h (Spec.biasRow r.val (start r + j.val / 64)) (Spec.biasCol c.val (j.val % 64))) j := by
    intro j
    have hj := j.isLt
    have e1 : (64 * start r + j.val) / 64 = start r + j.val / 64 := by omega
    have e2 : (64 * start r + j.val) % 64 = j.val % 64 := by omega
    have hkj : k j = ⟨64 * start r + j.val, by omega⟩ := Fin.ext (hk j)
    have hn : Spec.Near t ⟨64 * start r + j.val, by omega⟩ ↔ Spec.NearCol c.val (j.val % 64) := by
      unfold Spec.Near Spec.NearRow
      simp only [htr, htc, hrow, e1, e2]
      constructor
      · exact fun hh => hh.2
      · exact fun hh => ⟨by omega, hh⟩
    have hl : Spec.logit x gq gk w b h t ⟨64 * start r + j.val, by omega⟩
        = ∑ d, (Spec.query x gq b h t d * (1 / 8)) * Spec.key x gk b h (k j) d
            + w h (Spec.biasRow r.val (start r + j.val / 64)) (Spec.biasCol c.val (j.val % 64)) := by
      unfold Spec.logit
      simp only [htr, htc, e1, e2, hkj]
      rw [Finset.sum_mul]
      refine congrArg (· + _) (Finset.sum_congr rfl fun d _ => ?_)
      ring
    unfold Soft.weight
    by_cases hh : Spec.NearCol c.val (j.val % 64)
    · rw [if_pos (hn.mpr hh), if_pos hh, hl]
    · rw [if_neg (fun h' => hh (hn.mp h')), if_neg hh]
  unfold Spec.out
  rw [Spec.sum_window (64 * start r) (by omega : 64 * start r + 512 ≤ 2048) _ (fun k hk => by rw [h0 k hk, zero_mul]),
    Spec.sum_window (64 * start r) (by omega : 64 * start r + 512 ≤ 2048) _ h0]
  refine congr (congrArg HDiv.hDiv (Finset.sum_congr rfl fun j _ => ?_)) (Finset.sum_congr rfl fun j _ => ?_)
  · have hkj : k j = ⟨64 * start r + j.val, by have := j.isLt; omega⟩ := Fin.ext (hk j)
    rw [h1 j, hkj]
  · rw [h1 j]

/-- The stored row at a lane: the attention of the lane's head. -/
theorem rowOut_apply (q : Vec Ideal S64x128 .bf16) (kw vw : Vec Ideal S512x128 .bf16) (t : Fin 2 → Fin 4 → Vec Ideal S1x1x64x128 .f32)
    (c : Fin 64) (e : Fin 2) (d : Fin 64) :
    rowOut q kw vw (t 0) (t 1) (ix3 0 c (lane e d)) = attend (headMask e) q kw vw (t e) (ix2 c (lane e d)) := by
  have m0 : headMask 0 = firstHead := if_pos rfl
  have m1 : headMask 1 = secondHead := if_neg (by decide)
  have h : rowOut q kw vw (t 0) (t 1) (ix3 0 c (lane e d))
      = Scalar.select (firstHead (ix2 0 (lane e d))) (attend firstHead q kw vw (t 0) (ix2 c (lane e d)))
          (attend secondHead q kw vw (t 1) (ix2 c (lane e d))) := by
    pointwise [rowOut, lanes]
  have hd := d.isLt
  rw [h, ← m0, ← m1, select_head]
  rcases (show e = 0 ∨ e = 1 by omega) with he | he
  · have hl : (lane e d).val / 64 = (0 : Fin 2).val := by rw [he]; simp only [lane]; omega
    rw [if_pos hl, he]
  · have hl : ¬ (lane e d).val / 64 = (0 : Fin 2).val := by rw [he]; simp only [lane]; omega
    rw [if_neg hl, he]

/-- The row's stored value at a token and a lane. -/
theorem rowValue_apply (b : Fin 16) (p : Fin 4) (x0 x1 x2 : Vec Ideal S1x2048x128 .bf16) (x3 x4 : Vec Ideal S1x128 .f32)
    (x5 : Vec Ideal S2x14x64x128 .f32) (x6 : Vec Ideal S128x128 .bf16)
    (h0 : ∀ t e d, x0 (ix3 0 t (lane e d)) = (x b t (Spec.column 0 (head p e) d) : EReal))
    (h1 : ∀ t e d, x1 (ix3 0 t (lane e d)) = (x b t (Spec.column 1 (head p e) d) : EReal))
    (h2 : ∀ t e d, x2 (ix3 0 t (lane e d)) = (x b t (Spec.column 2 (head p e) d) : EReal))
    (h3 : ∀ e d, x3 (ix2 0 (lane e d)) = (gq d : EReal)) (h4 : ∀ e d, x4 (ix2 0 (lane e d)) = (gk d : EReal))
    (h5 : ∀ e m c l, x5 (ix4 e m c l) = biasEntry w (head p e) m c l) (h6 : SumsHeads x6)
    (r : Fin 32) (c : Fin 64) (t : Fin 2048) (ht : t.val = 64 * r.val + c.val) (e : Fin 2) (d : Fin 64) :
    rowValue (queries x0 x3 x6) (keys x1 x4 x6) (values x2) x5 r (ix3 0 c (lane e d))
      = (Spec.out x gq gk w b (head p e) t d : EReal) := by
  have hs := start_le r
  have hlane : ∀ l : Fin 128, l = lane ⟨l.val / 64, by omega⟩ ⟨l.val % 64, by omega⟩ := fun l => Fin.ext (by simp only [lane]; omega)
  have hy : ∀ (X : Vec Ideal S1x2048x128 .bf16) (s : Fin 3),
      (∀ t e d, X (ix3 0 t (lane e d)) = (x b t (Spec.column s (head p e) d) : EReal)) → ∀ t (l : Fin 128),
        X (ix3 0 t l) = ((fun l : Fin 128 => x b t (Spec.column s (head p ⟨l.val / 64, by omega⟩) ⟨l.val % 64, by omega⟩)) l : EReal) := by
    intro X s hX t l
    conv_lhs => rw [hlane l, hX]
  have hcol : ∀ (s : Fin 3) (t : Fin 2048) (d : Fin 64),
      (fun l : Fin 128 => x b t (Spec.column s (head p ⟨l.val / 64, by omega⟩) ⟨l.val % 64, by omega⟩)) (lane e d)
        = x b t (Spec.column s (head p e) d) := by
    intro s t d
    have hd := d.isLt
    have e1 : (⟨(lane e d).val / 64, by have := (lane e d).isLt; omega⟩ : Fin 2) = e := Fin.ext (by simp only [lane]; omega)
    have e2 : (⟨(lane e d).val % 64, by omega⟩ : Fin 64) = d := Fin.ext (by simp only [lane]; omega)
    show x b t (Spec.column s (head p ⟨(lane e d).val / 64, _⟩) ⟨(lane e d).val % 64, _⟩) = _
    rw [e1, e2]
  let k : Fin 512 → Fin 2048 := fun j => ⟨64 * start r + j.val, by omega⟩
  have hq : ∀ d, View.ld (queries x0 x3 x6) (queryRect r) (ix2 c (lane e d)) = ((Spec.query x gq b (head p e) t d * (1 / 8) : ℝ) : EReal) := by
    intro d
    rw [View.ld_unit_apply_of _ _ _ _ _ (ix2 t (lane e d)) (by
      intro a; fin_cases a
      · exact ht
      · exact (Nat.zero_add _).symm)]
    rw [queries_apply x0 x3 x6 h6 t _ (hy x0 0 h0 t) gq e (h3 e) d]
    simp only [hcol]
    rfl
  have hkk : ∀ j d, View.ld (keys x1 x4 x6) (windowRect r) (ix2 j (lane e d)) = ((Spec.key x gk b (head p e) (k j) d : ℝ) : EReal) := by
    intro j d
    rw [View.ld_unit_apply_of _ _ _ _ _ (ix2 (k j) (lane e d)) (by
      intro a; fin_cases a
      · rfl
      · exact (Nat.zero_add _).symm)]
    rw [keys_apply x1 x4 x6 h6 (k j) _ (hy x1 1 h1 (k j)) gk e (h4 e) d]
    simp only [hcol]
    rfl
  have hv : ∀ j, View.ld (values x2) (windowRect r) (ix2 j (lane e d)) = ((x b (k j) (Spec.column 2 (head p e) d) : ℝ) : EReal) := by
    intro j
    rw [View.ld_unit_apply_of _ _ _ _ _ (ix2 (k j) (lane e d)) (by
      intro a; fin_cases a
      · rfl
      · exact (Nat.zero_add _).symm)]
    rw [values_apply, h2]
  have hB : ∀ (m : Fin 4) (u : Fin 128) (j : Fin 512), j.val = 128 * m.val + u.val →
      View.ld x5 (tileRect e r m) (ix4 0 0 c u)
        = if Spec.NearCol c.val (j.val % 64)
          then (w (head p e) (Spec.biasRow r.val (start r + j.val / 64)) (Spec.biasCol c.val (j.val % 64)) : EReal) else ⊥ := by
    intro m u j hj
    have hr1 := start_le_row r
    have hr2 := row_le_start r
    have hm := m.isLt
    have hu := u.isLt
    rw [View.ld_unit_apply_of _ _ _ _ _ (ix4 e ⟨start r + 7 - r.val + 2 * m.val, by omega⟩ c u) (by
      intro a; fin_cases a
      · rfl
      · rfl
      · exact (Nat.zero_add _).symm
      · exact (Nat.zero_add _).symm)]
    rw [h5]
    unfold biasEntry
    have e1 : j.val % 64 = u.val % 64 := by omega
    have e2 : (⟨start r + 7 - r.val + 2 * m.val + u.val / 64, by omega⟩ : Fin 15) = Spec.biasRow r.val (start r + j.val / 64) :=
      Fin.ext (by simp only [Spec.biasRow]; omega)
    rw [e1, ← e2]
  unfold rowValue
  rw [rowOut_apply _ _ _ (fun e k => View.ld x5 (tileRect e r k))]
  rw [attend_apply e _ _ _ _ c _ _ (fun j : Fin 512 => Spec.NearCol c.val (j.val % 64))
    ⟨⟨c.val, by omega⟩, by
      show Spec.NearCol c.val (c.val % 64)
      have := c.isLt
      unfold Spec.NearCol Spec.colStart
      omega⟩ _ hq hkk hB _ _ hv]
  exact congrArg Real.toEReal (window_out x gq gk w b (head p e) r c t ht d k fun j => rfl)

end Cert.KernelIdeal.Rows
-- ==== Proof.HostValue.lean ====
/- The host's arrays at an index. -/
module

public import proofs.«01_k».proof.Proof.Host
public import proofs.«01_k».proof.Proof.BlockValue

@[expose] public section

noncomputable section

namespace Cert.KernelIdeal.Host

open Cert.KernelIdeal Cert.KernelIdeal.Gen Cert.KernelIdeal.Rows Idealize.ShloMosaic Cert.Consts

theorem uitofp_one {φ : FTy} : FloatOps.uitofp (F := Ideal) φ 1#1 = ((1 : ℝ) : EReal) := by
  show (((1#1 : BitVec 1).toNat : ℝ) : EReal) = _
  simp

theorem uitofp_zero {φ : FTy} : FloatOps.uitofp (F := Ideal) φ 0#1 = ((0 : ℝ) : EReal) := by
  show (((0#1 : BitVec 1).toNat : ℝ) : EReal) = _
  simp

/-- Two bias columns are compared as words. -/
theorem cmp_eq (a b : Fin 31) : IntOp.cmpi .eq (BitVec.ofNat 32 a.val) (BitVec.ofNat 32 b.val) = if a = b then 1#1 else 0#1 := by
  revert a b; decide +kernel

theorem repeated_apply (g : Vec Ideal S64 .f32) (e : Fin 2) (d : Fin 64) : repeated g (ix2 0 (lane e d)) = g (ix1 d) := by
  pointwise [repeated]
  exact congrArg (fun q => g (ix1 q)) (Fin.ext (by show (64 * e.val + d.val) % 64 = d.val; omega))

theorem ones_word (a l : Fin 128) : IntOp.cmpi .eq (IntOp.divsi .host (BitVec.ofNat 32 a.val) 64#32) (IntOp.divsi .host (BitVec.ofNat 32 l.val) 64#32)
    = if a.val / 64 = l.val / 64 then 1#1 else 0#1 := by
  revert a l; decide +kernel

theorem ones_apply : SumsHeads (ones (F := Ideal)) := by
  intro a l
  pointwise [ones, headOf]
  rw [ones_word]
  split_ifs
  · exact uitofp_one
  · exact uitofp_zero

theorem inside_apply (c kc : Fin 64) : inside (ix2 c kc) = if Spec.NearCol c.val kc.val then 1#1 else 0#1 := by
  pointwise [inside, firstCol, keyCol, queryCol, word]
  revert c kc; decide +kernel

theorem biasIndex_apply (c kc : Fin 64) : biasIndex (ix2 c kc) = BitVec.ofNat 32 (Spec.biasCol c.val kc.val).val := by
  pointwise [biasIndex, keyCol, queryCol, word]
  revert c kc; decide +kernel

theorem spread_apply (w : Vec Ideal S8x15x31 .f32) (h : Fin 8) (r : Fin 15) (c kc : Fin 64) :
    spread w (ix4 h r c kc) = w (ix3 h r (Spec.biasCol c.val kc.val)) := by
  pointwise [spread, oneHot]
  rw [biasIndex_apply, Finset.sum_eq_single (Spec.biasCol c.val kc.val)]
  · rw [cmp_eq, if_pos rfl]
    exact (congrArg (_ * ·) (uitofp_one (φ := .f32))).trans (mul_one _)
  · intro x _ hx
    rw [cmp_eq, if_neg (Ne.symm hx)]
    exact (congrArg (_ * ·) (uitofp_zero (φ := .f32))).trans (mul_zero _)
  · exact fun hx => absurd (Finset.mem_univ _) hx

theorem masked_apply (w : Vec Ideal S8x15x31 .f32) (h : Fin 8) (r : Fin 15) (c kc : Fin 64) :
    masked w (ix4 h r c kc) = if Spec.NearCol c.val kc.val then w (ix3 h r (Spec.biasCol c.val kc.val)) else ⊥ := by
  pointwise [masked]
  rw [inside_apply, spread_apply, ofBits_bottom]
  split_ifs <;> rfl

theorem table_apply (w : Vec Ideal S8x15x31 .f32) (h : Fin 8) (d : Fin 14) (c : Fin 64) (l : Fin 128) :
    table w (ix4 h d c l) = masked w (ix4 h ⟨d.val + l.val / 64, by omega⟩ c ⟨l.val % 64, by omega⟩) := by
  pointwise [table]
  have hl := l.isLt
  split_ifs with h
  · refine congrArg (masked w) (funext fun a => Fin.ext ?_)
    match a with
    | ⟨0, _⟩ => rfl
    | ⟨1, _⟩ => show d.val = d.val + l.val / 64; omega
    | ⟨2, _⟩ => rfl
    | ⟨3, _⟩ => show l.val = l.val % 64; omega
  · refine congrArg (masked w) (funext fun a => Fin.ext ?_)
    match a with
    | ⟨0, _⟩ => rfl
    | ⟨1, _⟩ => show 1 + d.val = d.val + l.val / 64; omega
    | ⟨2, _⟩ => rfl
    | ⟨3, _⟩ => show l.val - 64 = l.val % 64; omega
  · exact absurd rfl ‹_›

/-- The table holds the bias entries of a pair of heads. -/
theorem table_entry (a : Vec Ideal S8x15x31 .f32) (w : Fin 8 → Fin 15 → Fin 31 → ℝ) (hw : ∀ h r c, a (ix3 h r c) = (w h r c : EReal))
    (h : Fin 8) (d : Fin 14) (c : Fin 64) (l : Fin 128) : table a (ix4 h d c l) = biasEntry w h d c l := by
  rw [table_apply, masked_apply, hw]
  rfl

end Cert.KernelIdeal.Host

end
-- ==== Proof.Array.lean ====
/- The attention kernel's blocks and its result array. -/
module

public import proofs.«01_k».proof.Proof.HostValue
public import proofs.«01_k».proof.Proof.Gen.KernelIdeal.Value
public import Idealize.ShloMosaic.Lib.Pipeline.ValueKit.Geometry

@[expose] public section

noncomputable section

namespace Cert.KernelIdeal.Array

open Cert.KernelIdeal Cert.KernelIdeal.Gen Cert.KernelIdeal.Rows Idealize.ShloMosaic Idealize.ShloMosaic.TcCoe Idealize.ShloMosaic.Tactic
open Idealize.ShloMosaic.Pipeline (Dat)

/-- The batch entry of a grid point. -/
def batch (t : Fin grid0.N) : Fin 16 := ⟨t.val / 4, by have h : t.val < 64 := t.isLt; omega⟩

/-- The pair of heads of a grid point. -/
def pair (t : Fin grid0.N) : Fin 4 := ⟨t.val % 4, by omega⟩

theorem index0 : ∀ t : Fin grid0.N, win0_0.index t 0 = t.val / 4 ∧ win0_0.index t 1 = 0 ∧ win0_0.index t 2 = t.val % 4 := by decide +kernel
theorem index1 : ∀ t : Fin grid0.N, win0_1.index t 0 = t.val / 4 ∧ win0_1.index t 1 = 0 ∧ win0_1.index t 2 = 4 + t.val % 4 := by decide +kernel
theorem index2 : ∀ t : Fin grid0.N, win0_2.index t 0 = t.val / 4 ∧ win0_2.index t 1 = 0 ∧ win0_2.index t 2 = 8 + t.val % 4 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val % 4 ∧ win0_5.index t 1 = 0 ∧ win0_5.index t 2 = 0 ∧ win0_5.index t 3 = 0 := by decide +kernel
theorem index6 : ∀ t : Fin grid0.N, win0_6.index t 0 = 0 ∧ win0_6.index t 1 = 0 := by decide +kernel
theorem index7 : ∀ t : Fin grid0.N, win0_7.index t 0 = t.val / 4 ∧ win0_7.index t 1 = 0 ∧ win0_7.index t 2 = t.val % 4 := by decide +kernel

section Reads
variable {F : FTy → Type} [FloatOps F]
variable (m : (ℓ : Loc nD τ sig) → Buf (Elt F) ℓ) (c : Dev nD)

theorem read0 (t : Fin grid0.N) (r : Fin 2048) (l : Fin 128) :
    iblk m c 0 t (ix3 0 r l) = m ((c : Thread nD τ).loc main_arg0) (ix3 (batch t) r ⟨128 * (pair t).val + l.val, by omega⟩) := by
  show ((cfg0.win 0).blk t).view.read (Elt F) (V m c main_arg0) (ix3 0 r l) = _
  rw [V_main_arg0]
  refine congrArg (m ((c : Thread nD τ).loc main_arg0)) (funext fun a => Fin.ext ((ValueKit.rect_emb_unit_val _ _ _ _ a).trans ?_))
  obtain ⟨h0, h1, h2⟩ := index0 t
  match a with
  | ⟨0, _⟩ => show win0_0.index t 0 * 1 + 0 = t.val / 4; omega
  | ⟨1, _⟩ => show win0_0.index t 1 * 2048 + r.val = r.val; omega
  | ⟨2, _⟩ => show win0_0.index t 2 * 128 + l.val = 128 * (t.val % 4) + l.val; omega

theorem read1 (t : Fin grid0.N) (r : Fin 2048) (l : Fin 128) :
    iblk m c 1 t (ix3 0 r l) = m ((c : Thread nD τ).loc main_arg0) (ix3 (batch t) r ⟨512 + 128 * (pair t).val + l.val, by omega⟩) := by
  show ((cfg0.win 1).blk t).view.read (Elt F) (V m c main_arg0) (ix3 0 r l) = _
  rw [V_main_arg0]
  refine congrArg (m ((c : Thread nD τ).loc main_arg0)) (funext fun a => Fin.ext ((ValueKit.rect_emb_unit_val _ _ _ _ a).trans ?_))
  obtain ⟨h0, h1, h2⟩ := index1 t
  match a with
  | ⟨0, _⟩ => show win0_1.index t 0 * 1 + 0 = t.val / 4; omega
  | ⟨1, _⟩ => show win0_1.index t 1 * 2048 + r.val = r.val; omega
  | ⟨2, _⟩ => show win0_1.index t 2 * 128 + l.val = 512 + 128 * (t.val % 4) + l.val; omega

theorem read2 (t : Fin grid0.N) (r : Fin 2048) (l : Fin 128) :
    iblk m c 2 t (ix3 0 r l) = m ((c : Thread nD τ).loc main_arg0) (ix3 (batch t) r ⟨1024 + 128 * (pair t).val + l.val, by omega⟩) := by
  show ((cfg0.win 2).blk t).view.read (Elt F) (V m c main_arg0) (ix3 0 r l) = _
  rw [V_main_arg0]
  refine congrArg (m ((c : Thread nD τ).loc main_arg0)) (funext fun a => Fin.ext ((ValueKit.rect_emb_unit_val _ _ _ _ a).trans ?_))
  obtain ⟨h0, h1, h2⟩ := index2 t
  match a with
  | ⟨0, _⟩ => show win0_2.index t 0 * 1 + 0 = t.val / 4; omega
  | ⟨1, _⟩ => show win0_2.index t 1 * 2048 + r.val = r.val; omega
  | ⟨2, _⟩ => show win0_2.index t 2 * 128 + l.val = 1024 + 128 * (t.val % 4) + l.val; omega

theorem read3 (t : Fin grid0.N) (l : Fin 128) :
    iblk m c 3 t (ix2 0 l) = Host.repeated (m ((c : Thread nD τ).loc main_arg1)) (ix2 0 l) := by
  show ((cfg0.win 3).blk t).view.read (Elt F) (V m c main_v40) (ix2 0 l) = _
  rw [Host.V_gq]
  refine congrArg (Host.repeated (m ((c : Thread nD τ).loc main_arg1))) (funext fun a => Fin.ext ((ValueKit.rect_emb_unit_val _ _ _ _ a).trans ?_))
  obtain ⟨h0, h1⟩ := index3 t
  match a with
  | ⟨0, _⟩ => show win0_3.index t 0 * 1 + 0 = 0; omega
  | ⟨1, _⟩ => show win0_3.index t 1 * 128 + l.val = l.val; omega

theorem read4 (t : Fin grid0.N) (l : Fin 128) :
    iblk m c 4 t (ix2 0 l) = Host.repeated (m ((c : Thread nD τ).loc main_arg2)) (ix2 0 l) := by
  show ((cfg0.win 4).blk t).view.read (Elt F) (V m c main_v44) (ix2 0 l) = _
  rw [Host.V_gk]
  refine congrArg (Host.repeated (m ((c : Thread nD τ).loc main_arg2))) (funext fun a => Fin.ext ((ValueKit.rect_emb_unit_val _ _ _ _ a).trans ?_))
  obtain ⟨h0, h1⟩ := index4 t
  match a with
  | ⟨0, _⟩ => show win0_4.index t 0 * 1 + 0 = 0; omega
  | ⟨1, _⟩ => show win0_4.index t 1 * 128 + l.val = l.val; omega

theorem read5 (t : Fin grid0.N) (e : Fin 2) (d : Fin 14) (q : Fin 64) (l : Fin 128) :
    iblk m c 5 t (ix4 e d q l) = Host.table (m ((c : Thread nD τ).loc main_arg3)) (ix4 (head (pair t) e) d q l) := by
  show ((cfg0.win 5).blk t).view.read (Elt F) (V m c main_v28) (ix4 e d q l) = _
  rw [Host.V_table]
  refine congrArg (Host.table (m ((c : Thread nD τ).loc main_arg3))) (funext fun a => Fin.ext ((ValueKit.rect_emb_unit_val _ _ _ _ a).trans ?_))
  obtain ⟨h0, h1, h2, h3⟩ := index5 t
  match a with
  | ⟨0, _⟩ => show win0_5.index t 0 * 2 + e.val = 2 * (t.val % 4) + e.val; omega
  | ⟨1, _⟩ => show win0_5.index t 1 * 14 + d.val = d.val; omega
  | ⟨2, _⟩ => show win0_5.index t 2 * 64 + q.val = q.val; omega
  | ⟨3, _⟩ => show win0_5.index t 3 * 128 + l.val = l.val; omega

theorem read6 (t : Fin grid0.N) (a l : Fin 128) : iblk m c 6 t (ix2 a l) = Host.ones (ix2 a l) := by
  show ((cfg0.win 6).blk t).view.read (Elt F) (V m c main_v36) (ix2 a l) = _
  rw [Host.V_ones]
  refine congrArg (Host.ones (F := F)) (funext fun j => Fin.ext ((ValueKit.rect_emb_unit_val _ _ _ _ j).trans ?_))
  obtain ⟨h0, h1⟩ := index6 t
  match j with
  | ⟨0, _⟩ => show win0_6.index t 0 * 128 + a.val = a.val; omega
  | ⟨1, _⟩ => show win0_6.index t 1 * 128 + l.val = l.val; omega

end Reads

variable (x : Fin 16 → Fin 2048 → Fin 1536 → ℝ) (gq gk : Fin 64 → ℝ) (w : Fin 8 → Fin 15 → Fin 31 → ℝ)
variable (m : (ℓ : Loc nD τ sig) → Buf (Elt Ideal) ℓ) (ρ : Dev nD → PrngReg) (c : Dev nD)

/-- The arguments hold these real numbers. -/
structure Holds : Prop where
  x : ∀ b t j, m ((c : Thread nD τ).loc main_arg0) (ix3 b t j) = (x b t j : EReal)
  gq : ∀ d, m ((c : Thread nD τ).loc main_arg1) (ix1 d) = (gq d : EReal)
  gk : ∀ d, m ((c : Thread nD τ).loc main_arg2) (ix1 d) = (gk d : EReal)
  w : ∀ h r j, m ((c : Thread nD τ).loc main_arg3) (ix3 h r j) = (w h r j : EReal)

variable {x gq gk w m c}

/-- What a grid point computes, at an index of its block. -/
theorem point (H : Holds x gq gk w m c) (t : Fin grid0.N) (r : Fin 2048) (l : Fin 128) :
    outsAt0 m c t (ix3 0 r l)
      = (Spec.out x gq gk w (batch t) (head (pair t) ⟨l.val / 64, by omega⟩) r ⟨l.val % 64, by omega⟩ : EReal) := by
  unfold outsAt0
  rw [out_pieces, canon_row _ _ _ _ ⟨r.val / 64, by omega⟩ ⟨r.val % 64, by omega⟩ l r (by show r.val = 64 * (r.val / 64) + r.val % 64; omega)]
  have hl : l = lane ⟨l.val / 64, by omega⟩ ⟨l.val % 64, by omega⟩ := Fin.ext (by simp only [lane]; omega)
  refine (congrArg _ (congrArg (fun q => ix3 (0 : Fin 1) (⟨r.val % 64, by omega⟩ : Fin 64) q) hl)).trans ?_
  refine rowValue_apply x gq gk w (batch t) (pair t) _ _ _ _ _ _ _ ?_ ?_ ?_ ?_ ?_ ?_ ?_ _ _ r (by show r.val = 64 * (r.val / 64) + r.val % 64; omega) _ _
  · intro r e d
    rw [read0, H.x]
    exact congrArg (fun j => (x (batch t) r j : EReal)) (Fin.ext (by simp only [lane, Spec.column, head]; omega))
  · intro r e d
    rw [read1, H.x]
    exact congrArg (fun j => (x (batch t) r j : EReal)) (Fin.ext (by simp only [lane, Spec.column, head]; omega))
  · intro r e d
    rw [read2, H.x]
    exact congrArg (fun j => (x (batch t) r j : EReal)) (Fin.ext (by simp only [lane, Spec.column, head]; omega))
  · intro e d
    rw [read3, Host.repeated_apply, H.gq]
  · intro e d
    rw [read4, Host.repeated_apply, H.gk]
  · intro e d q l
    rw [read5]
    exact Host.table_entry _ w H.w _ _ _ _
  · intro a l
    rw [read6]
    exact Host.ones_apply a l

variable (x gq gk w c)

/-- The whole result array. -/
def result : Buf (Elt Ideal) ((c : Thread nD τ).loc main_v45) :=
  fun i : S16x2048x512.Idx => (Spec.out x gq gk w (i 0) ⟨(i 2).val / 64, by have h : (i 2).val < 512 := (i 2).isLt; omega⟩ (i 1)
    ⟨(i 2).val % 64, by omega⟩ : EReal)

variable {x gq gk w c}

/-- Every grid point writes back its block of the result array. -/
theorem flushed (H : Holds x gq gk w m c) (t : Fin cfg0.N) :
    (dats m 0 c).flushed 7 t = ((cfg0.win 7).blk t).view.read (Elt Ideal) (result x gq gk w c) := by
  rw [Value.flushed7]
  funext y
  obtain ⟨h0, h1, h2⟩ := index7 t
  have hy0 : (y 0).val < 1 := (y 0).isLt
  have hy1 : (y 1).val < 2048 := (y 1).isLt
  have hy2 : (y 2).val < 128 := (y 2).isLt
  have hl : (cfg0.win 7).xinj (grid0.coords t) y = ix3 0 (⟨(y 1).val, hy1⟩ : Fin 2048) (⟨(y 2).val, hy2⟩ : Fin 128) := funext fun a => Fin.ext (by
    match a with
    | ⟨0, _⟩ => show (y 0).val = 0; omega
    | ⟨1, _⟩ => rfl
    | ⟨2, _⟩ => rfl)
  have hr : ((cfg0.win 7).blk t).view.emb y = ix3 (batch t) (⟨(y 1).val, hy1⟩ : Fin 2048) (⟨128 * (pair t).val + (y 2).val, by omega⟩ : Fin 512) :=
    funext fun a => Fin.ext ((ValueKit.rect_emb_unit_val _ _ _ _ a).trans (by
      match a with
      | ⟨0, _⟩ => show win0_7.index t 0 * 1 + (y 0).val = t.val / 4; omega
      | ⟨1, _⟩ => show win0_7.index t 1 * 2048 + (y 1).val = (y 1).val; omega
      | ⟨2, _⟩ => show win0_7.index t 2 * 128 + (y 2).val = 128 * (t.val % 4) + (y 2).val; omega))
  show outsAt0 m c t ((cfg0.win 7).xinj (grid0.coords t) y) = result x gq gk w c (((cfg0.win 7).blk t).view.emb y)
  rw [hl, hr, point H]
  show (Spec.out x gq gk w (batch t) (head (pair t) ⟨(y 2).val / 64, _⟩) _ ⟨(y 2).val % 64, _⟩ : EReal)
    = (Spec.out x gq gk w (batch t) ⟨(128 * (pair t).val + (y 2).val) / 64, _⟩ _ ⟨(128 * (pair t).val + (y 2).val) % 64, _⟩ : EReal)
  congr 2
  · exact Fin.ext (by simp only [head]; omega)
  · exact Fin.ext (by simp only; omega)

/-- The blocks cover the result array. -/
theorem cover (i : S16x2048x512.Idx) : ∃ t : Fin cfg0.N, (cfg0.win 7).flush t = true ∧ i ∈ ((cfg0.win 7).blk t).view.set := by
  have h0 : (i 0).val < 16 := (i 0).isLt
  have h1 : (i 1).val < 2048 := (i 1).isLt
  have h2 : (i 2).val < 512 := (i 2).isLt
  have ht : 4 * (i 0).val + (i 2).val / 128 < grid0.N := by rw [N_0]; omega
  refine ⟨⟨4 * (i 0).val + (i 2).val / 128, ht⟩, flush0_7 _, ?_⟩
  obtain ⟨e0, e1, e2⟩ := index7 ⟨4 * (i 0).val + (i 2).val / 128, ht⟩
  show i ∈ ((View.whole main_v45).slice (win0_7.rect ⟨4 * (i 0).val + (i 2).val / 128, ht⟩)).set
  rw [View.set_slice_whole, Rect.mem_set_unit]
  intro a
  match a with
  | ⟨0, _⟩ => show win0_7.index _ 0 * 1 ≤ (i 0).val ∧ (i 0).val < win0_7.index _ 0 * 1 + 1; rw [e0]; simp only; omega
  | ⟨1, _⟩ => show win0_7.index _ 1 * 2048 ≤ (i 1).val ∧ (i 1).val < win0_7.index _ 1 * 2048 + 2048; rw [e1]; omega
  | ⟨2, _⟩ => show win0_7.index _ 2 * 128 ≤ (i 2).val ∧ (i 2).val < win0_7.index _ 2 * 128 + 128; rw [e2]; simp only; omega

/-- So the kernel's result array is the attention of its arguments. -/
theorem final (H : Holds x gq gk w m c) : (dats m 0 c).arrAt 7 cfg0.N = result x gq gk w c :=
  (dats m 0 c).arrAt_eq_of_cover 7 (result x gq gk w c) (fun t _ => flushed H t) cover

end Cert.KernelIdeal.Array

end
-- ==== Proof.Window.lean ====
/- The reference's window and bias indices: its integer arithmetic on tokens, read at an index. -/
module

public import proofs.«01_k».proof.Proof.Gen.ReferenceIdeal.Read
public import proofs.«01_k».proof.Proof.Spec

@[expose] public section

noncomputable section

namespace Cert.ReferenceIdeal.Window

open Cert.ReferenceIdeal Cert.ReferenceIdeal.Gen Cert.ReferenceIdeal.Read Idealize.ShloMosaic

theorem row_word (t : Fin 2048) : IntOp.divsi .host (BitVec.ofNat 32 t.val) 64#32 = BitVec.ofNat 32 (t.val / 64) := by
  revert t; decide +kernel

theorem col_word (t : Fin 2048) : IntOp.remsi .host (BitVec.ofNat 32 t.val) 64#32 = BitVec.ofNat 32 (t.val % 64) := by
  revert t; decide +kernel

theorem row_apply (i : S2048.Idx) : val_main_v35 (F := Ideal) i = BitVec.ofNat 32 ((i 0).val / 64) := by
  rw [val_main_v35_apply, val_main_v33_apply, val_main_v34_apply, val_main_c_apply]
  exact row_word (i 0)

theorem col_apply (i : S2048.Idx) : val_main_v37 (F := Ideal) i = BitVec.ofNat 32 ((i 0).val % 64) := by
  rw [val_main_v37_apply, val_main_v33_apply, val_main_v36_apply, val_main_c_5_apply]
  exact col_word (i 0)

/-- The first row of a window, in words. -/
theorem rowStart_word (r : Fin 32) :
    IntOp.minsi 24#32 (IntOp.maxsi 0#32 (IntOp.subi (BitVec.ofNat 32 r.val) 4#32)) = BitVec.ofNat 32 (Spec.rowStart r.val) := by
  revert r; decide +kernel

/-- The first column of a window, in words. -/
theorem colStart_word (c : Fin 64) :
    IntOp.minsi 48#32 (IntOp.maxsi 0#32 (IntOp.subi (BitVec.ofNat 32 c.val) 8#32)) = BitVec.ofNat 32 (Spec.colStart c.val) := by
  revert c; decide +kernel

theorem nearRow_word (r kr : Fin 32) :
    IntOp.andi (IntOp.cmpi .sge (BitVec.ofNat 32 kr.val) (BitVec.ofNat 32 (Spec.rowStart r.val)))
        (IntOp.cmpi .slt (BitVec.ofNat 32 kr.val) (IntOp.addi (BitVec.ofNat 32 (Spec.rowStart r.val)) 8#32))
      = if Spec.NearRow r.val kr.val then 1#1 else 0#1 := by
  revert r kr; decide +kernel

theorem nearCol_word (c kc : Fin 64) :
    IntOp.andi (IntOp.cmpi .sge (BitVec.ofNat 32 kc.val) (BitVec.ofNat 32 (Spec.colStart c.val)))
        (IntOp.cmpi .slt (BitVec.ofNat 32 kc.val) (IntOp.addi (BitVec.ofNat 32 (Spec.colStart c.val)) 16#32))
      = if Spec.NearCol c.val kc.val then 1#1 else 0#1 := by
  revert c kc; decide +kernel

/-- The bias row as a gather index: clipped, and not wrapped because it is not negative. -/
theorem biasRow_word (r kr : Fin 32) (z : BitVec 32)
    (hz : z = IntOp.minsi 14#32 (IntOp.maxsi 0#32 (IntOp.addi (IntOp.subi (BitVec.ofNat 32 kr.val) (BitVec.ofNat 32 r.val)) 7#32))) :
    Scalar.select (IntOp.cmpi .slt z 0#32) (IntOp.addi z 15#32) z = BitVec.ofNat 32 (Spec.biasRow r.val kr.val).val := by
  subst hz; revert r kr; decide +kernel

/-- The bias column as a gather index. -/
theorem biasCol_word (c kc : Fin 64) (z : BitVec 32)
    (hz : z = IntOp.minsi 30#32 (IntOp.maxsi 0#32 (IntOp.addi (IntOp.subi (BitVec.ofNat 32 kc.val) (BitVec.ofNat 32 c.val)) 15#32))) :
    Scalar.select (IntOp.cmpi .slt z 0#32) (IntOp.addi z 31#32) z = BitVec.ofNat 32 (Spec.biasCol c.val kc.val).val := by
  subst hz; revert c kc; decide +kernel

/-- The row of a token. -/
def row (t : Fin 2048) : Fin 32 := ⟨t.val / 64, by omega⟩

/-- The column of a token. -/
def col (t : Fin 2048) : Fin 64 := ⟨t.val % 64, by omega⟩

theorem rowStart_apply (i : S2048.Idx) : val_main_v40 (F := Ideal) i = BitVec.ofNat 32 (Spec.rowStart ((i 0).val / 64)) := by
  rw [val_main_v40_apply, val_main_call0_v4_apply, val_main_call0_v3_apply, val_main_c_8_apply, val_main_call0_v2_apply,
    val_main_call0_v1_apply, val_main_call0_v0_apply, val_main_c_7_apply, val_main_v39_apply, row_apply, val_main_v38_apply,
    val_main_c_6_apply]
  exact rowStart_word (row (i 0))

theorem colStart_apply (i : S2048.Idx) : val_main_v43 (F := Ideal) i = BitVec.ofNat 32 (Spec.colStart ((i 0).val % 64)) := by
  rw [val_main_v43_apply, val_main_call1_v4_apply, val_main_call1_v3_apply, val_main_c_11_apply, val_main_call1_v2_apply,
    val_main_call1_v1_apply, val_main_call1_v0_apply, val_main_c_10_apply, val_main_v42_apply, col_apply, val_main_v41_apply,
    val_main_c_9_apply]
  exact colStart_word (col (i 0))

/-- The mask is set exactly on the keys of the query's window. -/
theorem near_apply (t k : Fin 2048) : val_main_v68 (F := Ideal) (ix2 t k) = if Spec.Near t k then 1#1 else 0#1 := by
  rw [val_main_v68_apply, val_main_v62_apply, val_main_v58_apply, val_main_v52_apply, val_main_v57_apply, val_main_v61_apply,
    val_main_v67_apply, val_main_v50_apply, val_main_v51_apply, val_main_v55_apply, val_main_v56_apply, val_main_v59_apply,
    val_main_v60_apply, val_main_v65_apply, val_main_v66_apply, val_main_v54_apply, val_main_v64_apply, val_main_v53_apply,
    val_main_v63_apply, val_main_c_12_apply, val_main_c_13_apply]
  simp only [val_main_v46_apply, val_main_v47_apply, val_main_v48_apply, val_main_v49_apply, rowStart_apply, colStart_apply,
    row_apply, col_apply]
  have hr := nearRow_word (row t) (row k)
  have hc := nearCol_word (col t) (col k)
  have hassoc : ∀ a b c d : BitVec 1, IntOp.andi (IntOp.andi (IntOp.andi a b) c) d = IntOp.andi (IntOp.andi a b) (IntOp.andi c d) := by
    decide +kernel
  refine (hassoc _ _ _ _).trans ((congrArg₂ IntOp.andi hr hc).trans ?_)
  show IntOp.andi (if Spec.NearRow (t.val / 64) (k.val / 64) then 1#1 else 0#1) (if Spec.NearCol (t.val % 64) (k.val % 64) then 1#1 else 0#1) = _
  unfold Spec.Near
  by_cases h1 : Spec.NearRow (t.val / 64) (k.val / 64) <;> by_cases h2 : Spec.NearCol (t.val % 64) (k.val % 64) <;> simp only [h1, h2] <;> rfl

theorem biasRow_apply (t k : Fin 2048) :
    val_main_v85 (F := Ideal) (ix2 t k) = BitVec.ofNat 32 (Spec.biasRow (t.val / 64) (k.val / 64)).val := by
  rw [val_main_v85_apply, val_main_v82_apply, val_main_v84_apply, val_main_v81_apply, val_main_v83_apply, val_main_c_20_apply,
    val_main_c_21_apply]
  refine biasRow_word (row t) (row k) _ ?_
  rw [val_main_v74_apply, val_main_call2_v4_apply, val_main_call2_v3_apply, val_main_c_16_apply, val_main_call2_v2_apply,
    val_main_call2_v1_apply, val_main_call2_v0_apply, val_main_c_15_apply, val_main_v73_apply, val_main_v72_apply,
    val_main_c_14_apply, val_main_v71_apply, val_main_v69_apply, val_main_v70_apply, val_main_v46_apply, val_main_v44_apply,
    row_apply, row_apply]
  show IntOp.minsi 14#32 (IntOp.maxsi 0#32 (IntOp.addi (IntOp.subi (BitVec.ofNat 32 (row k).val) (BitVec.ofNat 32 (row t).val)) 7#32)) = _
  generalize (row k).val = a, (row t).val = b
  rfl

theorem biasCol_apply (t k : Fin 2048) :
    val_main_v90 (F := Ideal) (ix2 t k) = BitVec.ofNat 32 (Spec.biasCol (t.val % 64) (k.val % 64)).val := by
  rw [val_main_v90_apply, val_main_v87_apply, val_main_v89_apply, val_main_v86_apply, val_main_v88_apply, val_main_c_22_apply,
    val_main_c_23_apply]
  refine biasCol_word (col t) (col k) _ ?_
  rw [val_main_v80_apply, val_main_call3_v4_apply, val_main_call3_v3_apply, val_main_c_19_apply, val_main_call3_v2_apply,
    val_main_call3_v1_apply, val_main_call3_v0_apply, val_main_c_18_apply, val_main_v79_apply, val_main_v78_apply,
    val_main_c_17_apply, val_main_v77_apply, val_main_v75_apply, val_main_v76_apply, val_main_v47_apply, val_main_v45_apply,
    col_apply, col_apply]
  show IntOp.minsi 30#32 (IntOp.maxsi 0#32 (IntOp.addi (IntOp.subi (BitVec.ofNat 32 (col k).val) (BitVec.ofNat 32 (col t).val)) 15#32)) = _
  generalize (col k).val = a, (col t).val = b
  rfl

end Cert.ReferenceIdeal.Window

end
-- ==== Proof.RefNorm.lean ====
/- The reference's normalised queries and keys and its values, read at an index. -/
module

public import proofs.«01_k».proof.Proof.Window

@[expose] public section

noncomputable section

namespace Cert.ReferenceIdeal.Norm

open Cert.ReferenceIdeal Cert.ReferenceIdeal.Gen Cert.ReferenceIdeal.Read Idealize.ShloMosaic Cert.Consts

variable (x : Fin 16 → Fin 2048 → Fin 1536 → ℝ) (g : Fin 64 → ℝ)
variable (x0 : (⟨S16x2048x1536, .bf16⟩ : BufTy).Contents (Elt Ideal)) (x1 : (⟨S64, .f32⟩ : BufTy).Contents (Elt Ideal))

theorem q_apply (hx : ∀ b t c, x0 (ix3 b t c) = (x b t c : EReal)) (b : Fin 16) (t : Fin 2048) (h : Fin 8) (d : Fin 64) :
    val_main_v4 (F := Ideal) x0 (ix4 b t h d) = (x b t (Spec.column 0 h d) : EReal) := by
  rw [val_main_v4_apply, val_main_v1_apply, val_main_v0_apply, ← hx]
  refine congrArg x0 (funext fun a => Fin.ext ?_)
  match a with
  | ⟨0, _⟩ => show (((b.val * 2048 + t.val) * 8 + h.val) * 64 + d.val) / 1048576 = b.val; omega
  | ⟨1, _⟩ => show (((b.val * 2048 + t.val) * 8 + h.val) * 64 + d.val) / 512 % 2048 = t.val; omega
  | ⟨2, _⟩ => show (((b.val * 2048 + t.val) * 8 + h.val) * 64 + d.val) % 512 = 512 * 0 + 64 * h.val + d.val; omega

theorem k_apply (hx : ∀ b t c, x0 (ix3 b t c) = (x b t c : EReal)) (b : Fin 16) (t : Fin 2048) (h : Fin 8) (d : Fin 64) :
    val_main_v18 (F := Ideal) x0 (ix4 b t h d) = (x b t (Spec.column 1 h d) : EReal) := by
  rw [val_main_v18_apply, val_main_v2_apply, val_main_v0_apply, ← hx]
  refine congrArg x0 (funext fun a => Fin.ext ?_)
  match a with
  | ⟨0, _⟩ => show (((b.val * 2048 + t.val) * 8 + h.val) * 64 + d.val) / 1048576 = b.val; omega
  | ⟨1, _⟩ => show (((b.val * 2048 + t.val) * 8 + h.val) * 64 + d.val) / 512 % 2048 = t.val; omega
  | ⟨2, _⟩ => show 512 + (((b.val * 2048 + t.val) * 8 + h.val) * 64 + d.val) % 512 = 512 * 1 + 64 * h.val + d.val; omega

theorem v_apply (hx : ∀ b t c, x0 (ix3 b t c) = (x b t c : EReal)) (b : Fin 16) (t : Fin 2048) (h : Fin 8) (d : Fin 64) :
    val_main_v32 (F := Ideal) x0 (ix4 b t h d) = (x b t (Spec.column 2 h d) : EReal) := by
  rw [val_main_v32_apply, val_main_v3_apply, val_main_v0_apply, ← hx]
  refine congrArg x0 (funext fun a => Fin.ext ?_)
  match a with
  | ⟨0, _⟩ => show (((b.val * 2048 + t.val) * 8 + h.val) * 64 + d.val) / 1048576 = b.val; omega
  | ⟨1, _⟩ => show (((b.val * 2048 + t.val) * 8 + h.val) * 64 + d.val) / 512 % 2048 = t.val; omega
  | ⟨2, _⟩ => show 1024 + (((b.val * 2048 + t.val) * 8 + h.val) * 64 + d.val) % 512 = 512 * 2 + 64 * h.val + d.val; omega

/-- The reference's reciprocal root mean square of a head. -/
theorem root_mean (y : Fin 64 → ℝ) :
    Ideal.rsqrt (Ideal.div (Ideal.ofBits .f32 0x00000000#32 + ∑ a, (y a : EReal) * (y a : EReal)) (Ideal.ofBits .f32 0x42800000#32)
        + Ideal.ofBits .f32 0x3727C5AC#32)
      = (((√((∑ a, y a * y a) / 64 + eps))⁻¹ : ℝ) : EReal) := by
  have h0 : Ideal.ofBits .f32 0x00000000#32 = ((0 : ℝ) : EReal) := by simp [Ideal.ofBits, Ideal.ieee]
  have h1 : ∑ a, (y a : EReal) * (y a : EReal) = ((∑ a, y a * y a : ℝ) : EReal) := by
    rw [Soft.coe_sum]
    exact Finset.sum_congr rfl fun a _ => (EReal.coe_mul _ _).symm
  rw [h0, h1, ofBits_sixtyfour, ofBits_eps, Ideal.div_coe (by norm_num), ← EReal.coe_add, ← EReal.coe_mul, ← EReal.coe_add, zero_add,
    mul_one_div]
  exact rsqrt_pos (Spec.mean_pos y)

theorem query_apply (hx : ∀ b t c, x0 (ix3 b t c) = (x b t c : EReal)) (hg : ∀ d, x1 (ix1 d) = (g d : EReal))
    (b : Fin 16) (t : Fin 2048) (h : Fin 8) (d : Fin 64) :
    val_main_v17 (F := Ideal) x0 x1 (ix4 b t h d) = (Spec.query x g b h t d : EReal) := by
  have hs : ∀ a, idx_main_v6 (ix3 b t h) a = ix4 b t h a := fun a => funext fun j => by
    match j with | ⟨0, _⟩ => rfl | ⟨1, _⟩ => rfl | ⟨2, _⟩ => rfl | ⟨3, _⟩ => rfl
  have hi : idx_main_v7 (idx_main_v13 (ix4 b t h d)) = ix3 b t h := funext fun j => by
    match j with | ⟨0, _⟩ => rfl | ⟨1, _⟩ => rfl | ⟨2, _⟩ => rfl
  have hd : idx_main_v15 (idx_main_v16 (ix4 b t h d)) = ix1 d := funext fun j => by match j with | ⟨0, _⟩ => rfl
  rw [val_main_v17_apply, val_main_v14_apply, val_main_v16_apply, val_main_v15_apply, hd, hg, val_main_v13_apply, val_main_v12_apply,
    val_main_v11_apply, val_main_v9_apply, val_main_v7_apply, hi, val_main_v6_apply, val_main_v8_apply, val_main_v10_apply,
    val_main_cst_apply, val_main_cst_0_apply, val_main_cst_1_apply, q_apply x x0 hx]
  have he : ∀ a, val_main_v5 (F := Ideal) x0 (idx_main_v6 (ix3 b t h) a) = (x b t (Spec.column 0 h a) : EReal) * (x b t (Spec.column 0 h a) : EReal) := fun a => by
    rw [hs, val_main_v5_apply, q_apply x x0 hx]; rfl
  simp only [he]
  have hr := root_mean fun a => x b t (Spec.column 0 h a)
  refine (congrArg (fun z : EReal => (x b t (Spec.column 0 h d) : EReal) * z * (g d : EReal)) hr).trans ?_
  rw [← EReal.coe_mul, ← EReal.coe_mul]
  rfl

theorem key_apply (hx : ∀ b t c, x0 (ix3 b t c) = (x b t c : EReal)) (hg : ∀ d, x1 (ix1 d) = (g d : EReal))
    (b : Fin 16) (t : Fin 2048) (h : Fin 8) (d : Fin 64) :
    val_main_v31 (F := Ideal) x0 x1 (ix4 b t h d) = (Spec.key x g b h t d : EReal) := by
  have hs : ∀ a, idx_main_v20 (ix3 b t h) a = ix4 b t h a := fun a => funext fun j => by
    match j with | ⟨0, _⟩ => rfl | ⟨1, _⟩ => rfl | ⟨2, _⟩ => rfl | ⟨3, _⟩ => rfl
  have hi : idx_main_v21 (idx_main_v27 (ix4 b t h d)) = ix3 b t h := funext fun j => by
    match j with | ⟨0, _⟩ => rfl | ⟨1, _⟩ => rfl | ⟨2, _⟩ => rfl
  have hd : idx_main_v29 (idx_main_v30 (ix4 b t h d)) = ix1 d := funext fun j => by match j with | ⟨0, _⟩ => rfl
  rw [val_main_v31_apply, val_main_v28_apply, val_main_v30_apply, val_main_v29_apply, hd, hg, val_main_v27_apply, val_main_v26_apply,
    val_main_v25_apply, val_main_v23_apply, val_main_v21_apply, hi, val_main_v20_apply, val_main_v22_apply, val_main_v24_apply,
    val_main_cst_2_apply, val_main_cst_3_apply, val_main_cst_4_apply, k_apply x x0 hx]
  have he : ∀ a, val_main_v19 (F := Ideal) x0 (idx_main_v20 (ix3 b t h) a) = (x b t (Spec.column 1 h a) : EReal) * (x b t (Spec.column 1 h a) : EReal) := fun a => by
    rw [hs, val_main_v19_apply, k_apply x x0 hx]; rfl
  simp only [he]
  have hr := root_mean fun a => x b t (Spec.column 1 h a)
  refine (congrArg (fun z : EReal => (x b t (Spec.column 1 h d) : EReal) * z * (g d : EReal)) hr).trans ?_
  rw [← EReal.coe_mul, ← EReal.coe_mul]
  rfl

end Cert.ReferenceIdeal.Norm

end
-- ==== Proof.Bias.lean ====
/- The reference's gathered bias, read at an index. -/
module

public import proofs.«01_k».proof.Proof.Window

@[expose] public section

noncomputable section

namespace Cert.ReferenceIdeal.Bias

open Cert.ReferenceIdeal Cert.ReferenceIdeal.Gen Cert.ReferenceIdeal.Read Idealize.ShloMosaic

theorem joined_row (x y : IVec S2048x2048x1 32) (t k : Fin 2048) :
    concatenate S2048x2048x2 2 [⟨S2048x2048x1, x⟩, ⟨S2048x2048x1, y⟩] concatenates_S2048x2048x1_S2048x2048x1_S2048x2048x2_d2 (ix3 t k 0) = x (ix3 t k 0) := by
  pointwise []

theorem joined_col (x y : IVec S2048x2048x1 32) (t k : Fin 2048) :
    concatenate S2048x2048x2 2 [⟨S2048x2048x1, x⟩, ⟨S2048x2048x1, y⟩] concatenates_S2048x2048x1_S2048x2048x1_S2048x2048x2_d2 (ix3 t k 1) = y (ix3 t k 0) := by
  pointwise []

theorem index_row (t k : Fin 2048) : val_main_v93 (F := Ideal) (ix3 t k 0) = BitVec.ofNat 32 (Spec.biasRow (t.val / 64) (k.val / 64)).val := by
  unfold val_main_v93
  rw [joined_row, val_main_v91_apply, ← Window.biasRow_apply]
  exact congrArg _ (funext fun a => by match a with | ⟨0, _⟩ => rfl | ⟨1, _⟩ => rfl)

theorem index_col (t k : Fin 2048) : val_main_v93 (F := Ideal) (ix3 t k 1) = BitVec.ofNat 32 (Spec.biasCol (t.val % 64) (k.val % 64)).val := by
  unfold val_main_v93
  rw [joined_col, val_main_v92_apply, ← Window.biasCol_apply]
  exact congrArg _ (funext fun a => by match a with | ⟨0, _⟩ => rfl | ⟨1, _⟩ => rfl)

/-- The gather's dimension numbers. -/
abbrev dims : GatherDims S8x15x31 S2048x2048x2 S8x2048x2048 := gather_S8x15x31_S2048x2048x2_S8x2048x2048_0_12_n_n_12_2_811

theorem index_at (h : Fin 8) (t k : Fin 2048) (p : Fin 2) (hp : p.val < dims.startIndexMap.length) :
    dims.siIdx (ix3 h t k) ⟨p.val, hp⟩ = ix3 t k p := by
  funext b
  refine Fin.ext ?_
  match b with
  | ⟨0, _⟩ => rfl
  | ⟨1, _⟩ => rfl
  | ⟨2, _⟩ => rfl

/-- The gathered bias of head `h` at query `t` and key `k`. -/
theorem bias_apply (w : S8x15x31.Idx → EReal) (h : Fin 8) (t k : Fin 2048) :
    val_main_v94 (F := Ideal) w (ix3 h t k) = w (ix3 h (Spec.biasRow (t.val / 64) (k.val / 64)) (Spec.biasCol (t.val % 64) (k.val % 64))) := by
  unfold val_main_v94 Host.gather
  refine congrArg w (funext fun a => Fin.ext ?_)
  show dims.start (ix3 h t k) (val_main_v93 (F := Ideal)) a + dims.batchCoord (ix3 h t k) a + dims.offCoord (ix3 h t k) a = _
  have hclamp : ∀ r : Fin 15, min (BitVec.ofNat 32 r.val).toInt.toNat (15 - 1) = r.val := by decide +kernel
  have hclamp' : ∀ r : Fin 31, min (BitVec.ofNat 32 r.val).toInt.toNat (31 - 1) = r.val := by decide +kernel
  match a with
  | ⟨0, _⟩ => show 0 + 0 + h.val = h.val; omega
  | ⟨1, _⟩ =>
    have hs : dims.start (ix3 h t k) (val_main_v93 (F := Ideal)) 1 = min (val_main_v93 (F := Ideal) (dims.siIdx (ix3 h t k) ⟨(0 : Fin 2).val, by decide⟩)).toInt.toNat (15 - 1) := rfl
    show dims.start (ix3 h t k) (val_main_v93 (F := Ideal)) 1 + 0 + 0 = _
    rw [hs, index_at, index_row]
    exact hclamp _
  | ⟨2, _⟩ =>
    have hs : dims.start (ix3 h t k) (val_main_v93 (F := Ideal)) 2 = min (val_main_v93 (F := Ideal) (dims.siIdx (ix3 h t k) ⟨(1 : Fin 2).val, by decide⟩)).toInt.toNat (31 - 1) := rfl
    show dims.start (ix3 h t k) (val_main_v93 (F := Ideal)) 2 + 0 + 0 = _
    rw [hs, index_at, index_col]
    exact hclamp' _

end Cert.ReferenceIdeal.Bias

end
-- ==== Proof.RefValue.lean ====
/- The reference's result at an index: the softmax average over the window. -/
module

public import proofs.«01_k».proof.Proof.RefNorm
public import proofs.«01_k».proof.Proof.Bias

@[expose] public section

noncomputable section

namespace Cert.ReferenceIdeal.Attend

open Cert.ReferenceIdeal Cert.ReferenceIdeal.Gen Cert.ReferenceIdeal.Read Idealize.ShloMosaic Cert.Consts

variable (x : Fin 16 → Fin 2048 → Fin 1536 → ℝ) (gq gk : Fin 64 → ℝ) (w : Fin 8 → Fin 15 → Fin 31 → ℝ)
variable (x0 : (⟨S16x2048x1536, .bf16⟩ : BufTy).Contents (Elt Ideal)) (x1 x2 : (⟨S64, .f32⟩ : BufTy).Contents (Elt Ideal))
  (x3 : (⟨S8x15x31, .f32⟩ : BufTy).Contents (Elt Ideal))

/-- The arguments hold these real numbers. -/
structure Holds : Prop where
  x : ∀ b t c, x0 (ix3 b t c) = (x b t c : EReal)
  gq : ∀ d, x1 (ix1 d) = (gq d : EReal)
  gk : ∀ d, x2 (ix1 d) = (gk d : EReal)
  w : ∀ h r c, x3 (ix3 h r c) = (w h r c : EReal)

variable {x gq gk w x0 x1 x2 x3}

theorem product_apply (H : Holds x gq gk w x0 x1 x2 x3) (b : Fin 16) (h : Fin 8) (t k : Fin 2048) :
    val_main_v95 (F := Ideal) x0 x1 x2 (ix4 b h t k) = ((∑ d, Spec.query x gq b h t d * Spec.key x gk b h k d : ℝ) : EReal) := by
  rw [val_main_v95_apply, Soft.coe_sum]
  refine Finset.sum_congr rfl fun d _ => ?_
  have hl : lidx_main_v95 (ix4 b h t k) d = ix4 b t h d := funext fun j => by
    match j with | ⟨0, _⟩ => rfl | ⟨1, _⟩ => rfl | ⟨2, _⟩ => rfl | ⟨3, _⟩ => rfl
  have hr : ridx_main_v95 (ix4 b h t k) d = ix4 b k h d := funext fun j => by
    match j with | ⟨0, _⟩ => rfl | ⟨1, _⟩ => rfl | ⟨2, _⟩ => rfl | ⟨3, _⟩ => rfl
  rw [hl, hr, Norm.query_apply x gq x0 x1 H.x H.gq, Norm.key_apply x gk x0 x2 H.x H.gk, EReal.coe_mul]

/-- The masked score. -/
theorem score_apply (H : Holds x gq gk w x0 x1 x2 x3) (b : Fin 16) (h : Fin 8) (t k : Fin 2048) :
    val_main_v101 (F := Ideal) x0 x1 x2 x3 (ix4 b h t k) = Soft.score (Spec.Near t) (Spec.logit x gq gk w b h t) k := by
  have hm : idx_main_call4_v1 (ix4 b h t k) = ix2 t k := funext fun j => by match j with | ⟨0, _⟩ => rfl | ⟨1, _⟩ => rfl
  have hb : idx_main_v98 (idx_main_v99 (ix4 b h t k)) = ix3 h t k := funext fun j => by
    match j with | ⟨0, _⟩ => rfl | ⟨1, _⟩ => rfl | ⟨2, _⟩ => rfl
  rw [val_main_v101_apply, val_main_call4_v1_apply, hm, Window.near_apply, val_main_call4_v2_apply, val_main_call4_v0_apply,
    val_main_cst_25_apply, val_main_v100_apply, val_main_v97_apply, product_apply H, val_main_v96_apply, val_main_cst_24_apply,
    val_main_v99_apply, val_main_v98_apply, hb, Bias.bias_apply, H.w]
  have he := ofBits_eighth
  have hn := ofBits_bottom
  unfold Soft.score Spec.logit
  by_cases hnear : Spec.Near t k
  · rw [if_pos hnear, if_pos hnear, EReal.coe_add, EReal.coe_mul, ← he]
    rfl
  · rw [if_neg hnear, if_neg hnear]
    exact hn

/-- The maximum over the keys as a fold. -/
theorem max_fold (z : S16x8x2048x2048.Idx → EReal) (init : S_.Idx → EReal) (b : Fin 16) (h : Fin 8) (t : Fin 2048) :
    Host.reduce (FloatOps.maximumf (F := Ideal) (φ := .f32)) z init reducesTo_S16x8x2048x2048_S16x8x2048_d3 h_S_ (ix3 b h t)
      = Finset.univ.fold max (init (Shape.Idx.first h_S_)) fun k : Fin 2048 => z (ix4 b h t k) := by
  have hr : Shape.Reduces S16x8x2048x2048 [3] S16x8x2048 := by decide
  rw [Host.reduce_eq_fold_single _ z init _ hr h_S_]
  have hl : ∀ k : Fin 2048, hr.lift (ix3 b h t) k = ix4 b h t k := fun k => funext fun j => by
    match j with | ⟨0, _⟩ => rfl | ⟨1, _⟩ => rfl | ⟨2, _⟩ => rfl | ⟨3, _⟩ => rfl
  exact congrArg (fun f => Finset.fold max (init (Shape.Idx.first h_S_)) f Finset.univ) (funext fun k => congrArg z (hl k))

/-- The greatest score of a query, a real number. -/
theorem max_apply (H : Holds x gq gk w x0 x1 x2 x3) (b : Fin 16) (h : Fin 8) (t : Fin 2048) :
    ∃ m : ℝ, val_main_v104 (F := Ideal) x0 x1 x2 x3 (ix3 b h t) = (m : EReal) := by
  obtain ⟨m, hm⟩ := Soft.exists_max (Spec.Near t) (Spec.logit x gq gk w b h t) ⟨t, Spec.near_self t⟩
  refine ⟨m, ?_⟩
  have h102 : val_main_v102 (F := Ideal) x0 x1 x2 x3 (ix3 b h t) = (m : EReal) := by
    unfold val_main_v102
    refine (max_fold _ _ b h t).trans ?_
    rw [← hm, val_main_cst_26_apply]
    refine congrArg₂ (fun z f => Finset.fold max z f Finset.univ) ofBits_bottom (funext fun k => ?_)
    exact score_apply H b h t k
  rw [val_main_v104_apply, h102, val_main_v103_apply, val_main_cst_27_apply]
  have hn := ofBits_bottom
  refine (congrArg (fun z : EReal => max z (m : EReal)) hn).trans ?_
  exact max_eq_right bot_le

theorem exp_apply (H : Holds x gq gk w x0 x1 x2 x3) (b : Fin 16) (h : Fin 8) (t : Fin 2048) (m : ℝ)
    (hm : val_main_v104 (F := Ideal) x0 x1 x2 x3 (ix3 b h t) = (m : EReal)) (k : Fin 2048) :
    val_main_v108 (F := Ideal) x0 x1 x2 x3 (ix4 b h t k)
      = Ideal.exp (Soft.score (Spec.Near t) (Spec.logit x gq gk w b h t) k - (m : EReal)) := by
  have hi : idx_main_v105 (idx_main_v106 (ix4 b h t k)) = ix3 b h t := funext fun j => by
    match j with | ⟨0, _⟩ => rfl | ⟨1, _⟩ => rfl | ⟨2, _⟩ => rfl
  rw [val_main_v108_apply, val_main_v107_apply, score_apply H, val_main_v106_apply, val_main_v105_apply, hi, hm]
  rfl

/-- The attention's output. -/
theorem out_apply (H : Holds x gq gk w x0 x1 x2 x3) (b : Fin 16) (h : Fin 8) (d : Fin 64) (t : Fin 2048) :
    val_main_v113 (F := Ideal) x0 x1 x2 x3 (ix4 b h d t) = (Spec.out x gq gk w b h t d : EReal) := by
  obtain ⟨m, hm⟩ := max_apply H b h t
  refine Eq.trans ?_ (Soft.div_average (Spec.Near t) (Spec.logit x gq gk w b h t) ⟨t, Spec.near_self t⟩ m fun k => x b k (Spec.column 2 h d))
  rw [val_main_v113_apply]
  refine Finset.sum_congr rfl fun k _ => ?_
  have hl : lidx_main_v113 (ix4 b h d t) k = ix4 b k h d := funext fun j => by
    match j with | ⟨0, _⟩ => rfl | ⟨1, _⟩ => rfl | ⟨2, _⟩ => rfl | ⟨3, _⟩ => rfl
  have hr : ridx_main_v113 (ix4 b h d t) k = ix4 b h t k := funext fun j => by
    match j with | ⟨0, _⟩ => rfl | ⟨1, _⟩ => rfl | ⟨2, _⟩ => rfl | ⟨3, _⟩ => rfl
  have hi : idx_main_v110 (idx_main_v111 (ix4 b h t k)) = ix3 b h t := funext fun j => by
    match j with | ⟨0, _⟩ => rfl | ⟨1, _⟩ => rfl | ⟨2, _⟩ => rfl
  have hs : ∀ j, val_main_v108 (F := Ideal) x0 x1 x2 x3 (idx_main_v109 (ix3 b h t) j)
      = Ideal.exp (Soft.score (Spec.Near t) (Spec.logit x gq gk w b h t) j - (m : EReal)) := fun j => by
    rw [← exp_apply H b h t m hm j]
    exact congrArg _ (funext fun a => by match a with | ⟨0, _⟩ => rfl | ⟨1, _⟩ => rfl | ⟨2, _⟩ => rfl | ⟨3, _⟩ => rfl)
  have h0 : Ideal.ofBits .f32 0x00000000#32 = 0 := by simp [Ideal.ofBits, Ideal.ieee]
  rw [hl, hr, Norm.v_apply x x0 H.x, val_main_v112_apply, exp_apply H b h t m hm, val_main_v111_apply, val_main_v110_apply, hi,
    val_main_v109_apply, val_main_cst_28_apply]
  simp only [hs]
  rw [mul_comm]
  refine congrArg (· * _) (congrArg (Ideal.div _) ?_)
  exact (congrArg (· + _) h0).trans (zero_add _)

/-- The reference's result at batch `b`, token `t`, head `h`, entry `d`. -/
theorem result_apply (H : Holds x gq gk w x0 x1 x2 x3) (b : Fin 16) (t : Fin 2048) (j : Fin 512) :
    val_main_v116 (F := Ideal) x0 x1 x2 x3 (ix3 b t j)
      = (Spec.out x gq gk w b ⟨j.val / 64, by omega⟩ t ⟨j.val % 64, by omega⟩ : EReal) := by
  rw [val_main_v116_apply, val_main_v115_apply, val_main_v114_apply, ← out_apply H]
  refine congrArg (val_main_v113 (F := Ideal) x0 x1 x2 x3) (funext fun a => Fin.ext ?_)
  match a with
  | ⟨0, _⟩ => show ((b.val * 2048 + t.val) * 512 + j.val) / 1048576 = b.val; omega
  | ⟨1, _⟩ => show ((b.val * 2048 + t.val) * 512 + j.val) / 64 % 8 = j.val / 64; omega
  | ⟨2, _⟩ => show ((b.val * 2048 + t.val) * 512 + j.val) % 64 = j.val % 64; omega
  | ⟨3, _⟩ => show ((b.val * 2048 + t.val) * 512 + j.val) / 512 % 2048 = t.val; omega

end Cert.ReferenceIdeal.Attend

end
-- ==== Proof.Finite.lean ====
module

public import proofs.«01_k».proof.Defs
public import Idealize.ShloMosaic.Lib.Pointwise

/-! Finite argument arrays are arrays of real numbers. -/

@[expose] public section

noncomputable section

namespace Cert.Finite

open Idealize.ShloMosaic Cert.Pre_finite_inputs

/-- The shapes that the finiteness of the arguments is spread to. -/
theorem facts : Cert.Pre_finite_inputs.Facts where
  bitsLt_bf16_f32 := by decide
  bcast_S_S16x2048x1536 := by exact ⟨by decide, by decide⟩
  bcast_S_S64 := by exact ⟨by decide, by decide⟩
  bcast_S_S8x15x31 := by exact ⟨by decide, by decide⟩

/-- The word that stands for infinity. -/
theorem ofBits_top : Ideal.ofBits .f32 0x7F800000#32 = ⊤ := by
  simp [Ideal.ofBits, Ideal.ieee]

/-- An extended real that compares below infinity in magnitude is a real number. -/
theorem coe_toReal (a : EReal) (h : Ideal.cmp .olt (max a (-a)) (Ideal.ofBits .f32 0x7F800000#32) = 1#1) : a = (a.toReal : EReal) := by
  rw [ofBits_top] at h
  induction a with
  | bot => simp [Ideal.cmp] at h
  | top => simp [Ideal.cmp] at h
  | coe r => rfl

variable {x0 : FVec Ideal S16x2048x1536 .bf16} {x1 x2 : FVec Ideal S64 .f32} {x3 : FVec Ideal S8x15x31 .f32}

theorem real0 (h : (@fn facts Ideal _ x0 x1 x2 x3).1 = fun _ => 1#1) (i : S16x2048x1536.Idx) : x0 i = ((x0 i : EReal).toReal : EReal) :=
  coe_toReal _ (congrFun h i)

theorem real1 (h : (@fn facts Ideal _ x0 x1 x2 x3).2.1 = fun _ => 1#1) (i : S64.Idx) : x1 i = ((x1 i : EReal).toReal : EReal) :=
  coe_toReal _ (congrFun h i)

theorem real2 (h : (@fn facts Ideal _ x0 x1 x2 x3).2.2.1 = fun _ => 1#1) (i : S64.Idx) : x2 i = ((x2 i : EReal).toReal : EReal) :=
  coe_toReal _ (congrFun h i)

theorem real3 (h : (@fn facts Ideal _ x0 x1 x2 x3).2.2.2 = fun _ => 1#1) (i : S8x15x31.Idx) : x3 i = ((x3 i : EReal).toReal : EReal) :=
  coe_toReal _ (congrFun h i)

end Cert.Finite

end
-- ==== Proof.Attention.lean ====
/- The claims about the attention call. -/
module

public import proofs.«01_k».proof.Proof.Array
public import proofs.«01_k».proof.Proof.RefValue
public import proofs.«01_k».proof.Proof.Finite
public import proofs.«01_k».proof.Proof.Gen.KernelIdeal.Frame
public import proofs.«01_k».proof.Proof.Gen.ReferenceIdeal.Run
public import Idealize.ShloMosaic.Adequacy

@[expose] public section

noncomputable section

namespace Cert.AttentionClaims

open Idealize.ShloMosaic Idealize.SL.Sem Idealize.ShloMosaic.TcCoe

/-- The reference's run leaves its arguments as they were; it declares no semaphore. -/
theorem reference_frame : @Cert.quiescent_ReferenceIdeal Cert.ReferenceIdeal.Gen.facts := fun m ρ _ =>
  (θ_run Cert.ReferenceIdeal.defs _ _).mono (fun r h => And.intro (fun c => (h c).2)
      (Idealize.ShloMosaic.sem_eq_zero_of_no_sems (by decide) r.2))
    (Cert.ReferenceIdeal.Value.run (F := Ideal) m ρ)

section

open Cert.KernelIdeal

variable (m : (ℓ : Loc nD τ sig) → Buf (Elt Ideal) ℓ) (c : Dev nD)

/-- The real numbers that the argument arrays hold. -/
def real0 (b : Fin 16) (t : Fin 2048) (j : Fin 1536) : ℝ := EReal.toReal (m ((c : Thread nD τ).loc main_arg0) (ix3 b t j))
def real1 (d : Fin 64) : ℝ := EReal.toReal (m ((c : Thread nD τ).loc main_arg1) (ix1 d))
def real2 (d : Fin 64) : ℝ := EReal.toReal (m ((c : Thread nD τ).loc main_arg2) (ix1 d))
def real3 (h : Fin 8) (r : Fin 15) (j : Fin 31) : ℝ := EReal.toReal (m ((c : Thread nD τ).loc main_arg3) (ix3 h r j))

theorem holds (hp : @Cert.Pre_KernelIdeal_finite_inputs Finite.facts m) :
    Array.Holds (real0 m c) (real1 m c) (real2 m c) (real3 m c) m c :=
  ⟨fun _ _ _ => Finite.real0 (hp c).1 _, fun _ => Finite.real1 (hp c).2.1 _, fun _ => Finite.real2 (hp c).2.2.1 _,
    fun _ _ _ => Finite.real3 (hp c).2.2.2 _⟩

/-- The attention averages of a core's arguments. -/
def value : Buf (Elt Ideal) ((c : Thread nD τ).loc main_v45) := Array.result (real0 m c) (real1 m c) (real2 m c) (real3 m c) c

end

theorem reference_value (m : (ℓ : Loc Cert.KernelIdeal.nD Cert.KernelIdeal.τ Cert.KernelIdeal.sig) → Buf (Elt Ideal) ℓ)
    (c : Dev Cert.KernelIdeal.nD) (hp : @Cert.Pre_KernelIdeal_finite_inputs Finite.facts m)
    (x0 : (⟨Cert.ReferenceIdeal.S16x2048x1536, .bf16⟩ : BufTy).Contents (Elt Ideal)) (x1 x2 : (⟨Cert.ReferenceIdeal.S64, .f32⟩ : BufTy).Contents (Elt Ideal))
    (x3 : (⟨Cert.ReferenceIdeal.S8x15x31, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3)) :
    Cert.ReferenceIdeal.Read.val_main_v116 (F := Ideal) x0 x1 x2 x3 = value m c := by
  have H := holds m c hp
  have H' : Cert.ReferenceIdeal.Attend.Holds (real0 m c) (real1 m c) (real2 m c) (real3 m c) x0 x1 x2 x3 :=
    ⟨fun b t j => (congrFun h0 _).trans (H.x b t j), fun d => (congrFun h1 _).trans (H.gq d), fun d => (congrFun h2 _).trans (H.gk d),
      fun h r j => (congrFun h3 _).trans (H.w h r j)⟩
  funext i
  have hi : i = ix3 (i 0) (i 1) (i 2) := funext fun j => by match j with | ⟨0, _⟩ => rfl | ⟨1, _⟩ => rfl | ⟨2, _⟩ => rfl
  exact (congrArg _ hi).trans (Cert.ReferenceIdeal.Attend.result_apply H' (i 0) (i 1) (i 2))

/-- Both programs end with the attention averages of the same arguments. -/
theorem algebraic : @Cert.algebraic_KernelIdeal_ReferenceIdeal_pre_finite_inputs Cert.KernelIdeal.Gen.facts Cert.ReferenceIdeal.Gen.facts Finite.facts := by
  intro m ρ m' ρ' hp hagree
  refine ⟨fun c => value m c, ?_, ?_⟩
  · exact (θ_run Cert.KernelIdeal.defs _ _).mono (fun r h c => ⟨(h c).1.trans (Cert.KernelIdeal.Array.final (holds m c hp)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3⟩ := hagree c
    exact (Cert.ReferenceIdeal.Read.val_main_v116_eq m' c).trans (reference_value m c hp _ _ _ _ h0 h1 h2 h3)

end Cert.AttentionClaims

end
-- ==== Proof.ProjSpec.lean ====
/- The norm and the projection of a row, over the extended reals. -/
module

public import Idealize.ShloMosaic.PureOps.Ideal

@[expose] public section

noncomputable section

namespace Cert.Proj

open Idealize.ShloMosaic

/-- Entry `k` of the row `x` over its root mean square, times the gain. The two words are 1024 and the small constant. -/
def normed (x g : Fin 1024 → EReal) (k : Fin 1024) : EReal :=
  x k * Ideal.rsqrt (Ideal.div (∑ j, x j * x j) (Ideal.ofBits .f32 0x44800000#32) + Ideal.ofBits .f32 0x3727C5AC#32) * g k

/-- The product of the normed row with a column. -/
def entry (x g w : Fin 1024 → EReal) : EReal := ∑ k, normed x g k * w k

end Cert.Proj

end
-- ==== Proof.ProjBlock.lean ====
/- One block of rows of the projection kernel. -/
module

public import proofs.«01_k».proof.Proof.Gen.ProjectionIdeal.Value
public import proofs.«01_k».proof.Proof.ProjSpec
public import Idealize.ShloMosaic.Lib.Pointwise

@[expose] public section

noncomputable section

namespace Cert.ProjectionIdeal.Block

open Cert.ProjectionIdeal Cert.ProjectionIdeal.Gen Idealize.ShloMosaic

theorem normed_apply (x0 : Vec Ideal S512x1024 .f32) (x1 : Vec Ideal S1x1024 .f32) (r : Fin 512) (k : Fin 1024) :
    k0_pay1 x0 x1 (ix2 r k) = Proj.normed (fun k => x0 (ix2 r k)) (fun k => x1 (ix2 0 k)) k := by
  pointwise [k0_pay1]
  rfl

theorem first_apply (x0 : Vec Ideal S512x1024 .f32) (x1 : Vec Ideal S1x1024 .f32) (x2 : Vec Ideal S1024x1920 .bf16) (r : Fin 512) (l : Fin 1920) :
    k0_pay2 x0 x1 x2 (ix2 r l) = ∑ k, k0_pay1 x0 x1 (ix2 r k) * x2 (ix2 k l) := by
  pointwise [k0_pay2]

theorem second_apply (x0 : Vec Ideal S512x1024 .f32) (x1 : Vec Ideal S1x1024 .f32) (x3 : Vec Ideal S1024x1536 .bf16) (r : Fin 512) (l : Fin 1536) :
    k0_pay3 x0 x1 x3 (ix2 r l) = ∑ k, k0_pay1 x0 x1 (ix2 r k) * x3 (ix2 k l) := by
  pointwise [k0_pay3]

theorem third_apply (x0 : Vec Ideal S512x1024 .f32) (x1 : Vec Ideal S1x1024 .f32) (x4 : Vec Ideal S1024x2048 .bf16) (r : Fin 512) (l : Fin 2048) :
    k0_pay4 x0 x1 x4 (ix2 r l) = ∑ k, k0_pay1 x0 x1 (ix2 r k) * x4 (ix2 k l) := by
  pointwise [k0_pay4]

theorem zero_offset : (![0, 0] : Fin 2 → Nat) = fun _ => 0 := funext fun a => by fin_cases a <;> rfl

variable (x0 : Vec Ideal S512x1024 .f32) (x1 : Vec Ideal S1x1024 .f32) (x2 : Vec Ideal S1024x1920 .bf16) (x3 : Vec Ideal S1024x1536 .bf16)
  (x4 : Vec Ideal S1024x2048 .bf16) (x : Fin 1024 → EReal) (g w : Fin 1024 → EReal) (r : Fin 512)
  (hx : ∀ k, x0 (ix2 r k) = x k) (hg : ∀ k, x1 (ix2 0 k) = g k)

include hx hg

theorem normed_eq (k : Fin 1024) : k0_pay1 x0 x1 (ix2 r k) = Proj.normed x g k := by
  rw [normed_apply, funext hx, funext hg]

theorem first (l : Fin 1920) (hw : ∀ k, x2 (ix2 k l) = w k) : out0_5 x0 x1 x2 x3 x4 (ix2 r l) = Proj.entry x g w := by
  unfold out0_5
  rw [View.canon_unit_zero zero_offset, View.ld_unit_zero zero_offset, View.ld_unit_zero zero_offset, View.ld_unit_zero zero_offset, first_apply]
  exact Finset.sum_congr rfl fun k _ => by rw [normed_eq x0 x1 x g r hx hg, hw]

theorem second (l : Fin 1536) (hw : ∀ k, x3 (ix2 k l) = w k) : out0_6 x0 x1 x2 x3 x4 (ix2 r l) = Proj.entry x g w := by
  unfold out0_6
  rw [View.canon_unit_zero zero_offset, View.ld_unit_zero zero_offset, View.ld_unit_zero zero_offset, View.ld_unit_zero zero_offset, second_apply]
  exact Finset.sum_congr rfl fun k _ => by rw [normed_eq x0 x1 x g r hx hg, hw]

theorem third (l : Fin 2048) (hw : ∀ k, x4 (ix2 k l) = w k) : out0_7 x0 x1 x2 x3 x4 (ix2 r l) = Proj.entry x g w := by
  unfold out0_7
  rw [View.canon_unit_zero zero_offset, View.ld_unit_zero zero_offset, View.ld_unit_zero zero_offset, View.ld_unit_zero zero_offset, third_apply]
  exact Finset.sum_congr rfl fun k _ => by rw [normed_eq x0 x1 x g r hx hg, hw]

end Cert.ProjectionIdeal.Block

end
-- ==== Proof.ProjArray.lean ====
/- The projection kernel's operands, blocks and result arrays. -/
module

public import proofs.«01_k».proof.Proof.ProjBlock
public import Idealize.ShloMosaic.Lib.Pipeline.ValueKit.Geometry

@[expose] public section

noncomputable section

namespace Cert.ProjectionIdeal.Array

open Cert.ProjectionIdeal Cert.ProjectionIdeal.Gen Idealize.ShloMosaic Idealize.ShloMosaic.TcCoe Idealize.ShloMosaic.Tactic
open Idealize.ShloMosaic.Pipeline (Dat)

/-! What the host prepares. -/

section

variable {F : FTy → Type} [FloatOps F]

/-- The tokens of all batch entries as rows of one matrix. -/
def rows (x : Vec F S16x2048x1024 .f32) : Vec F S32768x1024 .f32 := shapeCast S32768x1024 x shapeCasts_S16x2048x1024_S32768x1024

/-- The gain as a row. -/
def gains (g : Vec F S1024 .f32) : Vec F S1x1024 .f32 := shapeCast S1x1024 g shapeCasts_S1024_S1x1024

/-- The first columns of the weights. -/
def weights1 (w : Vec F S1024x5504 .f32) : Vec F S1024x1920 .bf16 :=
  extractStridedSlice S1024x1920 ![0, 0] (truncf .bf16 w bitsLt_bf16_f32) slices_S1024x5504_S1024x1920_0_0

/-- The middle columns of the weights. -/
def weights2 (w : Vec F S1024x5504 .f32) : Vec F S1024x1536 .bf16 :=
  extractStridedSlice S1024x1536 ![0, 1920] (truncf .bf16 w bitsLt_bf16_f32) slices_S1024x5504_S1024x1536_0_1920

/-- The last columns of the weights. -/
def weights3 (w : Vec F S1024x5504 .f32) : Vec F S1024x2048 .bf16 :=
  extractStridedSlice S1024x2048 ![0, 3456] (truncf .bf16 w bitsLt_bf16_f32) slices_S1024x5504_S1024x2048_0_3456

variable (m : (ℓ : Loc nD τ sig) → Buf (Elt F) ℓ) (c : Dev nD)

theorem V_rows : V m c main_v1 = rows (m ((c : Thread nD τ).loc main_arg0)) := by
  sl_kernel_rfl

theorem V_gains : V m c main_v2 = gains (m ((c : Thread nD τ).loc main_arg1)) := by
  sl_kernel_rfl

theorem V_weights1 : V m c main_v3 = weights1 (m ((c : Thread nD τ).loc main_arg2)) := by
  sl_kernel_rfl

theorem V_weights2 : V m c main_v4 = weights2 (m ((c : Thread nD τ).loc main_arg2)) := by
  sl_kernel_rfl

theorem V_weights3 : V m c main_v5 = weights3 (m ((c : Thread nD τ).loc main_arg2)) := by
  sl_kernel_rfl

end

theorem rows_apply (x : Vec Ideal S16x2048x1024 .f32) (n : Fin 32768) (k : Fin 1024) :
    rows x (ix2 n k) = x (ix3 (⟨n.val / 2048, by omega⟩ : Fin 16) (⟨n.val % 2048, by omega⟩ : Fin 2048) k) := by
  pointwise [rows]

theorem gains_apply (g : Vec Ideal S1024 .f32) (k : Fin 1024) : gains g (ix2 0 k) = g (ix1 k) := by
  pointwise [gains]

theorem weights1_apply (w : Vec Ideal S1024x5504 .f32) (k : Fin 1024) (j : Fin 1920) : weights1 w (ix2 k j) = w (ix2 k ⟨j.val, by omega⟩) := by
  pointwise [weights1]

theorem weights2_apply (w : Vec Ideal S1024x5504 .f32) (k : Fin 1024) (j : Fin 1536) : weights2 w (ix2 k j) = w (ix2 k ⟨1920 + j.val, by omega⟩) := by
  pointwise [weights2]

theorem weights3_apply (w : Vec Ideal S1024x5504 .f32) (k : Fin 1024) (j : Fin 2048) : weights3 w (ix2 k j) = w (ix2 k ⟨3456 + j.val, by omega⟩) := by
  pointwise [weights3]

variable (m : (ℓ : Loc nD τ sig) → Buf (Elt Ideal) ℓ) (c : Dev nD)

/-- Row `n` of the tokens. -/
def row (n : Fin 32768) (k : Fin 1024) : EReal :=
  m ((c : Thread nD τ).loc main_arg0) (ix3 (⟨n.val / 2048, by omega⟩ : Fin 16) (⟨n.val % 2048, by omega⟩ : Fin 2048) k)

/-- The gain. -/
def gain (k : Fin 1024) : EReal := m ((c : Thread nD τ).loc main_arg1) (ix1 k)

/-- Column `j` of the weights. -/
def col (j : Fin 5504) (k : Fin 1024) : EReal := m ((c : Thread nD τ).loc main_arg2) (ix2 k j)

/-- Entry `n, j` of the product of the normed rows with the weights. -/
def product (n : Fin 32768) (j : Fin 5504) : EReal := Proj.entry (row m c n) (gain m c) (col m c j)

/-! The blocks of a grid point. -/

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

/-- Row `r` of the block of a grid point. -/
def rowOf (t : Fin grid0.N) (r : Fin 512) : Fin 32768 := ⟨512 * t.val + r.val, by have h : t.val < 64 := t.isLt; omega⟩

theorem read0 (t : Fin grid0.N) (r : Fin 512) (k : Fin 1024) : iblk m c 0 t (ix2 r k) = row m c (rowOf t r) k := by
  show ((cfg0.win 0).blk t).view.read (Elt Ideal) (V m c main_v1) (ix2 r k) = _
  rw [V_rows]
  obtain ⟨h0, h1⟩ := index0 t
  refine (congrArg (rows (m ((c : Thread nD τ).loc main_arg0))) (funext fun a => Fin.ext ((ValueKit.rect_emb_unit_val _ _ _ _ a).trans ?_))).trans
    (rows_apply _ (rowOf t r) k)
  match a with
  | ⟨0, _⟩ => show win0_0.index t 0 * 512 + r.val = 512 * t.val + r.val; omega
  | ⟨1, _⟩ => show win0_0.index t 1 * 1024 + k.val = k.val; omega

theorem read1 (t : Fin grid0.N) (k : Fin 1024) : iblk m c 1 t (ix2 0 k) = gain m c k := by
  show ((cfg0.win 1).blk t).view.read (Elt Ideal) (V m c main_v2) (ix2 0 k) = _
  rw [V_gains]
  obtain ⟨h0, h1⟩ := index1 t
  refine (congrArg (gains (m ((c : Thread nD τ).loc main_arg1))) (funext fun a => Fin.ext ((ValueKit.rect_emb_unit_val _ _ _ _ a).trans ?_))).trans
    (gains_apply _ k)
  match a with
  | ⟨0, _⟩ => show win0_1.index t 0 * 1 + 0 = 0; omega
  | ⟨1, _⟩ => show win0_1.index t 1 * 1024 + k.val = k.val; omega

theorem read2 (t : Fin grid0.N) (k : Fin 1024) (j : Fin 1920) : iblk m c 2 t (ix2 k j) = col m c ⟨j.val, by omega⟩ k := by
  show ((cfg0.win 2).blk t).view.read (Elt Ideal) (V m c main_v3) (ix2 k j) = _
  rw [V_weights1]
  obtain ⟨h0, h1⟩ := index2 t
  refine (congrArg (weights1 (m ((c : Thread nD τ).loc main_arg2))) (funext fun a => Fin.ext ((ValueKit.rect_emb_unit_val _ _ _ _ a).trans ?_))).trans
    (weights1_apply _ k j)
  match a with
  | ⟨0, _⟩ => show win0_2.index t 0 * 1024 + k.val = k.val; omega
  | ⟨1, _⟩ => show win0_2.index t 1 * 1920 + j.val = j.val; omega

theorem read3 (t : Fin grid0.N) (k : Fin 1024) (j : Fin 1536) : iblk m c 3 t (ix2 k j) = col m c ⟨1920 + j.val, by omega⟩ k := by
  show ((cfg0.win 3).blk t).view.read (Elt Ideal) (V m c main_v4) (ix2 k j) = _
  rw [V_weights2]
  obtain ⟨h0, h1⟩ := index3 t
  refine (congrArg (weights2 (m ((c : Thread nD τ).loc main_arg2))) (funext fun a => Fin.ext ((ValueKit.rect_emb_unit_val _ _ _ _ a).trans ?_))).trans
    (weights2_apply _ k j)
  match a with
  | ⟨0, _⟩ => show win0_3.index t 0 * 1024 + k.val = k.val; omega
  | ⟨1, _⟩ => show win0_3.index t 1 * 1536 + j.val = j.val; omega

theorem read4 (t : Fin grid0.N) (k : Fin 1024) (j : Fin 2048) : iblk m c 4 t (ix2 k j) = col m c ⟨3456 + j.val, by omega⟩ k := by
  show ((cfg0.win 4).blk t).view.read (Elt Ideal) (V m c main_v5) (ix2 k j) = _
  rw [V_weights3]
  obtain ⟨h0, h1⟩ := index4 t
  refine (congrArg (weights3 (m ((c : Thread nD τ).loc main_arg2))) (funext fun a => Fin.ext ((ValueKit.rect_emb_unit_val _ _ _ _ a).trans ?_))).trans
    (weights3_apply _ k j)
  match a with
  | ⟨0, _⟩ => show win0_4.index t 0 * 1024 + k.val = k.val; omega
  | ⟨1, _⟩ => show win0_4.index t 1 * 2048 + j.val = j.val; omega

/-! The three result arrays. -/

def result1 : Buf (Elt Ideal) ((c : Thread nD τ).loc main_v6_0) := fun i : S32768x1920.Idx => product m c (i 0) ⟨(i 1).val, by have h : (i 1).val < 1920 := (i 1).isLt; omega⟩
def result2 : Buf (Elt Ideal) ((c : Thread nD τ).loc main_v6_1) := fun i : S32768x1536.Idx => product m c (i 0) ⟨1920 + (i 1).val, by have h : (i 1).val < 1536 := (i 1).isLt; omega⟩
def result3 : Buf (Elt Ideal) ((c : Thread nD τ).loc main_v6_2) := fun i : S32768x2048.Idx => product m c (i 0) ⟨3456 + (i 1).val, by have h : (i 1).val < 2048 := (i 1).isLt; omega⟩

theorem flushed1 (t : Fin cfg0.N) : (dats m 0 c).flushed 5 t = ((cfg0.win 5).blk t).view.read (Elt Ideal) (result1 m c) := by
  rw [Value.flushed5]
  funext y
  obtain ⟨h0, h1⟩ := index5 t
  have hy0 : (y 0).val < 512 := (y 0).isLt
  have hy1 : (y 1).val < 1920 := (y 1).isLt
  have hl : (cfg0.win 5).xinj (grid0.coords t) y = ix2 (⟨(y 0).val, hy0⟩ : Fin 512) (⟨(y 1).val, hy1⟩ : Fin 1920) := funext fun a => Fin.ext (by
    match a with
    | ⟨0, _⟩ => rfl
    | ⟨1, _⟩ => rfl)
  have hr : ((cfg0.win 5).blk t).view.emb y = ix2 (rowOf t ⟨(y 0).val, hy0⟩) (⟨(y 1).val, hy1⟩ : Fin 1920) :=
    funext fun a => Fin.ext ((ValueKit.rect_emb_unit_val _ _ _ _ a).trans (by
      match a with
      | ⟨0, _⟩ => show win0_5.index t 0 * 512 + (y 0).val = 512 * t.val + (y 0).val; omega
      | ⟨1, _⟩ => show win0_5.index t 1 * 1920 + (y 1).val = (y 1).val; omega))
  show out0_5 _ _ _ _ _ ((cfg0.win 5).xinj (grid0.coords t) y) = result1 m c (((cfg0.win 5).blk t).view.emb y)
  rw [hl, hr]
  exact Block.first _ _ _ _ _ _ _ _ _ (fun k => read0 m c t _ k) (fun k => read1 m c t k) _ (fun k => read2 m c t k _)

theorem cover1 (i : S32768x1920.Idx) : ∃ t : Fin cfg0.N, (cfg0.win 5).flush t = true ∧ i ∈ ((cfg0.win 5).blk t).view.set := by
  have h0 : (i 0).val < 32768 := (i 0).isLt
  have h1 : (i 1).val < 1920 := (i 1).isLt
  have ht : (i 0).val / 512 < grid0.N := by rw [N_0]; omega
  refine ⟨⟨(i 0).val / 512, ht⟩, flush0_5 _, ?_⟩
  obtain ⟨e0, e1⟩ := index5 ⟨(i 0).val / 512, ht⟩
  show i ∈ ((View.whole main_v6_0).slice (win0_5.rect ⟨(i 0).val / 512, ht⟩)).set
  rw [View.set_slice_whole, Rect.mem_set_unit]
  intro a
  match a with
  | ⟨0, _⟩ => show win0_5.index _ 0 * 512 ≤ (i 0).val ∧ (i 0).val < win0_5.index _ 0 * 512 + 512; rw [e0]; simp only; omega
  | ⟨1, _⟩ => show win0_5.index _ 1 * 1920 ≤ (i 1).val ∧ (i 1).val < win0_5.index _ 1 * 1920 + 1920; rw [e1]; omega

theorem final1 : (dats m 0 c).arrAt 5 cfg0.N = result1 m c :=
  (dats m 0 c).arrAt_eq_of_cover 5 (result1 m c) (fun t _ => flushed1 m c t) cover1

theorem flushed2 (t : Fin cfg0.N) : (dats m 0 c).flushed 6 t = ((cfg0.win 6).blk t).view.read (Elt Ideal) (result2 m c) := by
  rw [Value.flushed6]
  funext y
  obtain ⟨h0, h1⟩ := index6 t
  have hy0 : (y 0).val < 512 := (y 0).isLt
  have hy1 : (y 1).val < 1536 := (y 1).isLt
  have hl : (cfg0.win 6).xinj (grid0.coords t) y = ix2 (⟨(y 0).val, hy0⟩ : Fin 512) (⟨(y 1).val, hy1⟩ : Fin 1536) := funext fun a => Fin.ext (by
    match a with
    | ⟨0, _⟩ => rfl
    | ⟨1, _⟩ => rfl)
  have hr : ((cfg0.win 6).blk t).view.emb y = ix2 (rowOf t ⟨(y 0).val, hy0⟩) (⟨(y 1).val, hy1⟩ : Fin 1536) :=
    funext fun a => Fin.ext ((ValueKit.rect_emb_unit_val _ _ _ _ a).trans (by
      match a with
      | ⟨0, _⟩ => show win0_6.index t 0 * 512 + (y 0).val = 512 * t.val + (y 0).val; omega
      | ⟨1, _⟩ => show win0_6.index t 1 * 1536 + (y 1).val = (y 1).val; omega))
  show out0_6 _ _ _ _ _ ((cfg0.win 6).xinj (grid0.coords t) y) = result2 m c (((cfg0.win 6).blk t).view.emb y)
  rw [hl, hr]
  exact Block.second _ _ _ _ _ _ _ _ _ (fun k => read0 m c t _ k) (fun k => read1 m c t k) _ (fun k => read3 m c t k _)

theorem cover2 (i : S32768x1536.Idx) : ∃ t : Fin cfg0.N, (cfg0.win 6).flush t = true ∧ i ∈ ((cfg0.win 6).blk t).view.set := by
  have h0 : (i 0).val < 32768 := (i 0).isLt
  have h1 : (i 1).val < 1536 := (i 1).isLt
  have ht : (i 0).val / 512 < grid0.N := by rw [N_0]; omega
  refine ⟨⟨(i 0).val / 512, ht⟩, flush0_6 _, ?_⟩
  obtain ⟨e0, e1⟩ := index6 ⟨(i 0).val / 512, ht⟩
  show i ∈ ((View.whole main_v6_1).slice (win0_6.rect ⟨(i 0).val / 512, ht⟩)).set
  rw [View.set_slice_whole, Rect.mem_set_unit]
  intro a
  match a with
  | ⟨0, _⟩ => show win0_6.index _ 0 * 512 ≤ (i 0).val ∧ (i 0).val < win0_6.index _ 0 * 512 + 512; rw [e0]; simp only; omega
  | ⟨1, _⟩ => show win0_6.index _ 1 * 1536 ≤ (i 1).val ∧ (i 1).val < win0_6.index _ 1 * 1536 + 1536; rw [e1]; omega

theorem final2 : (dats m 0 c).arrAt 6 cfg0.N = result2 m c :=
  (dats m 0 c).arrAt_eq_of_cover 6 (result2 m c) (fun t _ => flushed2 m c t) cover2

theorem flushed3 (t : Fin cfg0.N) : (dats m 0 c).flushed 7 t = ((cfg0.win 7).blk t).view.read (Elt Ideal) (result3 m c) := by
  rw [Value.flushed7]
  funext y
  obtain ⟨h0, h1⟩ := index7 t
  have hy0 : (y 0).val < 512 := (y 0).isLt
  have hy1 : (y 1).val < 2048 := (y 1).isLt
  have hl : (cfg0.win 7).xinj (grid0.coords t) y = ix2 (⟨(y 0).val, hy0⟩ : Fin 512) (⟨(y 1).val, hy1⟩ : Fin 2048) := funext fun a => Fin.ext (by
    match a with
    | ⟨0, _⟩ => rfl
    | ⟨1, _⟩ => rfl)
  have hr : ((cfg0.win 7).blk t).view.emb y = ix2 (rowOf t ⟨(y 0).val, hy0⟩) (⟨(y 1).val, hy1⟩ : Fin 2048) :=
    funext fun a => Fin.ext ((ValueKit.rect_emb_unit_val _ _ _ _ a).trans (by
      match a with
      | ⟨0, _⟩ => show win0_7.index t 0 * 512 + (y 0).val = 512 * t.val + (y 0).val; omega
      | ⟨1, _⟩ => show win0_7.index t 1 * 2048 + (y 1).val = (y 1).val; omega))
  show out0_7 _ _ _ _ _ ((cfg0.win 7).xinj (grid0.coords t) y) = result3 m c (((cfg0.win 7).blk t).view.emb y)
  rw [hl, hr]
  exact Block.third _ _ _ _ _ _ _ _ _ (fun k => read0 m c t _ k) (fun k => read1 m c t k) _ (fun k => read4 m c t k _)

theorem cover3 (i : S32768x2048.Idx) : ∃ t : Fin cfg0.N, (cfg0.win 7).flush t = true ∧ i ∈ ((cfg0.win 7).blk t).view.set := by
  have h0 : (i 0).val < 32768 := (i 0).isLt
  have h1 : (i 1).val < 2048 := (i 1).isLt
  have ht : (i 0).val / 512 < grid0.N := by rw [N_0]; omega
  refine ⟨⟨(i 0).val / 512, ht⟩, flush0_7 _, ?_⟩
  obtain ⟨e0, e1⟩ := index7 ⟨(i 0).val / 512, ht⟩
  show i ∈ ((View.whole main_v6_2).slice (win0_7.rect ⟨(i 0).val / 512, ht⟩)).set
  rw [View.set_slice_whole, Rect.mem_set_unit]
  intro a
  match a with
  | ⟨0, _⟩ => show win0_7.index _ 0 * 512 ≤ (i 0).val ∧ (i 0).val < win0_7.index _ 0 * 512 + 512; rw [e0]; simp only; omega
  | ⟨1, _⟩ => show win0_7.index _ 1 * 2048 ≤ (i 1).val ∧ (i 1).val < win0_7.index _ 1 * 2048 + 2048; rw [e1]; omega

theorem final3 : (dats m 0 c).arrAt 7 cfg0.N = result3 m c :=
  (dats m 0 c).arrAt_eq_of_cover 7 (result3 m c) (fun t _ => flushed3 m c t) cover3

end Cert.ProjectionIdeal.Array

end
-- ==== Proof.ProjRef.lean ====
/- The reference's projections, read at an index. -/
module

public import proofs.«01_k».proof.Proof.Gen.ProjectionReferenceIdeal.Read
public import proofs.«01_k».proof.Proof.ProjSpec
public import Idealize.ShloMosaic.Lib.Pointwise

@[expose] public section

noncomputable section

namespace Cert.ProjectionReferenceIdeal.Entry

open Cert.ProjectionReferenceIdeal Cert.ProjectionReferenceIdeal.Gen Cert.ProjectionReferenceIdeal.Read Idealize.ShloMosaic

variable (x0 : (⟨S16x2048x1024, .f32⟩ : BufTy).Contents (Elt Ideal)) (x1 : (⟨S1024, .f32⟩ : BufTy).Contents (Elt Ideal))
variable (x2 : (⟨S1024x5504, .f32⟩ : BufTy).Contents (Elt Ideal))

theorem square_sum (b : Fin 16) (t : Fin 2048) :
    val_main_v1 (F := Ideal) x0 (ix2 b t) = ∑ a, x0 (ix3 b t a) * x0 (ix3 b t a) := by
  have hs : ∀ a, idx_main_v1 (ix2 b t) a = ix3 b t a := fun a => funext fun j => by
    match j with | ⟨0, _⟩ => rfl | ⟨1, _⟩ => rfl | ⟨2, _⟩ => rfl
  have h0 : Ideal.ofBits .f32 0x00000000#32 = 0 := by simp [Ideal.ofBits, Ideal.ieee]
  rw [val_main_v1_apply]
  refine (congrArg₂ (· + ·) h0 (Finset.sum_congr rfl fun a _ => ?_)).trans (zero_add _)
  rw [hs, val_main_v0_apply]
  rfl

theorem normed_apply (b : Fin 16) (t : Fin 2048) (k : Fin 1024) :
    val_main_v12 (F := Ideal) x0 x1 (ix3 b t k) = Proj.normed (fun a => x0 (ix3 b t a)) (fun a => x1 (ix1 a)) k := by
  have hi : idx_main_v2 (idx_main_v8 (ix3 b t k)) = ix2 b t := funext fun j => by match j with | ⟨0, _⟩ => rfl | ⟨1, _⟩ => rfl
  have hg : idx_main_v10 (idx_main_v11 (ix3 b t k)) = ix1 k := funext fun j => by match j with | ⟨0, _⟩ => rfl
  rw [val_main_v12_apply, val_main_v9_apply, val_main_v11_apply, val_main_v10_apply, hg, val_main_v8_apply, val_main_v7_apply,
    val_main_v6_apply, val_main_v4_apply, val_main_v2_apply, hi, val_main_v3_apply, val_main_v5_apply, val_main_cst_0_apply,
    val_main_cst_1_apply, square_sum]
  rfl

theorem entry_apply (b : Fin 16) (t : Fin 2048) (j : Fin 5504) :
    val_main_v13 (F := Ideal) x0 x1 x2 (ix3 b t j)
      = Proj.entry (fun a => x0 (ix3 b t a)) (fun a => x1 (ix1 a)) (fun k => x2 (ix2 k j)) := by
  rw [val_main_v13_apply]
  refine Finset.sum_congr rfl fun k _ => ?_
  have hl : lidx_main_v13 (ix3 b t j) k = ix3 b t k := funext fun a => by match a with | ⟨0, _⟩ => rfl | ⟨1, _⟩ => rfl | ⟨2, _⟩ => rfl
  have hr : ridx_main_v13 (ix3 b t j) k = ix2 k j := funext fun a => by match a with | ⟨0, _⟩ => rfl | ⟨1, _⟩ => rfl
  rw [hl, hr, normed_apply]

/-- The projection of token `n` of the flattened batch. -/
def token (n : Fin 32768) (j : Fin 5504) : EReal :=
  Proj.entry (fun a => x0 (ix3 (⟨n.val / 2048, by omega⟩ : Fin 16) (⟨n.val % 2048, by omega⟩ : Fin 2048) a)) (fun a => x1 (ix1 a))
    (fun k => x2 (ix2 k j))

theorem first (n : Fin 32768) (j : Fin 1920) :
    val_main_v18 (F := Ideal) x0 x1 x2 (ix2 n j) = token x0 x1 x2 n ⟨j.val, by omega⟩ := by
  rw [val_main_v18_apply, val_main_v17_apply, val_main_v14_apply]
  refine Eq.trans (congrArg (val_main_v13 (F := Ideal) x0 x1 x2) (funext fun a => Fin.ext ?_)) (entry_apply x0 x1 x2 _ _ _)
  match a with
  | ⟨0, _⟩ => show (n.val * 1920 + j.val) / 3932160 = n.val / 2048; omega
  | ⟨1, _⟩ => show (n.val * 1920 + j.val) / 1920 % 2048 = n.val % 2048; omega
  | ⟨2, _⟩ => show (n.val * 1920 + j.val) % 1920 = j.val; omega

theorem second (n : Fin 32768) (j : Fin 1536) :
    val_main_v20 (F := Ideal) x0 x1 x2 (ix2 n j) = token x0 x1 x2 n ⟨1920 + j.val, by omega⟩ := by
  rw [val_main_v20_apply, val_main_v19_apply, val_main_v15_apply]
  refine Eq.trans (congrArg (val_main_v13 (F := Ideal) x0 x1 x2) (funext fun a => Fin.ext ?_)) (entry_apply x0 x1 x2 _ _ _)
  match a with
  | ⟨0, _⟩ => show (n.val * 1536 + j.val) / 3145728 = n.val / 2048; omega
  | ⟨1, _⟩ => show (n.val * 1536 + j.val) / 1536 % 2048 = n.val % 2048; omega
  | ⟨2, _⟩ => show 1920 + (n.val * 1536 + j.val) % 1536 = 1920 + j.val; omega

theorem third (n : Fin 32768) (j : Fin 2048) :
    val_main_v22 (F := Ideal) x0 x1 x2 (ix2 n j) = token x0 x1 x2 n ⟨3456 + j.val, by omega⟩ := by
  rw [val_main_v22_apply, val_main_v21_apply, val_main_v16_apply]
  refine Eq.trans (congrArg (val_main_v13 (F := Ideal) x0 x1 x2) (funext fun a => Fin.ext ?_)) (entry_apply x0 x1 x2 _ _ _)
  match a with
  | ⟨0, _⟩ => show (n.val * 2048 + j.val) / 4194304 = n.val / 2048; omega
  | ⟨1, _⟩ => show (n.val * 2048 + j.val) / 2048 % 2048 = n.val % 2048; omega
  | ⟨2, _⟩ => show 3456 + (n.val * 2048 + j.val) % 2048 = 3456 + j.val; omega

end Cert.ProjectionReferenceIdeal.Entry

end
-- ==== Proof.Projections.lean ====
/- The claims about the input projection. -/
module

public import proofs.«01_k».proof.Defs
public import proofs.«01_k».proof.Proof.ProjArray
public import proofs.«01_k».proof.Proof.ProjRef
public import proofs.«01_k».proof.Proof.Gen.ProjectionReferenceIdeal.Run
public import Idealize.ShloMosaic.Adequacy

@[expose] public section

noncomputable section

namespace Cert.ProjectionClaims

open Idealize.ShloMosaic Idealize.SL.Sem Idealize.ShloMosaic.TcCoe

/-- The reference's run leaves its arguments as they were; it declares no semaphore. -/
theorem reference_frame : @Cert.quiescent_ProjectionReferenceIdeal Cert.ProjectionReferenceIdeal.Gen.facts := fun m ρ _ =>
  (θ_run Cert.ProjectionReferenceIdeal.defs _ _).mono (fun r h => And.intro (fun c => (h c).2.2.2)
      (Idealize.ShloMosaic.sem_eq_zero_of_no_sems (by decide) r.2))
    (Cert.ProjectionReferenceIdeal.Value.run (F := Ideal) m ρ)

section

variable (m : (ℓ : Loc Cert.ProjectionIdeal.nD Cert.ProjectionIdeal.τ Cert.ProjectionIdeal.sig) → Buf (Elt Ideal) ℓ)
variable (c : Dev Cert.ProjectionIdeal.nD)
variable (x0 : (⟨Cert.ProjectionReferenceIdeal.S16x2048x1024, .f32⟩ : BufTy).Contents (Elt Ideal))
variable (x1 : (⟨Cert.ProjectionReferenceIdeal.S1024, .f32⟩ : BufTy).Contents (Elt Ideal))
variable (x2 : (⟨Cert.ProjectionReferenceIdeal.S1024x5504, .f32⟩ : BufTy).Contents (Elt Ideal))
variable (h0 : x0 = m ((c.tc : Thread Cert.ProjectionIdeal.nD Cert.ProjectionIdeal.τ).loc Cert.ProjectionIdeal.main_arg0))
variable (h1 : x1 = m ((c.tc : Thread Cert.ProjectionIdeal.nD Cert.ProjectionIdeal.τ).loc Cert.ProjectionIdeal.main_arg1))
variable (h2 : x2 = m ((c.tc : Thread Cert.ProjectionIdeal.nD Cert.ProjectionIdeal.τ).loc Cert.ProjectionIdeal.main_arg2))

include h0 h1 h2

theorem token_eq (n : Fin 32768) (j : Fin 5504) :
    Cert.ProjectionReferenceIdeal.Entry.token x0 x1 x2 n j = Cert.ProjectionIdeal.Array.product m c n j := by
  subst h0 h1 h2
  rfl

theorem first : Cert.ProjectionReferenceIdeal.Read.val_main_v18 (F := Ideal) x0 x1 x2 = Cert.ProjectionIdeal.Array.result1 m c := by
  funext i
  have hi : i = ix2 (i 0) (i 1) := funext fun j => by match j with | ⟨0, _⟩ => rfl | ⟨1, _⟩ => rfl
  exact (congrArg _ hi).trans ((Cert.ProjectionReferenceIdeal.Entry.first x0 x1 x2 (i 0) (i 1)).trans (token_eq m c x0 x1 x2 h0 h1 h2 _ _))

theorem second : Cert.ProjectionReferenceIdeal.Read.val_main_v20 (F := Ideal) x0 x1 x2 = Cert.ProjectionIdeal.Array.result2 m c := by
  funext i
  have hi : i = ix2 (i 0) (i 1) := funext fun j => by match j with | ⟨0, _⟩ => rfl | ⟨1, _⟩ => rfl
  exact (congrArg _ hi).trans ((Cert.ProjectionReferenceIdeal.Entry.second x0 x1 x2 (i 0) (i 1)).trans (token_eq m c x0 x1 x2 h0 h1 h2 _ _))

theorem third : Cert.ProjectionReferenceIdeal.Read.val_main_v22 (F := Ideal) x0 x1 x2 = Cert.ProjectionIdeal.Array.result3 m c := by
  funext i
  have hi : i = ix2 (i 0) (i 1) := funext fun j => by match j with | ⟨0, _⟩ => rfl | ⟨1, _⟩ => rfl
  exact (congrArg _ hi).trans ((Cert.ProjectionReferenceIdeal.Entry.third x0 x1 x2 (i 0) (i 1)).trans (token_eq m c x0 x1 x2 h0 h1 h2 _ _))

end

/-- Both programs end with the three projections of the same arguments. -/
theorem algebraic : @Cert.algebraic_ProjectionIdeal_ProjectionReferenceIdeal Cert.ProjectionIdeal.Gen.facts Cert.ProjectionReferenceIdeal.Gen.facts := by
  intro m ρ m' ρ' _ hagree
  refine ⟨fun c => Cert.ProjectionIdeal.Array.result1 m c, fun c => Cert.ProjectionIdeal.Array.result2 m c,
    fun c => Cert.ProjectionIdeal.Array.result3 m c, ?_, ?_⟩
  · exact (θ_run Cert.ProjectionIdeal.defs _ _).mono
      (fun r h c => ⟨(h c).1.trans (Cert.ProjectionIdeal.Array.final1 m c), (h c).2.1.trans (Cert.ProjectionIdeal.Array.final2 m c),
        (h c).2.2.1.trans (Cert.ProjectionIdeal.Array.final3 m c), (h c).2.2.2⟩)
      (Cert.ProjectionIdeal.Value.run_blocks (F := Ideal) m ρ)
  · refine (θ_run Cert.ProjectionReferenceIdeal.defs _ _).mono
      (fun r h c => ⟨(h c).1.trans ?_, (h c).2.1.trans ?_, (h c).2.2.1.trans ?_, (h c).2.2.2⟩)
      (Cert.ProjectionReferenceIdeal.Value.run (F := Ideal) m' ρ')
    · obtain ⟨h0, h1, h2⟩ := hagree c
      exact (Cert.ProjectionReferenceIdeal.Read.val_main_v18_eq _ _ _).trans (first m c _ _ _ h0 h1 h2)
    · obtain ⟨h0, h1, h2⟩ := hagree c
      exact (Cert.ProjectionReferenceIdeal.Read.val_main_v20_eq _ _ _).trans (second m c _ _ _ h0 h1 h2)
    · obtain ⟨h0, h1, h2⟩ := hagree c
      exact (Cert.ProjectionReferenceIdeal.Read.val_main_v22_eq _ _ _).trans (third m c _ _ _ h0 h1 h2)

end Cert.ProjectionClaims

end
-- ==== Proof.ExpertRun.lean ====
/- One point of the expert kernel's grid, as a triple over what its buffers hold. -/
module

public import proofs.«01_k».proof.Proof.Gen.Experts.Skeleton
public import proofs.«01_k».proof.Proof.Gen.Experts.Launch
public import Idealize.ShloMosaic.Lib.Pipeline.FrameBody
public import Idealize.ShloMosaic.Lib.VecWindow
public import Idealize.ShloMosaic.Lib.Writes
public import Idealize.ShloMosaic.Lib.Pointwise
public import Idealize.ShloMosaic.Lib.Ring
public import Idealize.ShloMosaic.Lib.Exec
public import Idealize.ShloMosaic.Lib.Affine
public import Idealize.ShloMosaic.Lib.Tactic

@[expose] public section

set_option maxRecDepth 16384

noncomputable section

namespace Cert.Experts.Point

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources that the assertions speak of. -/
abbrev Res (F : FTy → Type) := MT nD τ sig Unit (Elt F) ℕ (UR sig nD τ) ℕ

/-- The three tables and the two scratch buffers, whole. -/
abbrev tab0 : Memref sig .tc .smem S288 .i32 := Memref.whole main_arg0
abbrev tab1 : Memref sig .tc .smem S288 .i32 := Memref.whole main_arg1
abbrev tab2 : Memref sig .tc .smem S1 .i32 := Memref.whole main_arg2
abbrev scr0 : Memref sig .tc .vmem S1024x2048 .bf16 := Memref.whole cc0_scratch0
abbrev scr1 : Memref sig .tc .vmem S1024x1024 .bf16 := Memref.whole cc0_scratch1

/-- The expert of a point, the expert of the point before it, and the count of used blocks, as the body loads them. -/
abbrev here (T1 : S288.Idx → BitVec 32) (i : grid0.Coords) : BitVec 32 :=
  View.readAt (Elt F) tab1.view (Rect.unit (s := S288) (k0_off1 i) S1.size (k0_off1_inb i)).toLoadRect T1 (Shape.Idx.first (numel1_S1.symm ▸ Nat.one_pos))
abbrev previous (T1 : S288.Idx → BitVec 32) (i : grid0.Coords) : BitVec 32 :=
  View.readAt (Elt F) tab1.view (Rect.unit (s := S288) (k0_off2 i) S1.size (k0_off2_inb i)).toLoadRect T1 (Shape.Idx.first (numel1_S1.symm ▸ Nat.one_pos))
abbrev count (T2 : S1.Idx → BitVec 32) : BitVec 32 :=
  View.readAt (Elt F) tab2.view (Rect.unit (s := S1) ![0] S1.size inb_S1_S1_0).toLoadRect T2 (Shape.Idx.first (numel1_S1.symm ▸ Nat.one_pos))

/-- Whether the point brings new weights into the scratch buffers. -/
abbrev Fresh (F : FTy → Type) [FloatOps F] (T1 : S288.Idx → BitVec 32) (i : grid0.Coords) : Prop :=
  Scalar.cmpi .ne (Scalar.extui (Scalar.ori (Scalar.cmpi .eq (BitVec.ofNat 32 (i 0).val) 0#32) (Scalar.cmpi .ne (here (F := F) T1 i) (previous (F := F) T1 i)))) 0#32 = 1#1

/-- Every eighth row of a block. -/
abbrev strided (x : Vec F S4096x128 .f32) (s : Nat) (h : ∀ a, S512x128.size a = 0 ∨ (![s, 0] : Fin 2 → Nat) a + (![8, 1] : Fin 2 → Nat) a * (S512x128.size a - 1) < S4096x128.size a) :
    Vec F S512x128 .f32 :=
  fun y => x ((⟨![s, 0], S512x128.size, ![8, 1], h⟩ : LoadRect S4096x128).idx y)

/-- The first halves of the rows' products, cut from above. -/
abbrev gates (x : Vec F S4096x128 .f32) (w : Vec F S1024x2048 .bf16) (b : Vec F S1x1x2048 .f32) : FVec F S512x1024 .f32 :=
  k0_pay5 (strided x 0 inb_S4096x128_S512x128_0_0_s_8_1) (strided x 1 inb_S4096x128_S512x128_1_0_s_8_1) (strided x 2 inb_S4096x128_S512x128_2_0_s_8_1)
    (strided x 3 inb_S4096x128_S512x128_3_0_s_8_1) (strided x 4 inb_S4096x128_S512x128_4_0_s_8_1) (strided x 5 inb_S4096x128_S512x128_5_0_s_8_1)
    (strided x 6 inb_S4096x128_S512x128_6_0_s_8_1) (strided x 7 inb_S4096x128_S512x128_7_0_s_8_1) w b

/-- The second halves of the rows' products, cut from both sides. -/
abbrev linears (x : Vec F S4096x128 .f32) (w : Vec F S1024x2048 .bf16) (b : Vec F S1x1x2048 .f32) : FVec F S512x1024 .f32 :=
  k0_pay6 (strided x 0 inb_S4096x128_S512x128_0_0_s_8_1) (strided x 1 inb_S4096x128_S512x128_1_0_s_8_1) (strided x 2 inb_S4096x128_S512x128_2_0_s_8_1)
    (strided x 3 inb_S4096x128_S512x128_3_0_s_8_1) (strided x 4 inb_S4096x128_S512x128_4_0_s_8_1) (strided x 5 inb_S4096x128_S512x128_5_0_s_8_1)
    (strided x 6 inb_S4096x128_S512x128_6_0_s_8_1) (strided x 7 inb_S4096x128_S512x128_7_0_s_8_1) w b

/-- The denominators of the first halves' sigmoids. -/
abbrev denominators (x : Vec F S4096x128 .f32) (w : Vec F S1024x2048 .bf16) (b : Vec F S1x1x2048 .f32) : FVec F S512x1024 .f32 :=
  k0_pay7 (strided x 0 inb_S4096x128_S512x128_0_0_s_8_1) (strided x 1 inb_S4096x128_S512x128_1_0_s_8_1) (strided x 2 inb_S4096x128_S512x128_2_0_s_8_1)
    (strided x 3 inb_S4096x128_S512x128_3_0_s_8_1) (strided x 4 inb_S4096x128_S512x128_4_0_s_8_1) (strided x 5 inb_S4096x128_S512x128_5_0_s_8_1)
    (strided x 6 inb_S4096x128_S512x128_6_0_s_8_1) (strided x 7 inb_S4096x128_S512x128_7_0_s_8_1) w b

/-- The eight stores of a used block: eight column slices, each into every eighth row. -/
abbrev stores (p0 p1 p2 p3 p4 p5 p6 p7 : Vec F S512x128 .f32) : List (View.Piece (Elt F) S4096x128 .f32) :=
  [⟨⟨⟨![7, 0], S512x128.size, ![8, 1], inb_S4096x128_S512x128_7_0_s_8_1⟩, spos_8_1⟩, p7⟩, ⟨⟨⟨![6, 0], S512x128.size, ![8, 1], inb_S4096x128_S512x128_6_0_s_8_1⟩, spos_8_1⟩, p6⟩,
    ⟨⟨⟨![5, 0], S512x128.size, ![8, 1], inb_S4096x128_S512x128_5_0_s_8_1⟩, spos_8_1⟩, p5⟩, ⟨⟨⟨![4, 0], S512x128.size, ![8, 1], inb_S4096x128_S512x128_4_0_s_8_1⟩, spos_8_1⟩, p4⟩,
    ⟨⟨⟨![3, 0], S512x128.size, ![8, 1], inb_S4096x128_S512x128_3_0_s_8_1⟩, spos_8_1⟩, p3⟩, ⟨⟨⟨![2, 0], S512x128.size, ![8, 1], inb_S4096x128_S512x128_2_0_s_8_1⟩, spos_8_1⟩, p2⟩,
    ⟨⟨⟨![1, 0], S512x128.size, ![8, 1], inb_S4096x128_S512x128_1_0_s_8_1⟩, spos_8_1⟩, p1⟩, ⟨⟨⟨![0, 0], S512x128.size, ![8, 1], inb_S4096x128_S512x128_0_0_s_8_1⟩, spos_8_1⟩, p0⟩]

/-- What a used block's stores hold, from the gates, the linear parts and the denominators. -/
abbrev columns (g l d : FVec F S512x1024 .f32) (w : Vec F S1024x1024 .bf16) (b : Vec F S1x1x1024 .f32) : List (View.Piece (Elt F) S4096x128 .f32) :=
  stores (k0_pay9 g l d (Scalar.ofBits .f32 0x3F800000#32) w b) (k0_pay10 g l d (Scalar.ofBits .f32 0x3F800000#32) w b)
    (k0_pay11 g l d (Scalar.ofBits .f32 0x3F800000#32) w b) (k0_pay12 g l d (Scalar.ofBits .f32 0x3F800000#32) w b)
    (k0_pay13 g l d (Scalar.ofBits .f32 0x3F800000#32) w b) (k0_pay14 g l d (Scalar.ofBits .f32 0x3F800000#32) w b)
    (k0_pay15 g l d (Scalar.ofBits .f32 0x3F800000#32) w b) (k0_pay16 g l d (Scalar.ofBits .f32 0x3F800000#32) w b)

/-- The block that a point leaves: the expert's rows where the point is below the count, zeros elsewhere. -/
def block (i : grid0.Coords) (n : BitVec 32) (x0 : Vec F S4096x128 .f32) (w1 : Vec F S1024x2048 .bf16) (x2 : Vec F S1x1x2048 .f32) (w2 : Vec F S1024x1024 .bf16)
    (x4 : Vec F S1x1x1024 .f32) : Vec F S4096x128 .f32 :=
  if k0_cond2 i n = 1#1 then View.canon (columns (gates x0 w1 x2) (linears x0 w1 x2) (denominators x0 w1 x2) w2 x4) else k0_pay3

/-- A bit that is one when widened and compared with zero. -/
theorem widened (b : BitVec 1) : Scalar.cmpi .ne (Scalar.extui b : BitVec 32) 0#32 = 1#1 ↔ b = 1#1 := by
  revert b; decide

theorem not_less (i : grid0.Coords) (w : BitVec 32) : k0_cond3 i w = 1#1 ↔ ¬k0_cond2 i w = 1#1 := by
  unfold k0_cond2 k0_cond3
  refine (widened _).trans (Iff.trans ?_ (widened _).not.symm)
  generalize BitVec.ofNat 32 (i 0).val = a
  show BitVec.ofBool (w.sle a) = 1#1 ↔ ¬BitVec.ofBool (a.slt w) = 1#1
  rw [BitVec.sle_eq_not_slt]
  cases a.slt w <;> decide

/-- Every eighth row from `s`. -/
abbrev eighth (s : Nat) (h : ∀ a, S512x128.size a = 0 ∨ (![s, 0] : Fin 2 → Nat) a + (![8, 1] : Fin 2 → Nat) a * (S512x128.size a - 1) < S4096x128.size a) : Rect S4096x128 :=
  ⟨⟨![s, 0], S512x128.size, ![8, 1], h⟩, spos_8_1⟩

/-- The place of an index of the block among the rows of its remainder by eight. -/
abbrev place (y : S4096x128.Idx) : S512x128.Idx :=
  ix2 ⟨(y 0).val / 8, by have h : (y 0).val < 4096 := (y 0).isLt; omega⟩ (y 1)

theorem emb_place (s : Nat) (h) (y : S4096x128.Idx) (hy : (y 0).val % 8 = s) : (eighth s h).emb (place y) = y := by
  funext a
  refine Fin.ext ?_
  fin_cases a
  · show s + 8 * ((y 0).val / 8) = (y 0).val
    omega
  · show 0 + 1 * (y 1).val = (y 1).val
    omega

theorem remainder_of_mem (s : Nat) (hs : s < 8) (h) (y : S4096x128.Idx) (hy : y ∈ (eighth s h).set) : (y 0).val % 8 = s := by
  obtain ⟨x, rfl⟩ := (eighth s h).exists_idx_of_mem hy
  show (s + 8 * (x 0).val) % 8 = s
  omega

/-- A store to every eighth row, read at an index. -/
theorem canon_eighth (s : Nat) (hs : s < 8) (h) (p : Vec F S512x128 .f32) (L : List (View.Piece (Elt F) S4096x128 .f32)) (y : S4096x128.Idx) :
    View.canon (⟨eighth s h, p⟩ :: L) y = if (y 0).val % 8 = s then p (place y) else View.canon L y := by
  by_cases hy : (y 0).val % 8 = s
  · rw [if_pos hy]
    conv_lhs => rw [← emb_place s h y hy]
    exact View.canon_cons_emb _ _ _ _
  · rw [if_neg hy]
    exact View.canon_cons_of_not_mem _ _ fun hm => hy (remainder_of_mem s hs h y hm)

theorem mem_eighth (s : Nat) (h) (y : S4096x128.Idx) (hy : (y 0).val % 8 = s) : y ∈ (eighth s h).set := by
  rw [← emb_place s h y hy, ← Rect.map_emb_univ]
  exact Finset.mem_map_of_mem _ (Finset.mem_univ _)

/-- An index of the block lies in the rows of its remainder by eight. -/
theorem covered (p0 p1 p2 p3 p4 p5 p6 p7 : Vec F S512x128 .f32) (y : S4096x128.Idx) : ∃ p ∈ stores p0 p1 p2 p3 p4 p5 p6 p7, y ∈ p.1.set := by
  have hlt : (y 0).val % 8 < 8 := Nat.mod_lt _ (by norm_num)
  generalize hn : (y 0).val % 8 = n at hlt
  interval_cases n
  · exact ⟨_, List.mem_of_getElem? (i := 7) rfl, mem_eighth 0 _ y hn⟩
  · exact ⟨_, List.mem_of_getElem? (i := 6) rfl, mem_eighth 1 _ y hn⟩
  · exact ⟨_, List.mem_of_getElem? (i := 5) rfl, mem_eighth 2 _ y hn⟩
  · exact ⟨_, List.mem_of_getElem? (i := 4) rfl, mem_eighth 3 _ y hn⟩
  · exact ⟨_, List.mem_of_getElem? (i := 3) rfl, mem_eighth 4 _ y hn⟩
  · exact ⟨_, List.mem_of_getElem? (i := 2) rfl, mem_eighth 5 _ y hn⟩
  · exact ⟨_, List.mem_of_getElem? (i := 1) rfl, mem_eighth 6 _ y hn⟩
  · exact ⟨_, List.mem_of_getElem? (i := 0) rfl, mem_eighth 7 _ y hn⟩

/-- After the eight stores the buffer holds what they put there. -/
theorem read_stores {sp : Space} (v : View sig .tc sp S4096x128 .f32) (f : v.ty.Contents (Elt F)) (p0 p1 p2 p3 p4 p5 p6 p7 : Vec F S512x128 .f32) :
    v.read (Elt F) (v.writes (Elt F) f (stores p0 p1 p2 p3 p4 p5 p6 p7)) = View.canon (stores p0 p1 p2 p3 p4 p5 p6 p7) :=
  View.read_writes_eq_canon _ _ _ (covered p0 p1 p2 p3 p4 p5 p6 p7)

/-- A strided load of a held block. -/
theorem load_strided {sp : Space} (v : View sig .tc sp S4096x128 .f32) (x : Vec F S4096x128 .f32) (s : Nat)
    (h : ∀ a, S512x128.size a = 0 ∨ (![s, 0] : Fin 2 → Nat) a + (![8, 1] : Fin 2 → Nat) a * (S512x128.size a - 1) < S4096x128.size a) :
    v.readAt (Elt F) (⟨![s, 0], S512x128.size, ![8, 1], h⟩ : LoadRect S4096x128) (v.rep x) = strided x s h :=
  View.readAt_rep v _ x

/-- A used block's stores depend on the gates, the linear parts, the denominators, the numerator and the weights only. -/
theorem used_of {g g' l l' d d' : FVec F S512x1024 .f32} {n n' : F .f32} {w w' : Vec F S1024x1024 .bf16} {b b' : Vec F S1x1x1024 .f32}
    (hg : g = g') (hl : l = l') (hd : d = d') (hn : n = n') (hw : w = w') (hb : b = b') :
    View.canon (stores (k0_pay9 g l d n w b) (k0_pay10 g l d n w b) (k0_pay11 g l d n w b) (k0_pay12 g l d n w b) (k0_pay13 g l d n w b) (k0_pay14 g l d n w b) (k0_pay15 g l d n w b) (k0_pay16 g l d n w b))
      = View.canon (stores (k0_pay9 g' l' d' n' w' b') (k0_pay10 g' l' d' n' w' b') (k0_pay11 g' l' d' n' w' b') (k0_pay12 g' l' d' n' w' b') (k0_pay13 g' l' d' n' w' b') (k0_pay14 g' l' d' n' w' b') (k0_pay15 g' l' d' n' w' b') (k0_pay16 g' l' d' n' w' b')) := by
  rw [hg, hl, hd, hn, hw, hb]

/-- The gates from the eight loads. -/
theorem gates_of {x : Vec F S4096x128 .f32} {a0 a1 a2 a3 a4 a5 a6 a7 : Vec F S512x128 .f32} {w w' : Vec F S1024x2048 .bf16} {b b' : Vec F S1x1x2048 .f32}
    (h0 : a0 = strided x 0 inb_S4096x128_S512x128_0_0_s_8_1) (h1 : a1 = strided x 1 inb_S4096x128_S512x128_1_0_s_8_1) (h2 : a2 = strided x 2 inb_S4096x128_S512x128_2_0_s_8_1) (h3 : a3 = strided x 3 inb_S4096x128_S512x128_3_0_s_8_1) (h4 : a4 = strided x 4 inb_S4096x128_S512x128_4_0_s_8_1) (h5 : a5 = strided x 5 inb_S4096x128_S512x128_5_0_s_8_1) (h6 : a6 = strided x 6 inb_S4096x128_S512x128_6_0_s_8_1) (h7 : a7 = strided x 7 inb_S4096x128_S512x128_7_0_s_8_1)
    (hw : w = w') (hb : b = b') : k0_pay5 a0 a1 a2 a3 a4 a5 a6 a7 w b = gates x w' b' := by
  rw [h0, h1, h2, h3, h4, h5, h6, h7, hw, hb]

/-- The linear parts from the eight loads. -/
theorem linears_of {x : Vec F S4096x128 .f32} {a0 a1 a2 a3 a4 a5 a6 a7 : Vec F S512x128 .f32} {w w' : Vec F S1024x2048 .bf16} {b b' : Vec F S1x1x2048 .f32}
    (h0 : a0 = strided x 0 inb_S4096x128_S512x128_0_0_s_8_1) (h1 : a1 = strided x 1 inb_S4096x128_S512x128_1_0_s_8_1) (h2 : a2 = strided x 2 inb_S4096x128_S512x128_2_0_s_8_1) (h3 : a3 = strided x 3 inb_S4096x128_S512x128_3_0_s_8_1) (h4 : a4 = strided x 4 inb_S4096x128_S512x128_4_0_s_8_1) (h5 : a5 = strided x 5 inb_S4096x128_S512x128_5_0_s_8_1) (h6 : a6 = strided x 6 inb_S4096x128_S512x128_6_0_s_8_1) (h7 : a7 = strided x 7 inb_S4096x128_S512x128_7_0_s_8_1)
    (hw : w = w') (hb : b = b') : k0_pay6 a0 a1 a2 a3 a4 a5 a6 a7 w b = linears x w' b' := by
  rw [h0, h1, h2, h3, h4, h5, h6, h7, hw, hb]

/-- The denominators from the eight loads. -/
theorem denominators_of {x : Vec F S4096x128 .f32} {a0 a1 a2 a3 a4 a5 a6 a7 : Vec F S512x128 .f32} {w w' : Vec F S1024x2048 .bf16} {b b' : Vec F S1x1x2048 .f32}
    (h0 : a0 = strided x 0 inb_S4096x128_S512x128_0_0_s_8_1) (h1 : a1 = strided x 1 inb_S4096x128_S512x128_1_0_s_8_1) (h2 : a2 = strided x 2 inb_S4096x128_S512x128_2_0_s_8_1) (h3 : a3 = strided x 3 inb_S4096x128_S512x128_3_0_s_8_1) (h4 : a4 = strided x 4 inb_S4096x128_S512x128_4_0_s_8_1) (h5 : a5 = strided x 5 inb_S4096x128_S512x128_5_0_s_8_1) (h6 : a6 = strided x 6 inb_S4096x128_S512x128_6_0_s_8_1) (h7 : a7 = strided x 7 inb_S4096x128_S512x128_7_0_s_8_1)
    (hw : w = w') (hb : b = b') : k0_pay7 a0 a1 a2 a3 a4 a5 a6 a7 w b = denominators x w' b' := by
  rw [h0, h1, h2, h3, h4, h5, h6, h7, hw, hb]

/-- After the store of zeros the buffer holds zeros. -/
theorem read_zeros {sp : Space} (v : View sig .tc sp S4096x128 .f32) (f : v.ty.Contents (Elt F)) :
    v.read (Elt F) (v.writes (Elt F) f [⟨Rect.unit ![0, 0] S4096x128.size inb_S4096x128_S4096x128_0_0, k0_pay3⟩]) = k0_pay3 :=
  View.read_writes_full _ _ _ _ []

theorem write_whole0 (f : scr0.view.ty.Contents (Elt F)) (w : S1024x2048.Idx → Elt F .bf16) :
    scr0.view.read (Elt F) (scr0.view.writes (Elt F) f [⟨Rect.unit ![0, 0] S1024x2048.size inb_S1024x2048_S1024x2048_0_0, w⟩]) = w :=
  View.read_writes_full _ _ _ _ []

theorem write_whole1 (f : scr1.view.ty.Contents (Elt F)) (w : S1024x1024.Idx → Elt F .bf16) :
    scr1.view.read (Elt F) (scr1.view.writes (Elt F) f [⟨Rect.unit ![0, 0] S1024x1024.size inb_S1024x1024_S1024x1024_0_0, w⟩]) = w :=
  View.read_writes_full _ _ _ _ []

variable (c : Dev nD) (i : grid0.Coords)
  (arg4 : Memref sig .tc .vmem S4096x128 .f32) (harg4 : arg4.IsWhole) (arg5 : Memref sig .tc .vmem S1x1024x2048 .f32) (harg5 : arg5.IsWhole)
  (arg6 : Memref sig .tc .vmem S1x1x2048 .f32) (harg6 : arg6.IsWhole) (arg7 : Memref sig .tc .vmem S1x1024x1024 .f32) (harg7 : arg7.IsWhole)
  (arg8 : Memref sig .tc .vmem S1x1x1024 .f32) (harg8 : arg8.IsWhole) (arg9 : Memref sig .tc .vmem S4096x128 .f32) (harg9 : arg9.IsWhole)
  (T0 T1 : S288.Idx → BitVec 32) (T2 : S1.Idx → BitVec 32)
  (x0 : Vec F S4096x128 .f32) (x1 : Vec F S1x1024x2048 .f32) (x2 : Vec F S1x1x2048 .f32) (x3 : Vec F S1x1024x1024 .f32) (x4 : Vec F S1x1x1024 .f32)

/-- What the point only reads: the blocks of the inputs and the tables. -/
abbrev inputs : sProp (Res F) :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (tab0.view.loc (c : Thread nD τ) ↦{fullShare.right} T0)
    ∗ (tab1.view.loc (c : Thread nD τ) ↦{fullShare.right} T1)
    ∗ (tab2.view.loc (c : Thread nD τ) ↦{fullShare.right} T2))

set_option backward.proofsInPublic true in
set_option maxHeartbeats 8000000 in
theorem run (xa0 : Buf (Elt F) ((c : Thread nD τ).loc cc0_scratch0)) (xa1 : Buf (Elt F) ((c : Thread nD τ).loc cc0_scratch1))
    (h0 : ¬Fresh F T1 i → scr0.view.read (Elt F) xa0 = k0_pay1 x1) (h1 : ¬Fresh F T1 i → scr1.view.read (Elt F) xa1 = k0_pay2 x3)
    (K : PUnit → sProp (Res F)) :
    iprop(inputs c arg4 arg5 arg6 arg7 arg8 T0 T1 T2 x0 x1 x2 x3 x4
        ∗ (∃ d, owns (c : Thread nD τ) arg9 fullShare d)
        ∗ (scr0.view.loc (c : Thread nD τ) ↦{fullShare} xa0)
        ∗ (scr1.view.loc (c : Thread nD τ) ↦{fullShare} xa1)
        ∗ (iprop(inputs c arg4 arg5 arg6 arg7 arg8 T0 T1 T2 x0 x1 x2 x3 x4
            ∗ owns (c : Thread nD τ) arg9 fullShare (block i (count (F := F) T2) x0 (k0_pay1 x1) x2 (k0_pay2 x3) x4)
            ∗ (∃ a, ⌜scr0.view.read (Elt F) a = k0_pay1 x1⌝ ∗ (scr0.view.loc (c : Thread nD τ) ↦{fullShare} a))
            ∗ (∃ a, ⌜scr1.view.read (Elt F) a = k0_pay2 x3⌝ ∗ (scr1.view.loc (c : Thread nD τ) ↦{fullShare} a))) -∗ K ⟨⟩))
      ⊢ wp frame (wpE (defs₀ (F := F)) Variants.none c none) Set.univ (cc0_moe_experts i tab0 (Memref.isWhole_whole _) tab1 (Memref.isWhole_whole _) tab2 (Memref.isWhole_whole _) arg4 harg4 arg5 harg5 arg6 harg6 arg7 harg7 arg8 harg8 arg9 harg9 scr0 (Memref.isWhole_whole _) scr1 (Memref.isWhole_whole _)) K := by
  have hS0 : scr0.IsWhole := Memref.isWhole_whole _
  have hS1 : scr1.IsWhole := Memref.isWhole_whole _
  have hT0 : tab0.IsWhole := Memref.isWhole_whole _
  have hT1 : tab1.IsWhole := Memref.isWhole_whole _
  have hT2 : tab2.IsWhole := Memref.isWhole_whole _
  unfold owns
  rw [cc0_moe_experts_eq_skeleton]; unfold cc0_moe_experts_skel
  rw [k0_part1_eq_skeleton, k0_part2_eq_skeleton]; unfold k0_part1_skel k0_part2_skel
  by_cases hc0 : Fresh F T1 i <;> by_cases h2 : k0_cond2 i (count (F := F) T2) = 1#1 <;>
    have h3 := (not_less i (count (F := F) T2)).not <;> simp only [h2, not_true_eq_false, not_false_eq_true, iff_true, iff_false, not_not] at h3
  all_goals
    iintro ⟨⟨H0, H1, H2, H3, H4, HT0, HT1, HT2⟩, ⟨%d5, %f5, -, HO5⟩, HS0, HS1, Hk⟩
    sl_exec! (disch := first | (guard_target = Scalar.cmpi _ _ _ = _; exact hc0) | (guard_target = ¬(Scalar.cmpi _ _ _ = _); exact hc0) | (guard_target = ¬(k0_cond3 _ _ = _); exact h3) | (guard_target = k0_cond2 _ _ = _; exact h2) | (guard_target = (k0_cond3 _ _ = _); exact h3) | (guard_target = ¬(k0_cond2 _ _ = _); exact h2))
    sl_step
    iapply Hk
    isplitl [H0 H1 H2 H3 H4 HT0 HT1 HT2]
    · isplitl [H0]; · iexact H0
      isplitl [H1]; · iexact H1
      isplitl [H2]; · iexact H2
      isplitl [H3]; · iexact H3
      isplitl [H4]; · iexact H4
      isplitl [HT0]; · iexact HT0
      isplitl [HT1]; · iexact HT1
      iexact HT2
    isplitl [HO5]
    · iexists _; isplitr; swap
      · iexact HO5
      ipureintro
      unfold block
      first
        | (rw [if_neg h2]; exact read_zeros _ _)
        | (rw [if_pos h2]; refine (read_stores _ _ _ _ _ _ _ _ _ _).trans ?_
           refine used_of ?_ ?_ ?_ rfl ?_ (View.readAt_rep_full _ _ _)
           · refine gates_of (load_strided _ _ _ _) (load_strided _ _ _ _) (load_strided _ _ _ _) (load_strided _ _ _ _) (load_strided _ _ _ _) (load_strided _ _ _ _) (load_strided _ _ _ _) (load_strided _ _ _ _) ?_ (View.readAt_rep_full _ _ _)
             first
               | (have old : ¬Fresh F T1 i := by assumption
                  exact (View.readAt_full _ _ _).trans (h0 old))
               | exact (View.readCov_full _ _ _ _ _).trans (congrArg k0_pay1 (View.readAt_rep_full _ _ _))
           · refine linears_of (load_strided _ _ _ _) (load_strided _ _ _ _) (load_strided _ _ _ _) (load_strided _ _ _ _) (load_strided _ _ _ _) (load_strided _ _ _ _) (load_strided _ _ _ _) (load_strided _ _ _ _) ?_ (View.readAt_rep_full _ _ _)
             first
               | (have old : ¬Fresh F T1 i := by assumption
                  exact (View.readAt_full _ _ _).trans (h0 old))
               | exact (View.readCov_full _ _ _ _ _).trans (congrArg k0_pay1 (View.readAt_rep_full _ _ _))
           · refine denominators_of (load_strided _ _ _ _) (load_strided _ _ _ _) (load_strided _ _ _ _) (load_strided _ _ _ _) (load_strided _ _ _ _) (load_strided _ _ _ _) (load_strided _ _ _ _) (load_strided _ _ _ _) ?_ (View.readAt_rep_full _ _ _)
             first
               | (have old : ¬Fresh F T1 i := by assumption
                  exact (View.readAt_full _ _ _).trans (h0 old))
               | exact (View.readCov_full _ _ _ _ _).trans (congrArg k0_pay1 (View.readAt_rep_full _ _ _))
           · first
               | (have old : ¬Fresh F T1 i := by assumption
                  exact (View.readAt_full _ _ _).trans (h1 old))
               | exact (View.readCov_full _ _ _ _ _).trans (congrArg k0_pay2 (View.readAt_rep_full _ _ _)))
    isplitl [HS0]
    · iexists _; isplitr; swap
      · iexact HS0
      ipureintro
      first
        | (have old : ¬Fresh F T1 i := by assumption
           exact h0 old)
        | (refine (write_whole0 _ _).trans ?_
           exact congrArg k0_pay1 (View.readAt_rep_full _ _ _))
    iexists _; isplitr; swap
    · iexact HS1
    ipureintro
    first
      | (have old : ¬Fresh F T1 i := by assumption
         exact h1 old)
      | (refine (write_whole1 _ _).trans ?_
         exact congrArg k0_pay2 (View.readAt_rep_full _ _ _))

end Cert.Experts.Point

end
-- ==== Proof.ExpertWord.lean ====
/- The tables' words that a point of the expert kernel's grid reads. -/
module

public import proofs.«01_k».proof.Proof.ExpertRun
public import Idealize.ShloMosaic.Lib.Pipeline.ValueKit.Geometry

@[expose] public section

set_option maxRecDepth 16384

noncomputable section

namespace Cert.Experts.Point

open Cert.Experts Cert.Experts.Gen
open Idealize.ShloMosaic
open Idealize.ShloMosaic.TcCoe Idealize.ShloMosaic.Tactic

variable {F : FTy → Type} [FloatOps F]

theorem coord_lt (i : grid0.Coords) : (i 0).val < 288 := (i 0).isLt

theorem off1_val (i : grid0.Coords) : k0_off1 i 0 = (i 0).val := by
  have h := coord_lt i
  show (Scalar.indexCast (BitVec.ofNat 32 (i 0).val) : BitVec 32).toNat = (i 0).val
  show (BitVec.ofNat 32 (i 0).val).toNat = (i 0).val
  rw [BitVec.toNat_ofNat]
  omega

theorem before_val : ∀ n : Fin 288, (Scalar.indexCast (Scalar.maxsi (Scalar.subi (BitVec.ofNat 32 n.val) 1#32) 0#32) : BitVec 32).toNat = n.val - 1 := by
  decide +kernel

theorem off2_val (i : grid0.Coords) : k0_off2 i 0 = (i 0).val - 1 :=
  before_val (i 0)

/-- The first index of a unit rectangle of one table word. -/
theorem first_word (off : Fin 1 → Nat) (h : ∀ a, off a + S1.size a ≤ S288.size a) (n : Fin 288) (hn : off 0 = n.val)
    (h1 : 0 < S1.numel) : (Rect.unit (s := S288) off S1.size h).emb (Shape.Idx.first h1) = ix1 n := by
  funext a
  refine Fin.ext ?_
  fin_cases a
  show off 0 + 1 * (Shape.Idx.first h1 0).val = n.val
  have hz : (Shape.Idx.first h1 0).val < 1 := (Shape.Idx.first h1 0).isLt
  omega

theorem here_eq (T1 : S288.Idx → BitVec 32) (i : grid0.Coords) : here (F := F) T1 i = T1 (ix1 ⟨(i 0).val, coord_lt i⟩) :=
  congrArg T1 (first_word _ _ _ (off1_val i) _)

theorem previous_eq (T1 : S288.Idx → BitVec 32) (i : grid0.Coords) :
    previous (F := F) T1 i = T1 (ix1 ⟨(i 0).val - 1, by have := coord_lt i; omega⟩) :=
  congrArg T1 (first_word _ _ _ (off2_val i) _)

theorem count_eq (T2 : S1.Idx → BitVec 32) : count (F := F) T2 = T2 (ix1 0) := by
  refine congrArg T2 (funext fun a => Fin.ext ?_)
  fin_cases a
  rfl

/-- A point that brings no new weights is not the first, and its expert is that of the point before. -/
theorem stale (T1 : S288.Idx → BitVec 32) (i : grid0.Coords) (h : ¬Fresh F T1 i) :
    (i 0).val ≠ 0 ∧ T1 (ix1 ⟨(i 0).val, coord_lt i⟩) = T1 (ix1 ⟨(i 0).val - 1, by have := coord_lt i; omega⟩) := by
  unfold Fresh at h
  rw [widened, here_eq, previous_eq] at h
  generalize T1 (ix1 ⟨(i 0).val, coord_lt i⟩) = p at h ⊢
  generalize T1 (ix1 ⟨(i 0).val - 1, _⟩) = q at h ⊢
  have hlt := coord_lt i
  have h' : ¬BitVec.ofBool (BitVec.ofNat 32 (i 0).val == 0#32) ||| BitVec.ofBool (p != q) = 1#1 := h
  refine ⟨fun hz => h' ?_, ?_⟩
  · rw [hz]
    cases (p != q) <;> decide
  · by_contra hne
    refine h' ?_
    rw [show (p != q) = true from bne_iff_ne.mpr hne]
    cases (BitVec.ofNat 32 (i 0).val == 0#32) <;> decide

/-- A table word as a window's index map reads it. -/
theorem at0_eq (pf : pre0.Contents (Elt F)) (i : grid0.Coords) (h : ∀ a, k0_off1 i a + S1.size a ≤ S288.size a) :
    pf.at 0 (Rect.unit (s := S288) (k0_off1 i) S1.size h) numel1_S1 = pf 0 (ix1 ⟨(i 0).val, coord_lt i⟩) :=
  congrArg (pf 0) (first_word _ _ _ (off1_val i) _)

theorem at1_eq (pf : pre0.Contents (Elt F)) (i : grid0.Coords) (h : ∀ a, k0_off1 i a + S1.size a ≤ S288.size a) :
    pf.at 1 (Rect.unit (s := S288) (k0_off1 i) S1.size h) numel1_S1 = pf 1 (ix1 ⟨(i 0).val, coord_lt i⟩) :=
  congrArg (pf 1) (first_word _ _ _ (off1_val i) _)

/-- The block of a point and its expert, as the index maps read them. -/
def source (pf : pre0.Contents (Elt F)) (i : grid0.Coords) : Nat := (show BitVec 32 from pf 0 (ix1 ⟨(i 0).val, coord_lt i⟩)).toNat
def expert (pf : pre0.Contents (Elt F)) (i : grid0.Coords) : Nat := (show BitVec 32 from pf 1 (ix1 ⟨(i 0).val, coord_lt i⟩)).toNat

theorem transform0_eq (pf : pre0.Contents (Elt F)) (i : grid0.Coords) : cc0_transform_0 k0_off1_inb numel1_S1 pf i = ![source pf i, 0] :=
  congrArg (fun w : BitVec 32 => (![w.toNat, 0] : Fin 2 → Nat)) (at0_eq pf i _)

theorem transform1_eq (pf : pre0.Contents (Elt F)) (i : grid0.Coords) : cc0_transform_1 k0_off1_inb numel1_S1 pf i = ![expert pf i, 0, 0] :=
  congrArg (fun w : BitVec 32 => (![w.toNat, 0, 0] : Fin 3 → Nat)) (at1_eq pf i _)

theorem transform2_eq (pf : pre0.Contents (Elt F)) (i : grid0.Coords) : cc0_transform_2 k0_off1_inb numel1_S1 pf i = ![expert pf i, 0, 0] :=
  congrArg (fun w : BitVec 32 => (![w.toNat, 0, 0] : Fin 3 → Nat)) (at1_eq pf i _)

theorem transform3_eq (pf : pre0.Contents (Elt F)) (i : grid0.Coords) : cc0_transform_3 k0_off1_inb numel1_S1 pf i = ![expert pf i, 0, 0] :=
  congrArg (fun w : BitVec 32 => (![w.toNat, 0, 0] : Fin 3 → Nat)) (at1_eq pf i _)

theorem transform4_eq (pf : pre0.Contents (Elt F)) (i : grid0.Coords) : cc0_transform_4 k0_off1_inb numel1_S1 pf i = ![expert pf i, 0, 0] :=
  congrArg (fun w : BitVec 32 => (![w.toNat, 0, 0] : Fin 3 → Nat)) (at1_eq pf i _)

theorem transform5_eq (i : grid0.Coords) : cc0_transform_5 i = ![(i 0).val, 0] := by
  have h := off1_val i
  exact congrArg (fun n : Nat => (![n, 0] : Fin 2 → Nat)) h

/-- Tables whose blocks and experts are in range steer every window inside its array. -/
theorem ok_of_range (pf : pre0.Contents (Elt F)) (h0 : ∀ i, source pf i < 288) (h1 : ∀ i, expert pf i < 32) : ok0 pf := by
  refine ⟨fun i => ⟨?_, Or.inl rfl⟩, fun i => ⟨?_, Or.inl rfl⟩, fun i => ⟨?_, Or.inl rfl⟩, fun i => ⟨?_, Or.inl rfl⟩, fun i => ⟨?_, Or.inl rfl⟩⟩
  · have h := h0 i
    rw [transform0_eq]
    intro a
    fin_cases a
    · show (source pf i + 1) * 4096 ≤ 1179648
      omega
    · show (0 + 1) * 128 ≤ 128
      omega
  · have h := h1 i
    rw [transform1_eq]
    intro a
    fin_cases a
    · show (expert pf i + 1) * 1 ≤ 32
      omega
    · show (0 + 1) * 1024 ≤ 1024
      omega
    · show (0 + 1) * 2048 ≤ 2048
      omega
  · have h := h1 i
    rw [transform2_eq]
    intro a
    fin_cases a
    · show (expert pf i + 1) * 1 ≤ 32
      omega
    · show (0 + 1) * 1 ≤ 1
      omega
    · show (0 + 1) * 2048 ≤ 2048
      omega
  · have h := h1 i
    rw [transform3_eq]
    intro a
    fin_cases a
    · show (expert pf i + 1) * 1 ≤ 32
      omega
    · show (0 + 1) * 1024 ≤ 1024
      omega
    · show (0 + 1) * 1024 ≤ 1024
      omega
  · have h := h1 i
    rw [transform4_eq]
    intro a
    fin_cases a
    · show (expert pf i + 1) * 1 ≤ 32
      omega
    · show (0 + 1) * 1 ≤ 1
      omega
    · show (0 + 1) * 1024 ≤ 1024
      omega

end Cert.Experts.Point

end
-- ==== Proof.ExpertData.lean ====
/- What the expert kernel's buffers hold at each point of its grid, and that the body keeps it so. -/
module

public import proofs.«01_k».proof.Proof.ExpertWord
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Adequacy
public import Idealize.ShloMosaic.Init

@[expose] public section

set_option maxRecDepth 16384

noncomputable section

namespace Cert.Experts.Point

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The pipeline at tables that steer every window inside its array. -/
abbrev config (a : (pcfg0 (F := F)).Adm) : Pipeline.Cfg sig Λ₀ := cfg0 (F := F) a

variable (a : (pcfg0 (F := F)).Adm) (m : (ℓ : Loc nD τ sig) → Buf (Elt F) ℓ) (ρ : Dev nD → PrngReg) (c : Dev nD)

/-- The coordinates of a point. -/
abbrev at_ (t : Fin (config a).N) : (config a).grid.Coords := (config a).grid.coords t

theorem coords_grid : ∀ t : Fin grid0.N, (grid0.coords t 0).val = t.val := by decide +kernel

theorem coords_val (t : Fin (config a).N) : (at_ a t 0).val = t.val := coords_grid t

/-- The windows' buffers at a point. -/
abbrev stg0 (t : Fin (config a).N) : Memref sig .tc .vmem S4096x128 .f32 := spec0_0.stage ((config a).slots t (0 : Fin 6))
abbrev stg1 (t : Fin (config a).N) : Memref sig .tc .vmem S1x1024x2048 .f32 := spec0_1.stage ((config a).slots t (1 : Fin 6))
abbrev stg2 (t : Fin (config a).N) : Memref sig .tc .vmem S1x1x2048 .f32 := spec0_2.stage ((config a).slots t (2 : Fin 6))
abbrev stg3 (t : Fin (config a).N) : Memref sig .tc .vmem S1x1024x1024 .f32 := spec0_3.stage ((config a).slots t (3 : Fin 6))
abbrev stg4 (t : Fin (config a).N) : Memref sig .tc .vmem S1x1x1024 .f32 := spec0_4.stage ((config a).slots t (4 : Fin 6))
abbrev stg5 (t : Fin (config a).N) : Memref sig .tc .vmem S4096x128 .f32 := spec0_5.stage ((config a).slots t (5 : Fin 6))
abbrev whole0 (t : Fin (config a).N) : (stg0 a t).IsWhole := hstage0_0 (((config a).slots t (0 : Fin 6)).cast nbuf0_0)
abbrev whole1 (t : Fin (config a).N) : (stg1 a t).IsWhole := hstage0_1 (((config a).slots t (1 : Fin 6)).cast nbuf0_1)
abbrev whole2 (t : Fin (config a).N) : (stg2 a t).IsWhole := hstage0_2 (((config a).slots t (2 : Fin 6)).cast nbuf0_2)
abbrev whole3 (t : Fin (config a).N) : (stg3 a t).IsWhole := hstage0_3 (((config a).slots t (3 : Fin 6)).cast nbuf0_3)
abbrev whole4 (t : Fin (config a).N) : (stg4 a t).IsWhole := hstage0_4 (((config a).slots t (4 : Fin 6)).cast nbuf0_4)
abbrev whole5 (t : Fin (config a).N) : (stg5 a t).IsWhole := hstage0_5 (((config a).slots t (5 : Fin 6)).cast nbuf0_5)

/-- The block of an array that a window names at a point. -/
def piece (w : Fin (config a).W) (t : Fin (config a).N) : (((config a).win w).xblock (at_ a t)).Idx → Elt F ((config a).win w).elt :=
  (((config a).win w).blk t).view.read (Elt F) (m (((config a).win w).arr.view.loc (c : Thread nD τ)))

theorem source_lt (i : grid0.Coords) : source a.1 i < 288 := by
  obtain ⟨h, -⟩ := a.2.1 i
  have h' := h 0
  rw [transform0_eq] at h'
  have h'' : (source a.1 i + 1) * 4096 ≤ 1179648 := h'
  omega

theorem expert_lt (i : grid0.Coords) : expert a.1 i < 32 := by
  obtain ⟨h, -⟩ := a.2.2.1 i
  have h' := h 0
  rw [transform1_eq] at h'
  have h'' : (expert a.1 i + 1) * 1 ≤ 32 := h'
  omega

theorem piece0_eq (t : Fin (config a).N) (y : S4096x128.Idx) : piece a m c 0 t y
    = m ((c : Thread nD τ).loc main_arg3) (ix2 ⟨source a.1 (at_ a t) * 4096 + (y 0).val, by have h := source_lt a (at_ a t); have h' : (y 0).val < 4096 := (y 0).isLt; omega⟩ (y 1)) := by
  refine congrArg (m ((c : Thread nD τ).loc main_arg3)) (funext fun b => Fin.ext ((ValueKit.rect_emb_unit_val _ _ _ _ b).trans ?_))
  have h := transform0_eq a.1 (at_ a t)
  match b with
  | ⟨0, _⟩ =>
    show cc0_transform_0 k0_off1_inb numel1_S1 a.1 (at_ a t) 0 * 4096 + (y 0).val = source a.1 (at_ a t) * 4096 + (y 0).val
    rw [h]
    rfl
  | ⟨1, _⟩ => exact (congrArg (fun v : Fin 2 → Nat => v 1 * 128 + (y 1).val) h).trans (Nat.zero_add _)

theorem piece1_eq (t : Fin (config a).N) (y : S1x1024x2048.Idx) : piece a m c 1 t y
    = m ((c : Thread nD τ).loc main_arg4) (ix3 ⟨expert a.1 (at_ a t), expert_lt a _⟩ (y 1) (y 2)) := by
  refine congrArg (m ((c : Thread nD τ).loc main_arg4)) (funext fun b => Fin.ext ((ValueKit.rect_emb_unit_val _ _ _ _ b).trans ?_))
  have h := transform1_eq a.1 (at_ a t)
  have h0 : (y 0).val < 1 := (y 0).isLt
  match b with
  | ⟨0, _⟩ => exact (congrArg (fun v : Fin 3 → Nat => v 0 * 1 + (y 0).val) h).trans (show expert a.1 (at_ a t) * 1 + (y 0).val = expert a.1 (at_ a t) by omega)
  | ⟨1, _⟩ => exact (congrArg (fun v : Fin 3 → Nat => v 1 * 1024 + (y 1).val) h).trans (Nat.zero_add _)
  | ⟨2, _⟩ => exact (congrArg (fun v : Fin 3 → Nat => v 2 * 2048 + (y 2).val) h).trans (Nat.zero_add _)

theorem piece2_eq (t : Fin (config a).N) (y : S1x1x2048.Idx) : piece a m c 2 t y
    = m ((c : Thread nD τ).loc main_arg5) (ix3 ⟨expert a.1 (at_ a t), expert_lt a _⟩ (y 1) (y 2)) := by
  refine congrArg (m ((c : Thread nD τ).loc main_arg5)) (funext fun b => Fin.ext ((ValueKit.rect_emb_unit_val _ _ _ _ b).trans ?_))
  have h := transform2_eq a.1 (at_ a t)
  have h0 : (y 0).val < 1 := (y 0).isLt
  match b with
  | ⟨0, _⟩ => exact (congrArg (fun v : Fin 3 → Nat => v 0 * 1 + (y 0).val) h).trans (show expert a.1 (at_ a t) * 1 + (y 0).val = expert a.1 (at_ a t) by omega)
  | ⟨1, _⟩ => exact (congrArg (fun v : Fin 3 → Nat => v 1 * 1 + (y 1).val) h).trans (Nat.zero_add _)
  | ⟨2, _⟩ => exact (congrArg (fun v : Fin 3 → Nat => v 2 * 2048 + (y 2).val) h).trans (Nat.zero_add _)

theorem piece3_eq (t : Fin (config a).N) (y : S1x1024x1024.Idx) : piece a m c 3 t y
    = m ((c : Thread nD τ).loc main_arg6) (ix3 ⟨expert a.1 (at_ a t), expert_lt a _⟩ (y 1) (y 2)) := by
  refine congrArg (m ((c : Thread nD τ).loc main_arg6)) (funext fun b => Fin.ext ((ValueKit.rect_emb_unit_val _ _ _ _ b).trans ?_))
  have h := transform3_eq a.1 (at_ a t)
  have h0 : (y 0).val < 1 := (y 0).isLt
  match b with
  | ⟨0, _⟩ => exact (congrArg (fun v : Fin 3 → Nat => v 0 * 1 + (y 0).val) h).trans (show expert a.1 (at_ a t) * 1 + (y 0).val = expert a.1 (at_ a t) by omega)
  | ⟨1, _⟩ => exact (congrArg (fun v : Fin 3 → Nat => v 1 * 1024 + (y 1).val) h).trans (Nat.zero_add _)
  | ⟨2, _⟩ => exact (congrArg (fun v : Fin 3 → Nat => v 2 * 1024 + (y 2).val) h).trans (Nat.zero_add _)

theorem piece4_eq (t : Fin (config a).N) (y : S1x1x1024.Idx) : piece a m c 4 t y
    = m ((c : Thread nD τ).loc main_arg7) (ix3 ⟨expert a.1 (at_ a t), expert_lt a _⟩ (y 1) (y 2)) := by
  refine congrArg (m ((c : Thread nD τ).loc main_arg7)) (funext fun b => Fin.ext ((ValueKit.rect_emb_unit_val _ _ _ _ b).trans ?_))
  have h := transform4_eq a.1 (at_ a t)
  have h0 : (y 0).val < 1 := (y 0).isLt
  match b with
  | ⟨0, _⟩ => exact (congrArg (fun v : Fin 3 → Nat => v 0 * 1 + (y 0).val) h).trans (show expert a.1 (at_ a t) * 1 + (y 0).val = expert a.1 (at_ a t) by omega)
  | ⟨1, _⟩ => exact (congrArg (fun v : Fin 3 → Nat => v 1 * 1 + (y 1).val) h).trans (Nat.zero_add _)
  | ⟨2, _⟩ => exact (congrArg (fun v : Fin 3 → Nat => v 2 * 1024 + (y 2).val) h).trans (Nat.zero_add _)

/-- The table of experts and the count, as the body reads them. -/
abbrev experts : S288.Idx → BitVec 32 := a.1 1
abbrev used : S1.Idx → BitVec 32 := a.1 2

/-- Points of one expert read the same weights. -/
theorem piece1_congr (s t : Fin (config a).N) (h : expert a.1 (at_ a s) = expert a.1 (at_ a t)) : (piece a m c 1 s : S1x1024x2048.Idx → Elt F .f32) = piece a m c 1 t := by
  refine funext fun (y : S1x1024x2048.Idx) => ?_
  exact (piece1_eq a m c s y).trans ((congrArg (fun e => m ((c : Thread nD τ).loc main_arg4) (ix3 e (y 1) (y 2))) (Fin.ext h)).trans (piece1_eq a m c t y).symm)

theorem piece3_congr (s t : Fin (config a).N) (h : expert a.1 (at_ a s) = expert a.1 (at_ a t)) : (piece a m c 3 s : S1x1024x1024.Idx → Elt F .f32) = piece a m c 3 t := by
  refine funext fun (y : S1x1024x1024.Idx) => ?_
  exact (piece3_eq a m c s y).trans ((congrArg (fun e => m ((c : Thread nD τ).loc main_arg6) (ix3 e (y 1) (y 2))) (Fin.ext h)).trans (piece3_eq a m c t y).symm)

/-- A point that brings no new weights has a point before it, of the same expert. -/
theorem predecessor (t : Fin (config a).N) (h : ¬Fresh F (experts a) (at_ a t)) :
    ∃ s : Fin (config a).N, s.val + 1 = t.val ∧ expert a.1 (at_ a s) = expert a.1 (at_ a t) := by
  obtain ⟨h0, h1⟩ := stale (experts a) (at_ a t) h
  have hv := coords_val a t
  rw [hv] at h0
  refine ⟨⟨t.val - 1, by have := t.isLt; omega⟩, by show t.val - 1 + 1 = t.val; omega, ?_⟩
  unfold expert
  refine congrArg BitVec.toNat (Eq.trans (congrArg (experts a) ?_) h1.symm)
  refine congrArg ix1 (Fin.ext ?_)
  show (at_ a ⟨t.val - 1, _⟩ 0).val = (at_ a t 0).val - 1
  rw [coords_val, coords_val]

/-- What the scratch buffers hold before a point: the weights of the point before it. -/
def Held (n : Nat) : sProp (Res F) :=
  iprop((∃ x, ⌜∀ s : Fin (config a).N, s.val + 1 = n → scr0.view.read (Elt F) x = k0_pay1 (piece a m c 1 s)⌝ ∗ (scr0.view.loc (c : Thread nD τ) ↦{fullShare} x))
    ∗ (∃ x, ⌜∀ s : Fin (config a).N, s.val + 1 = n → scr1.view.read (Elt F) x = k0_pay2 (piece a m c 3 s)⌝ ∗ (scr1.view.loc (c : Thread nD τ) ↦{fullShare} x))
    ∗ (tab0.view.loc (c : Thread nD τ) ↦{fullShare.right} a.1 0)
    ∗ (tab1.view.loc (c : Thread nD τ) ↦{fullShare.right} a.1 1)
    ∗ (tab2.view.loc (c : Thread nD τ) ↦{fullShare.right} a.1 2))

/-- The block that a point leaves. -/
def left (t : Fin (config a).N) : Vec F S4096x128 .f32 :=
  block (at_ a t) (count (F := F) (used a)) (piece a m c 0 t) (k0_pay1 (piece a m c 1 t)) (piece a m c 2 t) (k0_pay2 (piece a m c 3 t)) (piece a m c 4 t)

/-- What the arrays and the buffers hold, for the pipeline's theorems. -/
def dats (_ : Fin 1) (c : Dev nD) : Dat τ (Elt F) Unit ℕ (UR sig nD τ) ℕ (config a) c where
  A w := m (((config a).win w).arr.view.loc (c : Thread nD τ))
  after w t := match w with
    | ⟨0, _⟩ => piece a m c (0 : Fin 6) t
    | ⟨1, _⟩ => piece a m c (1 : Fin 6) t
    | ⟨2, _⟩ => piece a m c (2 : Fin 6) t
    | ⟨3, _⟩ => piece a m c (3 : Fin 6) t
    | ⟨4, _⟩ => piece a m c (4 : Fin 6) t
    | ⟨5, _⟩ => left a m c t
  Φ t := Held a m c t.val
  q _ := fullShare
  owed _ := 0

theorem after0 (t : Fin (config a).N) : (dats a m 0 c).after (0 : Fin 6) t = piece a m c (0 : Fin 6) t := rfl
theorem after1 (t : Fin (config a).N) : (dats a m 0 c).after (1 : Fin 6) t = piece a m c (1 : Fin 6) t := rfl
theorem after2 (t : Fin (config a).N) : (dats a m 0 c).after (2 : Fin 6) t = piece a m c (2 : Fin 6) t := rfl
theorem after3 (t : Fin (config a).N) : (dats a m 0 c).after (3 : Fin 6) t = piece a m c (3 : Fin 6) t := rfl
theorem after4 (t : Fin (config a).N) : (dats a m 0 c).after (4 : Fin 6) t = piece a m c (4 : Fin 6) t := rfl
theorem after5 (t : Fin (config a).N) : (dats a m 0 c).after (5 : Fin 6) t = left a m c t := rfl

/-- An input's buffer holds its block, fetched at the point or kept from before. -/
theorem before0 (t : Fin (config a).N) (d) : (dats a m 0 c).before (0 : Fin 6) t d = piece a m c (0 : Fin 6) t :=
  ((dats a m 0 c).before_in_eq_fetched (0 : Fin 6) rfl (fun _ => rfl) (fun _ _ _ => rfl) (fun t => by rw [after0]; unfold Dat.blockOf piece; rfl) t d).trans
    (by unfold Dat.fetched Dat.blockOf piece; rfl)
theorem before1 (t : Fin (config a).N) (d) : (dats a m 0 c).before (1 : Fin 6) t d = piece a m c (1 : Fin 6) t :=
  ((dats a m 0 c).before_in_eq_fetched (1 : Fin 6) rfl (fun _ => rfl) (fun _ _ _ => rfl) (fun t => by rw [after1]; unfold Dat.blockOf piece; rfl) t d).trans
    (by unfold Dat.fetched Dat.blockOf piece; rfl)
theorem before2 (t : Fin (config a).N) (d) : (dats a m 0 c).before (2 : Fin 6) t d = piece a m c (2 : Fin 6) t :=
  ((dats a m 0 c).before_in_eq_fetched (2 : Fin 6) rfl (fun _ => rfl) (fun _ _ _ => rfl) (fun t => by rw [after2]; unfold Dat.blockOf piece; rfl) t d).trans
    (by unfold Dat.fetched Dat.blockOf piece; rfl)
theorem before3 (t : Fin (config a).N) (d) : (dats a m 0 c).before (3 : Fin 6) t d = piece a m c (3 : Fin 6) t :=
  ((dats a m 0 c).before_in_eq_fetched (3 : Fin 6) rfl (fun _ => rfl) (fun _ _ _ => rfl) (fun t => by rw [after3]; unfold Dat.blockOf piece; rfl) t d).trans
    (by unfold Dat.fetched Dat.blockOf piece; rfl)
theorem before4 (t : Fin (config a).N) (d) : (dats a m 0 c).before (4 : Fin 6) t d = piece a m c (4 : Fin 6) t :=
  ((dats a m 0 c).before_in_eq_fetched (4 : Fin 6) rfl (fun _ => rfl) (fun _ _ _ => rfl) (fun t => by rw [after4]; unfold Dat.blockOf piece; rfl) t d).trans
    (by unfold Dat.fetched Dat.blockOf piece; rfl)

/-- Every point stores its block. -/
theorem stores5 (t : Fin (config a).N) : (config a).idle (5 : Fin 6) (at_ a t) = false := by
  have h := not_less (at_ a t) (a.1.atD 2 ![0])
  show (!(k0_cond2 (at_ a t) (a.1.atD 2 ![0]) == 1#1) && !(k0_cond3 (at_ a t) (a.1.atD 2 ![0]) == 1#1)) = false
  by_cases h2 : k0_cond2 (at_ a t) (a.1.atD 2 ![0]) = 1#1
  · rw [h2]; rfl
  · rw [h.mpr h2]
    exact Bool.and_false _

/-- Every point's block is written back. -/
theorem flush5 (t : Fin (config a).N) : ((config a).win (5 : Fin 6)).flush t = true := by
  unfold Pipeline.Window.flush
  rw [Bool.and_eq_true]
  refine ⟨rfl, ?_⟩
  rw [Bool.or_eq_true]
  by_cases hN : t.val + 1 = (config a).N
  · exact Or.inl (decide_eq_true hN)
  · refine Or.inr (decide_eq_true ⟨by have := t.isLt; show t.val + 1 < (config a).N; omega, fun h => ?_⟩)
    have h' : cc0_transform_5 (at_ a ⟨t.val + 1, by have := t.isLt; omega⟩) 0 = cc0_transform_5 (at_ a t) 0 := congrFun h 0
    rw [transform5_eq, transform5_eq] at h'
    have h'' : (at_ a ⟨t.val + 1, by have := t.isLt; omega⟩ 0).val = (at_ a t 0).val := h'
    rw [coords_val, coords_val] at h''
    exact absurd h'' (Nat.succ_ne_self _)

/-- The body at a point, on the buffers that the pipeline hands it. -/
abbrev body (t : Fin (config a).N) : Prog (TpuEff nD τ sig (Elt F) Λ₀ .tc) PUnit :=
  cc0_moe_experts (at_ a t) tab0 (Memref.isWhole_whole _) tab1 (Memref.isWhole_whole _) tab2 (Memref.isWhole_whole _) (stg0 a t) (whole0 a t) (stg1 a t) (whole1 a t)
    (stg2 a t) (whole2 a t) (stg3 a t) (whole3 a t) (stg4 a t) (whole4 a t) (stg5 a t) (whole5 a t) scr0 (Memref.isWhole_whole _) scr1 (Memref.isWhole_whole _)

set_option maxHeartbeats 4000000 in
theorem sound (t : Fin (config a).N) :
    iprop((dats a m 0 c).Φ t.castSucc ∗ (dats a m 0 c).owesAt () t.castSucc
        ∗ (∃ d, owns (c : Thread nD τ) (stg0 a t) fullShare ((dats a m 0 c).before (0 : Fin 6) t d))
        ∗ (∃ d, owns (c : Thread nD τ) (stg1 a t) fullShare ((dats a m 0 c).before (1 : Fin 6) t d))
        ∗ (∃ d, owns (c : Thread nD τ) (stg2 a t) fullShare ((dats a m 0 c).before (2 : Fin 6) t d))
        ∗ (∃ d, owns (c : Thread nD τ) (stg3 a t) fullShare ((dats a m 0 c).before (3 : Fin 6) t d))
        ∗ (∃ d, owns (c : Thread nD τ) (stg4 a t) fullShare ((dats a m 0 c).before (4 : Fin 6) t d))
        ∗ (∃ d, owns (c : Thread nD τ) (stg5 a t) fullShare ((dats a m 0 c).before (5 : Fin 6) t d)))
      ⊢ wp frame (wpE (defs₀ (F := F)) Variants.none c none) Set.univ (body a t) fun _ =>
          iprop((dats a m 0 c).Φ t.succ ∗ (dats a m 0 c).owesAt () t.succ
            ∗ bigSep Finset.univ fun w : Fin (config a).W =>
                match (config a).idle w ((config a).grid.coords t) with
                | true =>
                  match ((config a).win w).flush t with
                  | false => iprop(∃ d, owns (c : Thread nD τ) (((config a).win w).stage ((config a).slots t w)) fullShare ((dats a m 0 c).before w t d))
                  | true => owns (c : Thread nD τ) (((config a).win w).stage ((config a).slots t w)) fullShare ((dats a m 0 c).after w t)
                | false => owns (c : Thread nD τ) (((config a).win w).stage ((config a).slots t w)) fullShare ((dats a m 0 c).after w t)) := by
  rw [bigSep_W0]
  rewrite [stores5 a t]
  simp only [before0, before1, before2, before3, before4, after0, after1, after2, after3, after4, after5, flush5]
  rewrite [show (dats a m 0 c).Φ t.succ = Held a m c (t.val + 1) from rfl, show (dats a m 0 c).Φ t.castSucc = Held a m c t.val from rfl,
    show (dats a m 0 c).owesAt () t.succ = (dats a m 0 c).owesAt () t.castSucc from rfl]
  unfold Held
  iintro ⟨⟨⟨%a0, %ha0, HS0⟩, ⟨%a1, %ha1, HS1⟩, HT0, HT1, HT2⟩, Ho, ⟨%d0, H0⟩, ⟨%d1, H1⟩, ⟨%d2, H2⟩, ⟨%d3, H3⟩, ⟨%d4, H4⟩, ⟨%d5, H5⟩⟩
  iapply (run c (at_ a t) (stg0 a t) (whole0 a t) (stg1 a t) (whole1 a t) (stg2 a t) (whole2 a t) (stg3 a t) (whole3 a t) (stg4 a t) (whole4 a t) (stg5 a t) (whole5 a t)
    (a.1 0) (a.1 1) (a.1 2) (piece a m c (0 : Fin 6) t) (piece a m c (1 : Fin 6) t) (piece a m c (2 : Fin 6) t) (piece a m c (3 : Fin 6) t) (piece a m c (4 : Fin 6) t)
    a0 a1 (fun hf => by
      obtain ⟨s, hs, he⟩ := predecessor a t hf
      exact (ha0 s hs).trans (congrArg k0_pay1 (piece1_congr a m c s t he)))
    (fun hf => by
      obtain ⟨s, hs, he⟩ := predecessor a t hf
      exact (ha1 s hs).trans (congrArg k0_pay2 (piece3_congr a m c s t he))) _)
  isplitl [H0 H1 H2 H3 H4 HT0 HT1 HT2]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    iexact HT2
  isplitl [H5]; · iexists _; iexact H5
  isplitl [HS0]; · iexact HS0
  isplitl [HS1]; · iexact HS1
  iintro ⟨⟨H0, H1, H2, H3, H4, HT0, HT1, HT2⟩, H5, ⟨%b0, %hb0, HS0⟩, ⟨%b1, %hb1, HS1⟩⟩
  isplitl [HS0 HS1 HT0 HT1 HT2]
  · isplitl [HS0]
    · iexists _; isplitr; swap
      · iexact HS0
      · ipureintro; intro s hs
        obtain rfl : s = t := Fin.ext (Nat.succ.inj hs)
        exact hb0
    isplitl [HS1]
    · iexists _; isplitr; swap
      · iexact HS1
      · ipureintro; intro s hs
        obtain rfl : s = t := Fin.ext (Nat.succ.inj hs)
        exact hb1
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

theorem obligation : BodyObligation (dats a m 0 c) (defs₀ (F := F)) Variants.none () Set.univ := fun t => by
  rw [bigSep_W0]
  exact sound a m c t

end Cert.Experts.Point

end
-- ==== Proof.ExpertLaunch.lean ====
/- The expert kernel from any memory whose tables steer every window inside its array. -/
module

public import proofs.«01_k».proof.Proof.ExpertData

@[expose] public section

set_option maxRecDepth 16384

noncomputable section

namespace Cert.Experts.Point

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The proof's resources for the staging cells. -/
abbrev cells (F : FTy → Type) : Emb (UR sig nD τ) (Res F) := emb₁

variable (a : (pcfg0 (F := F)).Adm) (m : (ℓ : Loc nD τ sig) → Buf (Elt F) ℓ) (ρ : Dev nD → PrngReg)

abbrev pinned : Fin 1 → Pipeline.Cfg sig Λ₀ := Pipeline.pin (pcfgs (F := F)) fun _ => a

/-- The launch's element of the resources. -/
def launchElt : UR sig nD τ :=
  initOf (Pipeline.cells (pinned a) ((launch0 (F := F)).cellOf_inj fun _ => a))
    (Pipeline.launchToks (pinned a) ((launch0 (F := F)).cellOf_inj fun _ => a))

theorem share_full (c : Dev nD) (w : Fin (config a).W) : (dats a m 0 c).share w = fullShare := by unfold Dat.share; split <;> rfl

/-- The tables that the launch hands over, one by one. -/
theorem tables_eq (c : Dev nD) (q : Fin 3 → PosShare TreeShare) (v : pre0.Contents (Elt F)) :
    (Pipeline.prefHeld (Ix := Unit) (Name := ℕ) (U := UR sig nD τ) (Lvl := ℕ) pre0 c q v : sProp (Res F))
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Before the first point nothing is asked of the scratch buffers. -/
theorem enter (c : Dev nD) :
    iprop(BI.emp ∗ Pipeline.prefHeld pre0 c (fun _ => fullShare.right) a.1 ∗ Pipeline.scopedRest spec0 c) ⊢ (dats a m 0 c).Φ 0 := by
  rw [tables_eq, scopedRest0_eq, show (dats a m 0 c).Φ 0 = Held a m c 0 from rfl]
  unfold Held
  iintro ⟨-, ⟨HT0, HT1, HT2⟩, ⟨%a0, HS0⟩, ⟨%a1, HS1⟩⟩
  isplitl [HS0]
  · iexists a0; isplitr; swap
    · iexact HS0
    · ipureintro; intro s h; exact absurd h (Nat.succ_ne_zero _)
  isplitl [HS1]
  · iexists a1; isplitr; swap
    · iexact HS1
    · ipureintro; intro s h; exact absurd h (Nat.succ_ne_zero _)
  isplitl [HT0]; · iexact HT0
  isplitl [HT1]; · iexact HT1
  iexact HT2

/-- After the last point the scratch buffers are given back. -/
theorem leave (c : Dev nD) : (dats a m 0 c).Φ (Fin.last (config a).N) ⊢ iprop(BI.emp ∗ Pipeline.scopedRest spec0 c) := by
  rw [scopedRest0_eq, show (dats a m 0 c).Φ (Fin.last (config a).N) = Held a m c (config a).N from rfl]
  unfold Held
  iintro ⟨⟨%a0, -, HS0⟩, ⟨%a1, -, HS1⟩, -, -, -⟩
  isplitr; · iempintro
  isplitl [HS0]
  · iexists a0; iexact HS0
  iexists a1; iexact HS1

/-- What a run ends with: every array as the pipeline computes it, every table as it was. -/
def Ends : PUnit × MemSt nD τ sig (Elt F) → Prop := fun r =>
  ∀ c : Dev nD, (∀ w : Fin (config a).W, r.2.mem (((config a).win w).arr.view.loc (c : Thread nD τ)) = (dats a m 0 c).arrAt w (config a).N)
    ∧ ∀ j, r.2.mem ((c : Thread nD τ).loc (pre0.ref j)) = a.1 j

set_option backward.isDefEq.respectTransparency.types false in
set_option maxHeartbeats 4000000 in
/-- From a memory that holds these tables, every run ends so, every semaphore at zero. -/
theorem run_main (hp : ∀ (c : Dev nD) (j : Fin 3), m ((c : Thread nD τ).loc (pre0.ref j)) = a.1 j) :
    θ_run (defs (F := F)) (onTc (τ := τ) (main (F := F))) ⟨m, fun _ => 0, ρ⟩ (fun r => Ends a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre (cells F) defs₀ Variants.none m ρ main
    (hbody := fun c => (obligation a m c).loose) (hne := (launch0 (F := F)).block_pos)
    (harr := (launch0 (F := F)).arr_whole) (hstage := (launch0 (F := F)).stage_whole) (howed := fun _ _ => rfl)
    (u₀ := launchElt a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned a) (dats a m) 0 (launch0 (F := F)).win.arr_inj c (launch0 (F := F)).arr_whole
      (share_full a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m)
    (hout := leave a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What a run ends with, array by array. -/
theorem run_arrays (hp : ∀ (c : Dev nD) (j : Fin 3), m ((c : Thread nD τ).loc (pre0.ref j)) = a.1 j) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_v0) = (dats a m 0 c).arrAt (5 : Fin 6) (config a).N)
      ∧ r.2.sem = fun _ => 0) :=
  (θ_run defs _ _).mono (fun _ h => ⟨fun c => ⟨((h.1 c).2 0).trans (hp c 0).symm, ((h.1 c).2 1).trans (hp c 1).symm, ((h.1 c).2 2).trans (hp c 2).symm,
    ((h.1 c).1 (0 : Fin 6)).trans ((dats a m 0 c).arrAt_in (0 : Fin 6) rfl _), ((h.1 c).1 (1 : Fin 6)).trans ((dats a m 0 c).arrAt_in (1 : Fin 6) rfl _),
    ((h.1 c).1 (2 : Fin 6)).trans ((dats a m 0 c).arrAt_in (2 : Fin 6) rfl _), ((h.1 c).1 (3 : Fin 6)).trans ((dats a m 0 c).arrAt_in (3 : Fin 6) rfl _),
    ((h.1 c).1 (4 : Fin 6)).trans ((dats a m 0 c).arrAt_in (4 : Fin 6) rfl _), (h.1 c).1 (5 : Fin 6)⟩, h.2⟩) (run_main a m ρ hp)

end Cert.Experts.Point

end
-- ==== Proof.ExpertRange.lean ====
/- Tables in range name blocks and experts that exist. -/
module

public import proofs.«01_k».proof.Proof.ExpertLaunch
public import proofs.«01_k».proof.Proof.Gen.Pre_blocks_in_range

@[expose] public section

set_option maxRecDepth 16384

noncomputable section

namespace Cert.Experts.Point

open Cert.Experts Cert.Experts.Gen
open Idealize.ShloMosaic Idealize.ShloMosaic.TcCoe

variable {F : FTy → Type} [FloatOps F]

/-- A word that compares, as a signed number, at least zero and below a bound is a number below the bound. -/
theorem in_range (v n : BitVec 32) (hn : n.toNat < 2 ^ 31) (h : BitVec.ofBool ((0#32).sle v) &&& BitVec.ofBool (v.slt n) = 1#1) : v.toNat < n.toNat := by
  have h2 : (0#32).sle v = true ∧ v.slt n = true := by
    revert h
    cases (0#32).sle v <;> cases v.slt n <;> simp
  have h3 := BitVec.sle_iff_toInt_le.mp h2.1
  have h4 := BitVec.slt_iff_toInt_lt.mp h2.2
  have hv := v.isLt
  rw [BitVec.toInt_eq_toNat_cond, BitVec.toInt_eq_toNat_cond] at h3 h4
  simp only [BitVec.toNat_ofNat] at h3
  split at h3 <;> split at h4 <;> omega

section

variable {x0 x1 : IVec Cert.Pre_blocks_in_range.S288 32} {x2 : IVec Cert.Pre_blocks_in_range.S1 32} {x3 : FVec F Cert.Pre_blocks_in_range.S1179648x128 .f32}
  {x4 : FVec F Cert.Pre_blocks_in_range.S32x1024x2048 .f32} {x5 : FVec F Cert.Pre_blocks_in_range.S32x1x2048 .f32}
  {x6 : FVec F Cert.Pre_blocks_in_range.S32x1024x1024 .f32} {x7 : FVec F Cert.Pre_blocks_in_range.S32x1x1024 .f32}

theorem block_lt (h : (@Cert.Pre_blocks_in_range.fn Cert.Pre_blocks_in_range.Gen.facts F _ x0 x1 x2 x3 x4 x5 x6 x7).1 = fun _ => 1#1)
    (i : Cert.Pre_blocks_in_range.S288.Idx) : (x0 i).toNat < 288 :=
  in_range (x0 i) 288#32 (by decide) (congrFun h i)

theorem expert_in (h : (@Cert.Pre_blocks_in_range.fn Cert.Pre_blocks_in_range.Gen.facts F _ x0 x1 x2 x3 x4 x5 x6 x7).2 = fun _ => 1#1)
    (i : Cert.Pre_blocks_in_range.S288.Idx) : (x1 i).toNat < 32 :=
  in_range (x1 i) 32#32 (by decide) (congrFun h i)

end

variable (m : (ℓ : Loc nD τ sig) → Buf (Elt F) ℓ)

/-- The tables of a memory. -/
def tables : pre0.Contents (Elt F) := fun j => m (((0 : Dev nD) : Thread nD τ).loc (pre0.ref j))

/-- A memory's tables, where they are in range. -/
def within (h0 : ∀ i : S288.Idx, (show BitVec 32 from m (((0 : Dev nD) : Thread nD τ).loc main_arg0) i).toNat < 288)
    (h1 : ∀ i : S288.Idx, (show BitVec 32 from m (((0 : Dev nD) : Thread nD τ).loc main_arg1) i).toNat < 32) : (pcfg0 (F := F)).Adm :=
  ⟨tables m, ok_of_range (tables m) (fun i => h0 (ix1 ⟨(i 0).val, coord_lt i⟩)) (fun i => h1 (ix1 ⟨(i 0).val, coord_lt i⟩))⟩

theorem within_eq (h0 : ∀ i : S288.Idx, (show BitVec 32 from m (((0 : Dev nD) : Thread nD τ).loc main_arg0) i).toNat < 288)
    (h1 : ∀ i : S288.Idx, (show BitVec 32 from m (((0 : Dev nD) : Thread nD τ).loc main_arg1) i).toNat < 32) (c : Dev nD) (j : Fin 3) :
    m ((c : Thread nD τ).loc (pre0.ref j)) = (within m h0 h1).1 j := by
  obtain rfl : c = 0 := Subsingleton.elim _ _
  rfl

end Cert.Experts.Point

end
-- ==== Proof.ExpertSame.lean ====
/- The expert kernel's program and its idealization are one text. -/
module

public import proofs.«01_k».proof.Proof.Gen.Experts.Skeleton
public import proofs.«01_k».proof.Proof.Gen.ExpertsIdeal.Skeleton

@[expose] public section

set_option maxRecDepth 16384
set_option maxHeartbeats 400000

namespace Cert.Experts.Same

open Idealize.ShloMosaic

variable {F : FTy → Type} [FloatOps F]

theorem body : @Cert.ExpertsIdeal.cc0_moe_experts F _ Cert.ExpertsIdeal.Gen.facts = @Cert.Experts.cc0_moe_experts F _ Cert.Experts.Gen.facts := rfl

theorem defs₀ : @Cert.ExpertsIdeal.defs₀ F _ Cert.ExpertsIdeal.Gen.facts = @Cert.Experts.defs₀ F _ Cert.Experts.Gen.facts := by
  unfold Cert.ExpertsIdeal.defs₀ Cert.Experts.defs₀
  rw [body]
  refine congrArg (Defs.onTc (nD := Cert.Experts.nD) (τ := Cert.Experts.τ) (sig := Cert.Experts.sig) (Val := Elt F) (Λ := Cert.Experts.Λ₀)) ?_
  funext l x
  match l, x with
  | ⟨0, _⟩, (t, s) => rfl

theorem defs : @Cert.ExpertsIdeal.defs F _ Cert.ExpertsIdeal.Gen.facts = @Cert.Experts.defs F _ Cert.Experts.Gen.facts := by
  unfold Cert.ExpertsIdeal.defs Cert.Experts.defs
  rw [defs₀]
  rfl

theorem main : @Cert.ExpertsIdeal.main F _ Cert.ExpertsIdeal.Gen.facts = @Cert.Experts.main F _ Cert.Experts.Gen.facts := by
  unfold Cert.ExpertsIdeal.main Cert.Experts.main
  rfl

end Cert.Experts.Same

end
-- ==== Proof.ExpertFrames.lean ====
/- The expert kernel, its idealization and the reference run, and leave their arguments and the semaphores as they were. -/
module

public import proofs.«01_k».proof.Defs
public import proofs.«01_k».proof.Proof.ExpertRange
public import proofs.«01_k».proof.Proof.ExpertSame
public import proofs.«01_k».proof.Proof.Gen.ExpertsReferenceIdeal.Run

@[expose] public section

set_option maxRecDepth 16384

noncomputable section

namespace Cert.ExpertsClaims

open Idealize.ShloMosaic Idealize.ShloMosaic.TcCoe Idealize.SL.Sem
open Cert.Experts.Point (within within_eq run_arrays block_lt expert_in)

/-- The kernel at `Bits`. -/
theorem frame : @Cert.quiescent_Experts Cert.Experts.Gen.facts Cert.Pre_blocks_in_range.Gen.facts := fun m ρ hpre =>
  (θ_run Cert.Experts.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1⟩, h.2⟩)
    (run_arrays (F := Bits) (within m (block_lt (hpre 0).1) (expert_in (hpre 0).2)) m ρ (within_eq m _ _))

section

variable (m : (ℓ : Loc Cert.Experts.nD Cert.Experts.τ Cert.Experts.sig) → Buf (Elt Ideal) ℓ) (ρ : Dev Cert.Experts.nD → PrngReg)

/-- The tables of a memory that the idealization starts from. -/
def tables (hpre : @Cert.Pre_ExpertsIdeal Cert.Pre_blocks_in_range.Gen.facts m) : (Cert.Experts.pcfg0 (F := Ideal)).Adm :=
  within (F := Ideal) m (block_lt (hpre 0).1) (expert_in (hpre 0).2)

/-- What the idealization's run ends with. -/
theorem run_ideal (hpre : @Cert.Pre_ExpertsIdeal Cert.Pre_blocks_in_range.Gen.facts m) :
    θ_run (@Cert.ExpertsIdeal.defs Ideal _ Cert.ExpertsIdeal.Gen.facts)
      (onTc (τ := Cert.Experts.τ) (@Cert.ExpertsIdeal.main Ideal _ Cert.ExpertsIdeal.Gen.facts)) ⟨m, fun _ => 0, ρ⟩ (fun r => (∀ c : Dev Cert.Experts.nD,
      r.2.mem ((c : Thread Cert.Experts.nD Cert.Experts.τ).loc Cert.Experts.main_arg0) = m ((c : Thread Cert.Experts.nD Cert.Experts.τ).loc Cert.Experts.main_arg0)
      ∧ r.2.mem ((c : Thread Cert.Experts.nD Cert.Experts.τ).loc Cert.Experts.main_arg1) = m ((c : Thread Cert.Experts.nD Cert.Experts.τ).loc Cert.Experts.main_arg1)
      ∧ r.2.mem ((c : Thread Cert.Experts.nD Cert.Experts.τ).loc Cert.Experts.main_arg2) = m ((c : Thread Cert.Experts.nD Cert.Experts.τ).loc Cert.Experts.main_arg2)
      ∧ r.2.mem ((c : Thread Cert.Experts.nD Cert.Experts.τ).loc Cert.Experts.main_arg3) = m ((c : Thread Cert.Experts.nD Cert.Experts.τ).loc Cert.Experts.main_arg3)
      ∧ r.2.mem ((c : Thread Cert.Experts.nD Cert.Experts.τ).loc Cert.Experts.main_arg4) = m ((c : Thread Cert.Experts.nD Cert.Experts.τ).loc Cert.Experts.main_arg4)
      ∧ r.2.mem ((c : Thread Cert.Experts.nD Cert.Experts.τ).loc Cert.Experts.main_arg5) = m ((c : Thread Cert.Experts.nD Cert.Experts.τ).loc Cert.Experts.main_arg5)
      ∧ r.2.mem ((c : Thread Cert.Experts.nD Cert.Experts.τ).loc Cert.Experts.main_arg6) = m ((c : Thread Cert.Experts.nD Cert.Experts.τ).loc Cert.Experts.main_arg6)
      ∧ r.2.mem ((c : Thread Cert.Experts.nD Cert.Experts.τ).loc Cert.Experts.main_arg7) = m ((c : Thread Cert.Experts.nD Cert.Experts.τ).loc Cert.Experts.main_arg7)
      ∧ r.2.mem ((c : Thread Cert.Experts.nD Cert.Experts.τ).loc Cert.Experts.main_v0)
        = (Cert.Experts.Point.dats (tables m hpre) m 0 c).arrAt (5 : Fin 6) (Cert.Experts.Point.config (tables m hpre)).N)
      ∧ r.2.sem = fun _ => 0) := by
  rw [Cert.Experts.Same.defs, Cert.Experts.Same.main]
  exact run_arrays (F := Ideal) (tables m hpre) m ρ (within_eq m _ _)

end

/-- The idealization. -/
theorem frame_ideal : @Cert.quiescent_ExpertsIdeal Cert.ExpertsIdeal.Gen.facts Cert.Pre_blocks_in_range.Gen.facts := fun m ρ hpre =>
  (θ_run Cert.ExpertsIdeal.defs _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1⟩, h.2⟩)
    (run_ideal m ρ hpre)

/-- The reference. -/
theorem reference_frame : @Cert.quiescent_ExpertsReferenceIdeal Cert.ExpertsReferenceIdeal.Gen.facts := fun m ρ _ =>
  (θ_run Cert.ExpertsReferenceIdeal.defs _ _).mono
    (fun r h => And.intro (fun c => (h c).2) (Idealize.ShloMosaic.sem_eq_zero_of_no_sems (by decide) r.2))
    (Cert.ExpertsReferenceIdeal.Value.run (F := Ideal) m ρ)

end Cert.ExpertsClaims

end
-- ==== Proof.ExpertSpec.lean ====
/- One expert's gated feed-forward network at a row, over the extended reals. -/
module

public import Idealize.ShloMosaic.Lib.Pointwise

@[expose] public section

noncomputable section

namespace Cert.Expert

open Idealize.ShloMosaic

/-- A row's product with a column, plus the bias. -/
def affine (x w : Fin 1024 → EReal) (b : EReal) : EReal := ∑ k, x k * w k + b

/-- The gate: cut from above at seven. -/
def gate (u : EReal) : EReal := min u (Ideal.ofBits .f32 0x40E00000#32)

/-- The linear part: cut at seven from both sides. -/
def linear (v : EReal) : EReal := min (Ideal.ofBits .f32 0x40E00000#32) (max (Ideal.ofBits .f32 0xC0E00000#32) v)

/-- The denominator of the sigmoid of 1.702 times the gate. -/
def denominator (u : EReal) : EReal := Ideal.ofBits .f32 0x3F800000#32 + Ideal.exp (Ideal.ofBits .f32 0x00000000#32 - Ideal.ofBits .f32 0x3FD9DB23#32 * gate u)

/-- The activation from the two halves of the hidden row. -/
def act (u v : EReal) : EReal :=
  gate u * Ideal.div (Ideal.ofBits .f32 0x3F800000#32) (denominator u) * (linear v + Ideal.ofBits .f32 0x3F800000#32)

/-- Activation `j` of a row, from the columns of the first weights and their biases. -/
def hidden (x : Fin 1024 → EReal) (w : Fin 2048 → Fin 1024 → EReal) (b : Fin 2048 → EReal) (j : Fin 1024) : EReal :=
  act (affine x (w ⟨j.val, by omega⟩) (b ⟨j.val, by omega⟩)) (affine x (w ⟨1024 + j.val, by omega⟩) (b ⟨1024 + j.val, by omega⟩))

/-- The row's result at a column of the second weights. -/
def result (x : Fin 1024 → EReal) (w : Fin 2048 → Fin 1024 → EReal) (b : Fin 2048 → EReal) (w2 : Fin 1024 → EReal) (b2 : EReal) : EReal :=
  affine (hidden x w b) w2 b2

/-- Entry `r, j` of the block at place `t`, of which there are `n`: the rows of block `s`, each kept in eight pieces, through expert `e`; zero past the count. -/
def value (n : BitVec 32) (x : Vec Ideal ⟨2, ![1179648, 128]⟩ .f32) (w : Vec Ideal ⟨3, ![32, 1024, 2048]⟩ .f32) (b : Vec Ideal ⟨3, ![32, 1, 2048]⟩ .f32)
    (w2 : Vec Ideal ⟨3, ![32, 1024, 1024]⟩ .f32) (b2 : Vec Ideal ⟨3, ![32, 1, 1024]⟩ .f32) (s : Fin 288) (e : Fin 32) (t : Fin 288) (r : Fin 512) (j : Fin 1024) : EReal :=
  if (BitVec.ofNat 32 t.val).slt n = true then
    result (fun k => x (ix2 (⟨s.val * 4096 + (8 * r.val + k.val / 128), by omega⟩ : Fin 1179648) (⟨k.val % 128, by omega⟩ : Fin 128)))
      (fun j k => w (ix3 e k j)) (fun j => b (ix3 e 0 j)) (fun k => w2 (ix3 e k j)) (b2 (ix3 e 0 j))
  else Ideal.ofBits .f32 0x00000000#32

end Cert.Expert

end
-- ==== Proof.ExpertBlock.lean ====
/- The values of a used block of the expert kernel. -/
module

public import proofs.«01_k».proof.Proof.ExpertRun
public import proofs.«01_k».proof.Proof.ExpertSpec
public import Idealize.ShloMosaic.Lib.Pointwise

@[expose] public section

set_option maxRecDepth 16384

noncomputable section

namespace Cert.Experts.Point

open Cert.Experts Cert.Experts.Gen Idealize.ShloMosaic

/-- Eight blocks of columns side by side. -/
def packed (v0 v1 v2 v3 v4 v5 v6 v7 : Vec Ideal S512x128 .f32) : FVec Ideal S512x1024 .f32 :=
  concatenate S512x1024 1 [⟨S512x128, v0⟩, ⟨S512x128, v1⟩, ⟨S512x128, v2⟩, ⟨S512x128, v3⟩, ⟨S512x128, v4⟩, ⟨S512x128, v5⟩, ⟨S512x128, v6⟩, ⟨S512x128, v7⟩] concatenates_S512x128_S512x128_S512x128_S512x128_S512x128_S512x128_S512x128_S512x128_S512x1024_d1

theorem pick (v : Fin 8 → Vec Ideal S512x128 .f32) (r : Fin 512) (k : Fin 1024) (s : Fin 8) (c : Fin 128) (h : k.val = 128 * s.val + c.val) :
    v s (ix2 r c) = v ⟨k.val / 128, by omega⟩ (ix2 r ⟨k.val % 128, by omega⟩) := by
  have hs : s = ⟨k.val / 128, by omega⟩ := Fin.ext (by show s.val = k.val / 128; omega)
  have hc : c = ⟨k.val % 128, by omega⟩ := Fin.ext (by show c.val = k.val % 128; omega)
  rw [← hs, ← hc]

theorem packed_apply (v : Fin 8 → Vec Ideal S512x128 .f32) (r : Fin 512) (k : Fin 1024) :
    packed (v 0) (v 1) (v 2) (v 3) (v 4) (v 5) (v 6) (v 7) (ix2 r k) = v ⟨k.val / 128, by omega⟩ (ix2 r ⟨k.val % 128, by omega⟩) := by
  pointwise [packed]
  have hk : k.val < 1024 := k.isLt
  split
  · exact pick v r k 0 _ (by show k.val = 128 * 0 + k.val; omega)
  split
  · exact pick v r k 1 _ (by show k.val = 128 * 1 + (k.val - 128); omega)
  split
  · exact pick v r k 2 _ (by show k.val = 128 * 2 + (k.val - 128 - 128); omega)
  split
  · exact pick v r k 3 _ (by show k.val = 128 * 3 + (k.val - 128 - 128 - 128); omega)
  split
  · exact pick v r k 4 _ (by show k.val = 128 * 4 + (k.val - 128 - 128 - 128 - 128); omega)
  split
  · exact pick v r k 5 _ (by show k.val = 128 * 5 + (k.val - 128 - 128 - 128 - 128 - 128); omega)
  split
  · exact pick v r k 6 _ (by show k.val = 128 * 6 + (k.val - 128 - 128 - 128 - 128 - 128 - 128); omega)
  exact pick v r k 7 _ (by show k.val = 128 * 7 + (k.val - 128 - 128 - 128 - 128 - 128 - 128 - 128); omega)

theorem affine_apply (v0 v1 v2 v3 v4 v5 v6 v7 : Vec Ideal S512x128 .f32) (w : Vec Ideal S1024x2048 .bf16) (b : Vec Ideal S1x1x2048 .f32) (r : Fin 512) (j : Fin 2048) :
    k0_pay4 v0 v1 v2 v3 v4 v5 v6 v7 w b (ix2 r j)
      = Expert.affine (fun k => packed v0 v1 v2 v3 v4 v5 v6 v7 (ix2 r k)) (fun k => w (ix2 k j)) (b (ix3 0 0 j)) := by
  have h : k0_pay4 v0 v1 v2 v3 v4 v5 v6 v7 w b = addf (matmul dot_S512x1024_S1024x2048_S512x2048_1_0_0_1_n_n none (truncf .bf16 (packed v0 v1 v2 v3 v4 v5 v6 v7) bitsLt_bf16_f32) w (constant S512x2048 .f32 0x00000000#32))
    (broadcastTo S512x2048 (shapeCast S1x2048 b shapeCasts_S1x1x2048_S1x2048) broadcasts_S1x2048_S512x2048) := rfl
  rw [h]
  generalize packed v0 v1 v2 v3 v4 v5 v6 v7 = x
  pointwise []
  rfl

theorem gate_apply (v0 v1 v2 v3 v4 v5 v6 v7 : Vec Ideal S512x128 .f32) (w : Vec Ideal S1024x2048 .bf16) (b : Vec Ideal S1x1x2048 .f32) (r : Fin 512) (j : Fin 1024) :
    k0_pay5 v0 v1 v2 v3 v4 v5 v6 v7 w b (ix2 r j) = Expert.gate (k0_pay4 v0 v1 v2 v3 v4 v5 v6 v7 w b (ix2 r ⟨j.val, by omega⟩)) := by
  unfold k0_pay5
  generalize k0_pay4 v0 v1 v2 v3 v4 v5 v6 v7 w b = u
  pointwise []
  rfl

theorem linear_apply (v0 v1 v2 v3 v4 v5 v6 v7 : Vec Ideal S512x128 .f32) (w : Vec Ideal S1024x2048 .bf16) (b : Vec Ideal S1x1x2048 .f32) (r : Fin 512) (j : Fin 1024) :
    k0_pay6 v0 v1 v2 v3 v4 v5 v6 v7 w b (ix2 r j) = Expert.linear (k0_pay4 v0 v1 v2 v3 v4 v5 v6 v7 w b (ix2 r ⟨1024 + j.val, by omega⟩)) := by
  unfold k0_pay6
  generalize k0_pay4 v0 v1 v2 v3 v4 v5 v6 v7 w b = u
  pointwise []
  rfl

theorem denominator_apply (v0 v1 v2 v3 v4 v5 v6 v7 : Vec Ideal S512x128 .f32) (w : Vec Ideal S1024x2048 .bf16) (b : Vec Ideal S1x1x2048 .f32) (r : Fin 512) (j : Fin 1024) :
    k0_pay7 v0 v1 v2 v3 v4 v5 v6 v7 w b (ix2 r j) = Expert.denominator (k0_pay4 v0 v1 v2 v3 v4 v5 v6 v7 w b (ix2 r ⟨j.val, by omega⟩)) := by
  have h := gate_apply v0 v1 v2 v3 v4 v5 v6 v7 w b r j
  unfold Expert.denominator
  rw [← h]
  unfold k0_pay7
  rfl

theorem out_apply (g l d : FVec Ideal S512x1024 .f32) (w : Vec Ideal S1024x1024 .bf16) (b : Vec Ideal S1x1x1024 .f32) (r : Fin 512) (j : Fin 1024) :
    k0_pay8 g l d (Scalar.ofBits .f32 0x3F800000#32) w b (ix2 r j)
      = Expert.affine (fun k => g (ix2 r k) * Ideal.div (Ideal.ofBits .f32 0x3F800000#32) (d (ix2 r k)) * (l (ix2 r k) + Ideal.ofBits .f32 0x3F800000#32))
        (fun k => w (ix2 k j)) (b (ix3 0 0 j)) := by
  pointwise [k0_pay8]
  rfl

theorem weights_apply (x : Vec Ideal S1x1024x2048 .f32) (k : Fin 1024) (j : Fin 2048) : k0_pay1 x (ix2 k j) = x (ix3 0 k j) := by
  pointwise [k0_pay1]

theorem weights2_apply (x : Vec Ideal S1x1024x1024 .f32) (k : Fin 1024) (j : Fin 1024) : k0_pay2 x (ix2 k j) = x (ix3 0 k j) := by
  pointwise [k0_pay2]

/-- Every eighth row of a block, from row `s`. -/
theorem strided_apply (x : Vec Ideal S4096x128 .f32) (s : Nat) (hs : s < 8) (h) (r : Fin 512) (k : Fin 128) :
    strided x s h (ix2 r k) = x (ix2 ⟨8 * r.val + s, by omega⟩ k) :=
  congrArg x (funext fun a => Fin.ext (by
    match a with
    | ⟨0, _⟩ => show s + 8 * r.val = 8 * r.val + s; omega
    | ⟨1, _⟩ => show 0 + 1 * k.val = k.val; omega))

/-- Row `r` of a block whose rows are kept in eight pieces each. -/
def row (x : Vec Ideal S4096x128 .f32) (r : Fin 512) (k : Fin 1024) : EReal := x (ix2 ⟨8 * r.val + k.val / 128, by omega⟩ ⟨k.val % 128, by omega⟩)

section

variable (x : Vec Ideal S4096x128 .f32) (w : Vec Ideal S1024x2048 .bf16) (b : Vec Ideal S1x1x2048 .f32) (w2 : Vec Ideal S1024x1024 .bf16) (b2 : Vec Ideal S1x1x1024 .f32)

/-- The eight strided pieces of a block. -/
def part (s : Fin 8) : Vec Ideal S512x128 .f32 := fun y => x (ix2 ⟨8 * (y 0).val + s.val, by have h : (y 0).val < 512 := (y 0).isLt; omega⟩ (y 1))

theorem strided_eq (s : Fin 8) (h) : strided x s.val h = part x s := by
  funext y
  have hy : y = ix2 (y 0) (y 1) := funext fun j => by match j with | ⟨0, _⟩ => rfl | ⟨1, _⟩ => rfl
  exact (congrArg _ hy).trans (strided_apply x s.val s.isLt h (y 0) (y 1))

theorem packed_row (r : Fin 512) (k : Fin 1024) :
    packed (part x 0) (part x 1) (part x 2) (part x 3) (part x 4) (part x 5) (part x 6) (part x 7) (ix2 r k) = row x r k :=
  packed_apply (part x) r k

theorem affine_row (r : Fin 512) (j : Fin 2048) :
    k0_pay4 (part x 0) (part x 1) (part x 2) (part x 3) (part x 4) (part x 5) (part x 6) (part x 7) w b (ix2 r j)
      = Expert.affine (row x r) (fun k => w (ix2 k j)) (b (ix3 0 0 j)) := by
  rw [affine_apply]
  exact congrArg (fun v => Expert.affine v _ _) (funext fun k => packed_row x r k)

theorem parts {α : Type} (f : Vec Ideal S512x128 .f32 → Vec Ideal S512x128 .f32 → Vec Ideal S512x128 .f32 → Vec Ideal S512x128 .f32 → Vec Ideal S512x128 .f32 → Vec Ideal S512x128 .f32 → Vec Ideal S512x128 .f32 → Vec Ideal S512x128 .f32 → α) :
    f (strided x 0 inb_S4096x128_S512x128_0_0_s_8_1) (strided x 1 inb_S4096x128_S512x128_1_0_s_8_1) (strided x 2 inb_S4096x128_S512x128_2_0_s_8_1)
      (strided x 3 inb_S4096x128_S512x128_3_0_s_8_1) (strided x 4 inb_S4096x128_S512x128_4_0_s_8_1) (strided x 5 inb_S4096x128_S512x128_5_0_s_8_1)
      (strided x 6 inb_S4096x128_S512x128_6_0_s_8_1) (strided x 7 inb_S4096x128_S512x128_7_0_s_8_1)
      = f (part x 0) (part x 1) (part x 2) (part x 3) (part x 4) (part x 5) (part x 6) (part x 7) := by
  rw [← strided_eq x 0 inb_S4096x128_S512x128_0_0_s_8_1, ← strided_eq x 1 inb_S4096x128_S512x128_1_0_s_8_1, ← strided_eq x 2 inb_S4096x128_S512x128_2_0_s_8_1,
    ← strided_eq x 3 inb_S4096x128_S512x128_3_0_s_8_1, ← strided_eq x 4 inb_S4096x128_S512x128_4_0_s_8_1, ← strided_eq x 5 inb_S4096x128_S512x128_5_0_s_8_1,
    ← strided_eq x 6 inb_S4096x128_S512x128_6_0_s_8_1, ← strided_eq x 7 inb_S4096x128_S512x128_7_0_s_8_1]
  rfl

theorem gates_row (r : Fin 512) (j : Fin 1024) : gates x w b (ix2 r j)
    = Expert.gate (Expert.affine (row x r) (fun k => w (ix2 k ⟨j.val, by omega⟩)) (b (ix3 0 0 ⟨j.val, by omega⟩))) :=
  (parts x (fun a0 a1 a2 a3 a4 a5 a6 a7 => k0_pay5 a0 a1 a2 a3 a4 a5 a6 a7 w b (ix2 r j))).trans
    ((gate_apply _ _ _ _ _ _ _ _ w b r j).trans (congrArg Expert.gate (affine_row x w b r _)))

theorem linears_row (r : Fin 512) (j : Fin 1024) : linears x w b (ix2 r j)
    = Expert.linear (Expert.affine (row x r) (fun k => w (ix2 k ⟨1024 + j.val, by omega⟩)) (b (ix3 0 0 ⟨1024 + j.val, by omega⟩))) :=
  (parts x (fun a0 a1 a2 a3 a4 a5 a6 a7 => k0_pay6 a0 a1 a2 a3 a4 a5 a6 a7 w b (ix2 r j))).trans
    ((linear_apply _ _ _ _ _ _ _ _ w b r j).trans (congrArg Expert.linear (affine_row x w b r _)))

theorem denominators_row (r : Fin 512) (j : Fin 1024) : denominators x w b (ix2 r j)
    = Expert.denominator (Expert.affine (row x r) (fun k => w (ix2 k ⟨j.val, by omega⟩)) (b (ix3 0 0 ⟨j.val, by omega⟩))) :=
  (parts x (fun a0 a1 a2 a3 a4 a5 a6 a7 => k0_pay7 a0 a1 a2 a3 a4 a5 a6 a7 w b (ix2 r j))).trans
    ((denominator_apply _ _ _ _ _ _ _ _ w b r j).trans (congrArg Expert.denominator (affine_row x w b r _)))

theorem out_row (r : Fin 512) (j : Fin 1024) :
    k0_pay8 (gates x w b) (linears x w b) (denominators x w b) (Scalar.ofBits .f32 0x3F800000#32) w2 b2 (ix2 r j)
      = Expert.result (row x r) (fun j k => w (ix2 k j)) (fun j => b (ix3 0 0 j)) (fun k => w2 (ix2 k j)) (b2 (ix3 0 0 j)) := by
  rw [out_apply]
  refine congrArg (fun v => Expert.affine v _ _) (funext fun k => ?_)
  rw [gates_row, linears_row, denominators_row]
  rfl

end

section

variable (g l d : FVec Ideal S512x1024 .f32) (w : Vec Ideal S1024x1024 .bf16) (b : Vec Ideal S1x1x1024 .f32)

/-- Where a column slice reads its source. -/
theorem slice_apply (u : FVec Ideal S512x1024 .f32) (s : Fin 8) (h) (r : Fin 512) (q : Fin 128) :
    extractStridedSlice S512x128 ![0, 128 * s.val] u h (ix2 r q) = u (ix2 r ⟨128 * s.val + q.val, by omega⟩) :=
  extractStridedSlice_apply ![0, 128 * s.val] u h (ix2 r q) (ix2 r ⟨128 * s.val + q.val, by omega⟩) (fun a => by
    match a with
    | ⟨0, _⟩ => show r.val = 0 + r.val; omega
    | ⟨1, _⟩ => rfl)

/-- One store of those to every eighth row, read at an index. -/
theorem canon_step (s : Nat) (hs : s < 8) (h) (p : Vec Ideal S512x128 .f32) (L : List (View.Piece (Elt Ideal) S4096x128 .f32)) (y : S4096x128.Idx) {v : EReal}
    (h1 : (y 0).val % 8 = s → p (place y) = v) (h2 : ¬(y 0).val % 8 = s → View.canon L y = v) : View.canon (⟨eighth s h, p⟩ :: L) y = v := by
  rw [canon_eighth s hs]
  split
  · exact h1 (by assumption)
  · exact h2 (by assumption)

/-- The stores of a used block, read at an index: the row's eighth decides the slice. -/
theorem columns_apply (y : S4096x128.Idx) : View.canon (columns g l d w b) y
    = k0_pay8 g l d (Scalar.ofBits .f32 0x3F800000#32) w b
      (ix2 ⟨(y 0).val / 8, by have h : (y 0).val < 4096 := (y 0).isLt; omega⟩ ⟨128 * ((y 0).val % 8) + (y 1).val, by have h : (y 1).val < 128 := (y 1).isLt; omega⟩) := by
  have hy : (y 0).val < 4096 := (y 0).isLt
  have hq : (y 1).val < 128 := (y 1).isLt
  have key : ∀ (s : Fin 8) (h) (p : Vec Ideal S512x128 .f32), (y 0).val % 8 = s.val →
      p = extractStridedSlice S512x128 ![0, 128 * s.val] (k0_pay8 g l d (Scalar.ofBits .f32 0x3F800000#32) w b) h →
      p (place y) = k0_pay8 g l d (Scalar.ofBits .f32 0x3F800000#32) w b
        (ix2 ⟨(y 0).val / 8, by omega⟩ ⟨128 * ((y 0).val % 8) + (y 1).val, by omega⟩) := by
    intro s h p e hp
    rw [hp]
    refine (slice_apply _ s h _ (y 1)).trans ?_
    simp only [e]
  refine canon_step 7 (by decide) inb_S4096x128_S512x128_7_0_s_8_1 _ _ y (fun e => key 7 slices_S512x1024_o0_896_S512x128 _ e rfl) fun n7 => ?_
  refine canon_step 6 (by decide) inb_S4096x128_S512x128_6_0_s_8_1 _ _ y (fun e => key 6 slices_S512x1024_o0_768_S512x128 _ e rfl) fun n6 => ?_
  refine canon_step 5 (by decide) inb_S4096x128_S512x128_5_0_s_8_1 _ _ y (fun e => key 5 slices_S512x1024_o0_640_S512x128 _ e rfl) fun n5 => ?_
  refine canon_step 4 (by decide) inb_S4096x128_S512x128_4_0_s_8_1 _ _ y (fun e => key 4 slices_S512x1024_o0_512_S512x128 _ e rfl) fun n4 => ?_
  refine canon_step 3 (by decide) inb_S4096x128_S512x128_3_0_s_8_1 _ _ y (fun e => key 3 slices_S512x1024_o0_384_S512x128 _ e rfl) fun n3 => ?_
  refine canon_step 2 (by decide) inb_S4096x128_S512x128_2_0_s_8_1 _ _ y (fun e => key 2 slices_S512x1024_o0_256_S512x128 _ e rfl) fun n2 => ?_
  refine canon_step 1 (by decide) inb_S4096x128_S512x128_1_0_s_8_1 _ _ y (fun e => key 1 slices_S512x1024_o0_128_S512x128 _ e rfl) fun n1 => ?_
  refine canon_step 0 (by decide) inb_S4096x128_S512x128_0_0_s_8_1 _ _ y (fun e => key 0 slices_S512x1024_o0_0_S512x128 _ e rfl) fun n0 => ?_
  omega

end

/-- What a point leaves, entry by entry. -/
theorem block_apply (i : grid0.Coords) (n : BitVec 32) (x : Vec Ideal S4096x128 .f32) (w : Vec Ideal S1024x2048 .bf16) (b : Vec Ideal S1x1x2048 .f32)
    (w2 : Vec Ideal S1024x1024 .bf16) (b2 : Vec Ideal S1x1x1024 .f32) (r : Fin 512) (s : Fin 8) (q : Fin 128) :
    block i n x w b w2 b2 (ix2 ⟨8 * r.val + s.val, by omega⟩ q)
      = if k0_cond2 i n = 1#1 then Expert.result (row x r) (fun j k => w (ix2 k j)) (fun j => b (ix3 0 0 j))
          (fun k => w2 (ix2 k ⟨128 * s.val + q.val, by omega⟩)) (b2 (ix3 0 0 ⟨128 * s.val + q.val, by omega⟩))
        else Ideal.ofBits .f32 0x00000000#32 := by
  unfold block
  split
  · rw [columns_apply, ← out_row]
    refine congrArg _ (funext fun a => Fin.ext ?_)
    match a with
    | ⟨0, _⟩ => show (8 * r.val + s.val) / 8 = r.val; omega
    | ⟨1, _⟩ => show 128 * ((8 * r.val + s.val) % 8) + q.val = 128 * s.val + q.val; omega
  · rfl

end Cert.Experts.Point

end
-- ==== Proof.ExpertArray.lean ====
/- The array that the expert kernel leaves, entry by entry. -/
module

public import proofs.«01_k».proof.Proof.ExpertRange
public import proofs.«01_k».proof.Proof.ExpertBlock

@[expose] public section

set_option maxRecDepth 16384

noncomputable section

namespace Cert.Experts.Point

open Cert.Experts Cert.Experts.Gen
open Idealize.ShloMosaic Idealize.ShloMosaic.TcCoe
open Idealize.ShloMosaic.Pipeline (Dat)

theorem below (i : grid0.Coords) (n : BitVec 32) : k0_cond2 i n = 1#1 ↔ (BitVec.ofNat 32 (i 0).val).slt n = true := by
  unfold k0_cond2
  refine (widened _).trans ?_
  show BitVec.ofBool ((BitVec.ofNat 32 (i 0).val).slt n) = 1#1 ↔ _
  cases (BitVec.ofNat 32 (i 0).val).slt n <;> decide

variable (a : (pcfg0 (F := Ideal)).Adm) (m : (ℓ : Loc nD τ sig) → Buf (Elt Ideal) ℓ) (c : Dev nD)

/-- Entry `r, j` of the block at place `t`. -/
def entry (s : Fin 288) (e : Fin 32) (t : Fin 288) (r : Fin 512) (j : Fin 1024) : EReal :=
  Expert.value (used a (ix1 0)) (m ((c : Thread nD τ).loc main_arg3)) (m ((c : Thread nD τ).loc main_arg4)) (m ((c : Thread nD τ).loc main_arg5))
    (m ((c : Thread nD τ).loc main_arg6)) (m ((c : Thread nD τ).loc main_arg7)) s e t r j

theorem left_apply (t : Fin (config a).N) (r : Fin 512) (s : Fin 8) (q : Fin 128) :
    left a m c t (ix2 ⟨8 * r.val + s.val, by omega⟩ q)
      = entry a m c ⟨source a.1 (at_ a t), source_lt a _⟩ ⟨expert a.1 (at_ a t), expert_lt a _⟩ (at_ a t 0) r ⟨128 * s.val + q.val, by omega⟩ := by
  unfold left
  refine (block_apply _ _ _ _ _ _ _ r s q).trans ?_
  rw [count_eq]
  unfold entry Expert.value
  refine if_congr (below (at_ a t) _) ?_ rfl
  have hx : row (piece a m c 0 t) r = fun k => m ((c : Thread nD τ).loc main_arg3)
      (ix2 (⟨source a.1 (at_ a t) * 4096 + (8 * r.val + k.val / 128), by have := source_lt a (at_ a t); omega⟩ : Fin 1179648) (⟨k.val % 128, by omega⟩ : Fin 128)) :=
    funext fun k => piece0_eq a m c t _
  have hw : (fun (j : Fin 2048) (k : Fin 1024) => k0_pay1 (F := Ideal) (piece a m c 1 t) (ix2 k j)) = fun j k => m ((c : Thread nD τ).loc main_arg4) (ix3 (⟨expert a.1 (at_ a t), expert_lt a _⟩ : Fin 32) k j) :=
    funext fun j => funext fun k => (weights_apply _ k j).trans (piece1_eq a m c t _)
  have hb : (fun (j : Fin 2048) => piece a m c 2 t (ix3 (0 : Fin 1) (0 : Fin 1) j)) = fun j => m ((c : Thread nD τ).loc main_arg5) (ix3 (⟨expert a.1 (at_ a t), expert_lt a _⟩ : Fin 32) (0 : Fin 1) j) :=
    funext fun j => piece2_eq a m c t _
  have hw2 : (fun (k : Fin 1024) => k0_pay2 (F := Ideal) (piece a m c 3 t) (ix2 k (⟨128 * s.val + q.val, by omega⟩ : Fin 1024)))
      = fun k => m ((c : Thread nD τ).loc main_arg6) (ix3 (⟨expert a.1 (at_ a t), expert_lt a _⟩ : Fin 32) k (⟨128 * s.val + q.val, by omega⟩ : Fin 1024)) :=
    funext fun k => (weights2_apply _ k _).trans (piece3_eq a m c t _)
  have hb2 : piece a m c 4 t (ix3 (0 : Fin 1) (0 : Fin 1) (⟨128 * s.val + q.val, by omega⟩ : Fin 1024))
      = m ((c : Thread nD τ).loc main_arg7) (ix3 (⟨expert a.1 (at_ a t), expert_lt a _⟩ : Fin 32) (0 : Fin 1) (⟨128 * s.val + q.val, by omega⟩ : Fin 1024)) :=
    piece4_eq a m c t _
  exact congr (congr (congr (congr (congrArg Expert.result hx) hw) hb) hw2) hb2

/-- The block and the expert at place `t`, from the tables. -/
def blockOf (h0 : ∀ i : S288.Idx, (show BitVec 32 from a.1 0 i).toNat < 288) (t : Fin 288) : Fin 288 := ⟨(show BitVec 32 from a.1 0 (ix1 t)).toNat, h0 _⟩
def expertOf (h1 : ∀ i : S288.Idx, (show BitVec 32 from a.1 1 i).toNat < 32) (t : Fin 288) : Fin 32 := ⟨(show BitVec 32 from a.1 1 (ix1 t)).toNat, h1 _⟩

variable (h0 : ∀ i : S288.Idx, (show BitVec 32 from a.1 0 i).toNat < 288) (h1 : ∀ i : S288.Idx, (show BitVec 32 from a.1 1 i).toNat < 32)

/-- Entry `r, j` of the block at place `t`, with the block and the expert that the tables name. -/
def entryAt (t : Fin 288) (r : Fin 512) (j : Fin 1024) : EReal := entry a m c (blockOf a h0 t) (expertOf a h1 t) t r j

/-- The array that the kernel leaves. -/
def result : Buf (Elt Ideal) ((c : Thread nD τ).loc main_v0) := fun i : S1179648x128.Idx =>
  have hi : (i 0).val < 1179648 := (i 0).isLt
  have hq : (i 1).val < 128 := (i 1).isLt
  entryAt a m c h0 h1 ⟨(i 0).val / 4096, by omega⟩ ⟨(i 0).val % 4096 / 8, by omega⟩ ⟨128 * ((i 0).val % 8) + (i 1).val, by omega⟩

theorem flushed (t : Fin (config a).N) : (dats a m 0 c).flushed (5 : Fin 6) t = (((config a).win (5 : Fin 6)).blk t).view.read (Elt Ideal) (result a m c h0 h1) := by
  funext y
  have hy0 : (y 0).val < 4096 := (y 0).isLt
  have hy1 : (y 1).val < 128 := (y 1).isLt
  have ht : (at_ a t 0).val < 288 := coord_lt _
  have h5 := transform5_eq (at_ a t)
  have hl : ((config a).win (5 : Fin 6)).xinj (at_ a t) y = ix2 (⟨8 * ((y 0).val / 8) + (y 0).val % 8, by omega⟩ : Fin 4096) (⟨(y 1).val, hy1⟩ : Fin 128) := funext fun b => Fin.ext (by
    match b with
    | ⟨0, _⟩ => show (y 0).val = 8 * ((y 0).val / 8) + (y 0).val % 8; omega
    | ⟨1, _⟩ => rfl)
  have hr : (((config a).win (5 : Fin 6)).blk t).view.emb y = ix2 (⟨(at_ a t 0).val * 4096 + (y 0).val, by omega⟩ : Fin 1179648) (⟨(y 1).val, hy1⟩ : Fin 128) :=
    funext fun b => Fin.ext ((ValueKit.rect_emb_unit_val _ _ _ _ b).trans (by
      match b with
      | ⟨0, _⟩ => show cc0_transform_5 (at_ a t) 0 * 4096 + (y 0).val = (at_ a t 0).val * 4096 + (y 0).val; rw [h5]; rfl
      | ⟨1, _⟩ => show cc0_transform_5 (at_ a t) 1 * 128 + (y 1).val = (y 1).val; rw [h5]; exact Nat.zero_add _))
  show left a m c t (((config a).win (5 : Fin 6)).xinj (at_ a t) y) = result a m c h0 h1 ((((config a).win (5 : Fin 6)).blk t).view.emb y)
  rw [hl, hr]
  refine (left_apply a m c t ⟨(y 0).val / 8, by omega⟩ ⟨(y 0).val % 8, by omega⟩ ⟨(y 1).val, hy1⟩).trans ?_
  show entryAt a m c h0 h1 (at_ a t 0) _ _ = entryAt a m c h0 h1 ⟨((at_ a t 0).val * 4096 + (y 0).val) / 4096, _⟩ ⟨((at_ a t 0).val * 4096 + (y 0).val) % 4096 / 8, _⟩
    ⟨128 * (((at_ a t 0).val * 4096 + (y 0).val) % 8) + (y 1).val, _⟩
  have e1 : (at_ a t 0 : Fin 288) = ⟨((at_ a t 0).val * 4096 + (y 0).val) / 4096, by omega⟩ := Fin.ext (by show (at_ a t 0).val = _; simp only; omega)
  have e2 : (⟨(y 0).val / 8, by omega⟩ : Fin 512) = ⟨((at_ a t 0).val * 4096 + (y 0).val) % 4096 / 8, by omega⟩ := Fin.ext (by simp only; omega)
  have e3 : (⟨128 * ((y 0).val % 8) + (y 1).val, by omega⟩ : Fin 1024) = ⟨128 * (((at_ a t 0).val * 4096 + (y 0).val) % 8) + (y 1).val, by omega⟩ := Fin.ext (by simp only; omega)
  exact congr (congr (congrArg (entryAt a m c h0 h1) e1) e2) e3

theorem cover (i : S1179648x128.Idx) : ∃ t : Fin (config a).N, ((config a).win (5 : Fin 6)).flush t = true ∧ i ∈ (((config a).win (5 : Fin 6)).blk t).view.set := by
  have hi0 : (i 0).val < 1179648 := (i 0).isLt
  have hi1 : (i 1).val < 128 := (i 1).isLt
  have ht : (i 0).val / 4096 < (config a).N := by show (i 0).val / 4096 < grid0.N; rw [N_0]; omega
  refine ⟨⟨(i 0).val / 4096, ht⟩, flush5 a _, ?_⟩
  have h5 := transform5_eq (at_ a ⟨(i 0).val / 4096, ht⟩)
  have hv := coords_val a ⟨(i 0).val / 4096, ht⟩
  show i ∈ ((View.whole main_v0).slice (((config a).win (5 : Fin 6)).rect ⟨(i 0).val / 4096, ht⟩)).set
  rw [View.set_slice_whole, Rect.mem_set_unit]
  intro b
  match b with
  | ⟨0, _⟩ =>
    show cc0_transform_5 (at_ a ⟨(i 0).val / 4096, ht⟩) 0 * 4096 ≤ (i 0).val ∧ (i 0).val < cc0_transform_5 (at_ a ⟨(i 0).val / 4096, ht⟩) 0 * 4096 + 4096
    rw [h5]
    show (at_ a ⟨(i 0).val / 4096, ht⟩ 0).val * 4096 ≤ (i 0).val ∧ (i 0).val < (at_ a ⟨(i 0).val / 4096, ht⟩ 0).val * 4096 + 4096
    rw [hv]
    show (i 0).val / 4096 * 4096 ≤ (i 0).val ∧ (i 0).val < (i 0).val / 4096 * 4096 + 4096
    omega
  | ⟨1, _⟩ =>
    show cc0_transform_5 (at_ a ⟨(i 0).val / 4096, ht⟩) 1 * 128 ≤ (i 1).val ∧ (i 1).val < cc0_transform_5 (at_ a ⟨(i 0).val / 4096, ht⟩) 1 * 128 + 128
    rw [h5]
    show 0 * 128 ≤ (i 1).val ∧ (i 1).val < 0 * 128 + 128
    omega

theorem final : (dats a m 0 c).arrAt (5 : Fin 6) (config a).N = result a m c h0 h1 :=
  (dats a m 0 c).arrAt_eq_of_cover (5 : Fin 6) (result a m c h0 h1) (fun t _ => flushed a m c h0 h1 t) (cover a)

end Cert.Experts.Point

end
-- ==== Proof.ExpertGather.lean ====
/- A gather of whole slabs by one index each, read at an index. -/
module

public import Idealize.ShloMosaic.Lib.Pointwise

@[expose] public section

noncomputable section

namespace Cert.Expert

open Idealize.ShloMosaic

/-- The dimension numbers of the gather that takes `M` slabs from `N`. -/
abbrev slabs (N A B M : Nat) (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

theorem slabs_apply {α : Type} {N A B M : Nat} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ 32) (t : Fin M) (r : Fin A) (j : Fin B) :
    Host.gather (slabs N A B M wf) x idx (ix3 t r j) = x (ix3 ⟨min (idx (ix2 t (0 : Fin 1))).toInt.toNat (N - 1), by omega⟩ r j) := by
  unfold Host.gather
  refine congrArg x (funext fun a => Fin.ext ?_)
  show (slabs N A B M wf).start (ix3 t r j) idx a + (slabs N A B M wf).batchCoord (ix3 t r j) a + (slabs N A B M wf).offCoord (ix3 t r j) a = _
  rw [GatherDims.batchCoord_eq_zero _ _ _ (fun h => by simp at h), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hs : (slabs N A B M wf).siIdx (ix3 t r j) ⟨List.idxOf (0 : Fin 3) (slabs N A B M wf).startIndexMap,
        List.idxOf_lt_length_iff.2 (List.mem_singleton.mpr rfl)⟩ = ix2 t (0 : Fin 1) := funext fun b => Fin.ext (by
      match b with
      | ⟨0, _⟩ => rfl
      | ⟨1, _⟩ => rfl)
    exact congrArg (fun v : BitVec 32 => min v.toInt.toNat (N - 1)) (congrArg idx hs)
  | ⟨1, _⟩ =>
    have h : (slabs N A B M wf).start (ix3 t r j) idx (1 : Fin 3) = 0 := by
      unfold GatherDims.start
      exact dif_neg (fun h => absurd (congrArg Fin.val (List.mem_singleton.mp h)) Nat.one_ne_zero)
    refine (congrArg (· + _) h).trans ((Nat.zero_add _).trans ?_)
    rfl
  | ⟨2, _⟩ =>
    have h : (slabs N A B M wf).start (ix3 t r j) idx (2 : Fin 3) = 0 := by
      unfold GatherDims.start
      exact dif_neg (fun h => absurd (congrArg Fin.val (List.mem_singleton.mp h)) (Nat.succ_ne_zero 1))
    refine (congrArg (· + _) h).trans ((Nat.zero_add _).trans ?_)
    rfl

/-- An index that lies in range names itself: it is not negative, so nothing is added to it, and nothing is cut off. -/
theorem same_index (v n : BitVec 32) (h : v.toNat < 2 ^ 31) : Scalar.select (IntOp.cmpi .slt v 0#32) (Scalar.addi v n) v = v := by
  have hs : v.slt 0#32 = false := by
    rw [BitVec.slt_eq_decide, decide_eq_false_iff_not]
    have := BitVec.toInt_eq_toNat_of_lt (x := v) (by omega)
    rw [this]
    show ¬ ((v.toNat : Int) < 0)
    omega
  have hc : IntOp.cmpi .slt v 0#32 = 0#1 := by
    show BitVec.ofBool (v.slt 0#32) = 0#1
    rw [hs]; rfl
  rw [hc]; rfl

theorem clamped (v : BitVec 32) (N : Nat) (h : v.toNat < N) (hN : N ≤ 2 ^ 31) : min v.toInt.toNat (N - 1) = v.toNat := by
  rw [BitVec.toInt_eq_toNat_of_lt (x := v) (by omega)]
  show min v.toNat (N - 1) = v.toNat
  omega

end Cert.Expert

end
-- ==== Proof.ExpertRef.lean ====
/- The experts' reference, read at an index. -/
module

public import proofs.«01_k».proof.Proof.Gen.ExpertsReferenceIdeal.Read
public import proofs.«01_k».proof.Proof.ExpertSpec
public import proofs.«01_k».proof.Proof.ExpertGather

@[expose] public section

set_option maxRecDepth 16384

noncomputable section

namespace Cert.ExpertsReferenceIdeal.Entry

open Cert.ExpertsReferenceIdeal Cert.ExpertsReferenceIdeal.Gen Cert.ExpertsReferenceIdeal.Read Idealize.ShloMosaic

variable (x0 x1 : (⟨S288, .i32⟩ : BufTy).Contents (Elt Ideal)) (x2 : (⟨S1, .i32⟩ : BufTy).Contents (Elt Ideal))
variable (x3 : (⟨S1179648x128, .f32⟩ : BufTy).Contents (Elt Ideal)) (x4 : (⟨S32x1024x2048, .f32⟩ : BufTy).Contents (Elt Ideal))
variable (x5 : (⟨S32x1x2048, .f32⟩ : BufTy).Contents (Elt Ideal)) (x6 : (⟨S32x1024x1024, .f32⟩ : BufTy).Contents (Elt Ideal))
variable (x7 : (⟨S32x1x1024, .f32⟩ : BufTy).Contents (Elt Ideal))

/-! ### The indices -/

theorem block_index (t : Fin 288) (h : (show BitVec 32 from x0 (ix1 t)).toNat < 288) : val_main_v6 (F := Ideal) x0 (ix2 t (0 : Fin 1)) = x0 (ix1 t) := by
  have hi : idx_main_v6 (ix2 t (0 : Fin 1)) = ix1 t := funext fun j => by match j with | ⟨0, _⟩ => rfl
  rw [val_main_v6_apply, hi, val_main_v5_apply, val_main_v2_apply, val_main_v1_apply, val_main_c_apply, val_main_v4_apply]
  exact Expert.same_index (x0 (ix1 t)) _ (Nat.lt_trans h (by decide))

theorem expert_index (t : Fin 288) (h : (show BitVec 32 from x1 (ix1 t)).toNat < 32) : val_main_v13 (F := Ideal) x1 (ix2 t (0 : Fin 1)) = x1 (ix1 t) := by
  have hi : idx_main_v13 (ix2 t (0 : Fin 1)) = ix1 t := funext fun j => by match j with | ⟨0, _⟩ => rfl
  rw [val_main_v13_apply, hi, val_main_v12_apply, val_main_v9_apply, val_main_v8_apply, val_main_c_1_apply, val_main_v11_apply]
  exact Expert.same_index (x1 (ix1 t)) _ (Nat.lt_trans h (by decide))

theorem expert_index2 : val_main_v21 (F := Ideal) x1 = val_main_v13 (F := Ideal) x1 := rfl
theorem expert_index3 : val_main_v47 (F := Ideal) x1 = val_main_v13 (F := Ideal) x1 := rfl
theorem expert_index4 : val_main_v55 (F := Ideal) x1 = val_main_v13 (F := Ideal) x1 := rfl

/-- Row `r` of the block that place `t` names. -/
def row (t : Fin 288) (h : (show BitVec 32 from x0 (ix1 t)).toNat < 288) (r : Fin 512) (k : Fin 1024) : EReal :=
  x3 (ix2 (⟨(show BitVec 32 from x0 (ix1 t)).toNat * 4096 + (8 * r.val + k.val / 128), by omega⟩ : Fin 1179648) (⟨k.val % 128, by omega⟩ : Fin 128))

/-- The expert that place `t` names. -/
def ex (t : Fin 288) (h1 : (show BitVec 32 from x1 (ix1 t)).toNat < 32) : Fin 32 := ⟨(show BitVec 32 from x1 (ix1 t)).toNat, h1⟩

section

variable (t : Fin 288) (h0 : (show BitVec 32 from x0 (ix1 t)).toNat < 288) (h1 : (show BitVec 32 from x1 (ix1 t)).toNat < 32)

/-! ### What the indices take -/

theorem rows (r : Fin 512) (k : Fin 1024) : val_main_v7 (F := Ideal) x0 x3 (ix3 t r k) = row x0 x3 t h0 r k := by
  refine (Expert.slabs_apply (by decide) Facts₀.gather_S288x512x1024_S288x1_S288x512x1024_12_0_n_n_0_1_15121024_wf (val_main_v0 (F := Ideal) x3) (val_main_v6 (F := Ideal) x0) t r k).trans ?_
  rw [val_main_v0_apply]
  have he : min (show BitVec 32 from val_main_v6 (F := Ideal) x0 (ix2 t (0 : Fin 1))).toInt.toNat (288 - 1) = (show BitVec 32 from x0 (ix1 t)).toNat := by
    rw [block_index x0 t h0]
    exact Expert.clamped _ 288 h0 (by decide)
  refine congrArg x3 (funext fun a => Fin.ext ?_)
  match a with
  | ⟨0, _⟩ =>
    show (((min (show BitVec 32 from val_main_v6 (F := Ideal) x0 (ix2 t (0 : Fin 1))).toInt.toNat (288 - 1)) * 512 + r.val) * 1024 + k.val) / 128
      = (show BitVec 32 from x0 (ix1 t)).toNat * 4096 + (8 * r.val + k.val / 128)
    rw [he]; omega
  | ⟨1, _⟩ =>
    show (((min (show BitVec 32 from val_main_v6 (F := Ideal) x0 (ix2 t (0 : Fin 1))).toInt.toNat (288 - 1)) * 512 + r.val) * 1024 + k.val) % 128 = k.val % 128
    rw [he]; omega

/-- A gather by the experts' indices takes the expert's slab. -/
theorem of_expert {A B : Nat} (wf : GatherDims.WF ⟨3, ![32, A, B]⟩ ⟨2, ![288, 1]⟩ ⟨3, ![288, A, B]⟩ [1, 2] [0] [] [0] [] 1 ![1, A, B])
    (x : (⟨3, ![32, A, B]⟩ : Shape).Idx → EReal) (r : Fin A) (j : Fin B) :
    Host.gather (Expert.slabs 32 A B 288 wf) x (val_main_v13 (F := Ideal) x1) (ix3 t r j) = x (ix3 (⟨(show BitVec 32 from x1 (ix1 t)).toNat, h1⟩ : Fin 32) r j) := by
  refine (Expert.slabs_apply (by decide) wf x (val_main_v13 (F := Ideal) x1) t r j).trans (congrArg (fun e => x (ix3 e r j)) (Fin.ext ?_))
  show min (show BitVec 32 from val_main_v13 (F := Ideal) x1 (ix2 t (0 : Fin 1))).toInt.toNat (32 - 1) = _
  rw [expert_index x1 t h1]
  exact Expert.clamped _ 32 h1 (by decide)

theorem weights (k : Fin 1024) (j : Fin 2048) : val_main_v14 (F := Ideal) x1 x4 (ix3 t k j) = x4 (ix3 (⟨(show BitVec 32 from x1 (ix1 t)).toNat, h1⟩ : Fin 32) k j) :=
  of_expert x1 t h1 Facts₀.gather_S32x1024x2048_S288x1_S288x1024x2048_12_0_n_n_0_1_110242048_wf x4 k j

theorem bias (j : Fin 2048) : val_main_v22 (F := Ideal) x1 x5 (ix3 t (0 : Fin 1) j) = x5 (ix3 (⟨(show BitVec 32 from x1 (ix1 t)).toNat, h1⟩ : Fin 32) (0 : Fin 1) j) :=
  of_expert x1 t h1 Facts₀.gather_S32x1x2048_S288x1_S288x1x2048_12_0_n_n_0_1_112048_wf x5 0 j

theorem weights2 (k j : Fin 1024) : val_main_v48 (F := Ideal) x1 x6 (ix3 t k j) = x6 (ix3 (⟨(show BitVec 32 from x1 (ix1 t)).toNat, h1⟩ : Fin 32) k j) :=
  of_expert x1 t h1 Facts₀.gather_S32x1024x1024_S288x1_S288x1024x1024_12_0_n_n_0_1_110241024_wf x6 k j

theorem bias2 (j : Fin 1024) : val_main_v56 (F := Ideal) x1 x7 (ix3 t (0 : Fin 1) j) = x7 (ix3 (⟨(show BitVec 32 from x1 (ix1 t)).toNat, h1⟩ : Fin 32) (0 : Fin 1) j) :=
  of_expert x1 t h1 Facts₀.gather_S32x1x1024_S288x1_S288x1x1024_12_0_n_n_0_1_111024_wf x7 0 j

/-! ### The expert -/

theorem first_apply (r : Fin 512) (j : Fin 2048) : val_main_v24 (F := Ideal) x0 x1 x3 x4 x5 (ix3 t r j)
    = Expert.affine (row x0 x3 t h0 r) (fun k => x4 (ix3 (ex x1 t h1) k j)) (x5 (ix3 (ex x1 t h1) (0 : Fin 1) j)) := by
  have hb : idx_main_v23 (ix3 t r j) = ix3 t (0 : Fin 1) j := funext fun a => by match a with | ⟨0, _⟩ => rfl | ⟨1, _⟩ => rfl | ⟨2, _⟩ => rfl
  rw [val_main_v24_apply, val_main_v15_apply, val_main_v23_apply, hb, bias x1 x5 t h1]
  refine congrArg₂ (· + ·) (Finset.sum_congr rfl fun k _ => ?_) rfl
  have hl : lidx_main_v15 (ix3 t r j) k = ix3 t r k := funext fun a => by match a with | ⟨0, _⟩ => rfl | ⟨1, _⟩ => rfl | ⟨2, _⟩ => rfl
  have hr : ridx_main_v15 (ix3 t r j) k = ix3 t k j := funext fun a => by match a with | ⟨0, _⟩ => rfl | ⟨1, _⟩ => rfl | ⟨2, _⟩ => rfl
  rw [hl, hr, rows x0 x3 t h0, weights x1 x4 t h1]
  rfl

theorem gate_apply (i : S288x512x1024.Idx) : val_main_v27 (F := Ideal) x0 x1 x3 x4 x5 i = Expert.gate (val_main_v25 (F := Ideal) x0 x1 x3 x4 x5 i) := by
  rw [val_main_v27_apply, val_main_v26_apply, val_main_cst_apply]; rfl

theorem linear_apply (i : S288x512x1024.Idx) : val_main_v29 (F := Ideal) x0 x1 x3 x4 x5 i = Expert.linear (val_main_v28 (F := Ideal) x0 x1 x3 x4 x5 i) := by
  rw [val_main_v29_apply, val_main_call0_v4_apply, val_main_call0_v2_apply, val_main_call0_v1_apply]; rfl

theorem denominator_apply (i : S288x512x1024.Idx) : val_main_v35 (F := Ideal) x0 x1 x3 x4 x5 i = Expert.denominator (val_main_v25 (F := Ideal) x0 x1 x3 x4 x5 i) := by
  have hz : Ideal.ofBits .f32 0x00000000#32 = 0 := by simp [Ideal.ofBits, Ideal.ieee]
  rw [val_main_v35_apply, val_main_v34_apply, val_main_cst_8_apply, val_main_v33_apply, val_main_v32_apply, val_main_v31_apply, val_main_v30_apply, val_main_cst_7_apply,
    gate_apply]
  unfold Expert.denominator
  rw [hz, zero_sub]
  rfl

theorem act_apply (i : S288x512x1024.Idx) : val_main_v41 (F := Ideal) x0 x1 x3 x4 x5 i
    = Expert.act (val_main_v25 (F := Ideal) x0 x1 x3 x4 x5 i) (val_main_v28 (F := Ideal) x0 x1 x3 x4 x5 i) := by
  rw [val_main_v41_apply, val_main_v38_apply, val_main_v40_apply, val_main_v39_apply, val_main_cst_10_apply, val_main_v37_apply, val_main_v36_apply, val_main_cst_9_apply,
    gate_apply, linear_apply, denominator_apply]
  rfl

theorem hidden_apply (r : Fin 512) (j : Fin 1024) : val_main_v41 (F := Ideal) x0 x1 x3 x4 x5 (ix3 t r j)
    = Expert.hidden (row x0 x3 t h0 r) (fun j k => x4 (ix3 (ex x1 t h1) k j)) (fun j => x5 (ix3 (ex x1 t h1) (0 : Fin 1) j)) j := by
  have hu : idx_main_v25 (ix3 t r j) = ix3 t r (⟨j.val, by omega⟩ : Fin 2048) := funext fun a => by match a with | ⟨0, _⟩ => rfl | ⟨1, _⟩ => rfl | ⟨2, _⟩ => rfl
  have hv : idx_main_v28 (ix3 t r j) = ix3 t r (⟨1024 + j.val, by omega⟩ : Fin 2048) := funext fun a => by match a with | ⟨0, _⟩ => rfl | ⟨1, _⟩ => rfl | ⟨2, _⟩ => rfl
  rw [act_apply, val_main_v25_apply, val_main_v28_apply, hu, hv, first_apply x0 x1 x3 x4 x5 t h0 h1, first_apply x0 x1 x3 x4 x5 t h0 h1]
  rfl

theorem second_apply (r : Fin 512) (j : Fin 1024) : val_main_v58 (F := Ideal) x0 x1 x3 x4 x5 x6 x7 (ix3 t r j)
    = Expert.result (row x0 x3 t h0 r) (fun j k => x4 (ix3 (ex x1 t h1) k j)) (fun j => x5 (ix3 (ex x1 t h1) (0 : Fin 1) j))
      (fun k => x6 (ix3 (ex x1 t h1) k j)) (x7 (ix3 (ex x1 t h1) (0 : Fin 1) j)) := by
  have hb : idx_main_v57 (ix3 t r j) = ix3 t (0 : Fin 1) j := funext fun a => by match a with | ⟨0, _⟩ => rfl | ⟨1, _⟩ => rfl | ⟨2, _⟩ => rfl
  rw [val_main_v58_apply, val_main_v49_apply, val_main_v57_apply, hb, bias2 x1 x7 t h1]
  refine congrArg₂ (· + ·) (Finset.sum_congr rfl fun k _ => ?_) rfl
  have hl : lidx_main_v49 (ix3 t r j) k = ix3 t r k := funext fun a => by match a with | ⟨0, _⟩ => rfl | ⟨1, _⟩ => rfl | ⟨2, _⟩ => rfl
  have hr : ridx_main_v49 (ix3 t r j) k = ix3 t k j := funext fun a => by match a with | ⟨0, _⟩ => rfl | ⟨1, _⟩ => rfl | ⟨2, _⟩ => rfl
  rw [hl, hr, hidden_apply x0 x1 x3 x4 x5 t h0 h1, weights2 x1 x6 t h1]
  rfl

theorem counted (r : Fin 512) (j : Fin 1024) : val_main_call1_v1 (F := Ideal) x2 (ix3 t r j) = BitVec.ofBool ((BitVec.ofNat 32 t.val).slt (x2 (ix1 (0 : Fin 1)))) := by
  have hi : idx_main_v63 (idx_main_call1_v1 (ix3 t r j)) = ix1 t := funext fun a => by match a with | ⟨0, _⟩ => rfl
  have hn : val_main_v60 (F := Ideal) x2 (idx_main_v61 (ix1 t)) = x2 (ix1 (0 : Fin 1)) :=
    congrArg x2 (funext fun a => Fin.ext (by match a with | ⟨0, _⟩ => exact Nat.lt_one_iff.mp (Fin.isLt _)))
  rw [val_main_call1_v1_apply, val_main_v63_apply, hi, val_main_v62_apply, val_main_v61_apply, hn]
  rfl

theorem value_apply (r : Fin 512) (j : Fin 1024) : val_main_v64 (F := Ideal) x0 x1 x2 x3 x4 x5 x6 x7 (ix3 t r j)
    = Expert.value (x2 (ix1 (0 : Fin 1))) x3 x4 x5 x6 x7 ⟨(show BitVec 32 from x0 (ix1 t)).toNat, h0⟩ (ex x1 t h1) t r j := by
  rw [val_main_v64_apply, counted, val_main_call1_v2_apply, second_apply x0 x1 x3 x4 x5 x6 x7 t h0 h1]
  unfold Expert.value
  cases (BitVec.ofNat 32 t.val).slt (x2 (ix1 (0 : Fin 1))) <;> rfl

end

variable (h0 : ∀ i : S288.Idx, (show BitVec 32 from x0 i).toNat < 288) (h1 : ∀ i : S288.Idx, (show BitVec 32 from x1 i).toNat < 32)

/-- The reference's result. -/
theorem result_apply (i : S1179648x128.Idx) (hi : (i 0).val < 1179648) (hq : (i 1).val < 128) : val_main_v65 (F := Ideal) x0 x1 x2 x3 x4 x5 x6 x7 i
    = Expert.value (x2 (ix1 (0 : Fin 1))) x3 x4 x5 x6 x7 ⟨(show BitVec 32 from x0 (ix1 (⟨(i 0).val / 4096, by omega⟩ : Fin 288))).toNat, h0 _⟩
      (ex x1 ⟨(i 0).val / 4096, by omega⟩ (h1 _)) ⟨(i 0).val / 4096, by omega⟩ ⟨(i 0).val % 4096 / 8, by omega⟩ ⟨128 * ((i 0).val % 8) + (i 1).val, by omega⟩ := by
  rw [val_main_v65_apply]
  refine Eq.trans (congrArg (val_main_v64 (F := Ideal) x0 x1 x2 x3 x4 x5 x6 x7) (funext fun a => Fin.ext ?_)) (value_apply x0 x1 x2 x3 x4 x5 x6 x7 _ (h0 _) (h1 _) _ _)
  match a with
  | ⟨0, _⟩ => show ((i 0).val * 128 + (i 1).val) / 524288 = (i 0).val / 4096; omega
  | ⟨1, _⟩ => show ((i 0).val * 128 + (i 1).val) / 1024 % 512 = (i 0).val % 4096 / 8; omega
  | ⟨2, _⟩ => show ((i 0).val * 128 + (i 1).val) % 1024 = 128 * ((i 0).val % 8) + (i 1).val; omega

end Cert.ExpertsReferenceIdeal.Entry

end
-- ==== Proof.Experts.lean ====
/- The claim about the values of the experts. -/
module

public import proofs.«01_k».proof.Proof.ExpertFrames
public import proofs.«01_k».proof.Proof.ExpertArray
public import proofs.«01_k».proof.Proof.ExpertRef

@[expose] public section

noncomputable section

namespace Cert.ExpertsClaims

open Idealize.ShloMosaic Idealize.SL.Sem Idealize.ShloMosaic.TcCoe
open Cert.Experts.Point

section

variable (m : (ℓ : Loc Cert.Experts.nD Cert.Experts.τ Cert.Experts.sig) → Buf (Elt Ideal) ℓ) (c : Dev Cert.Experts.nD)
variable (h0 : ∀ i : Cert.Experts.S288.Idx, (show BitVec 32 from m (((0 : Dev Cert.Experts.nD) : Thread Cert.Experts.nD Cert.Experts.τ).loc Cert.Experts.main_arg0) i).toNat < 288)
variable (h1 : ∀ i : Cert.Experts.S288.Idx, (show BitVec 32 from m (((0 : Dev Cert.Experts.nD) : Thread Cert.Experts.nD Cert.Experts.τ).loc Cert.Experts.main_arg1) i).toNat < 32)

/-- The reference's result from the same arguments is the array that the kernel leaves. -/
theorem same_result : Cert.ExpertsReferenceIdeal.Read.val_main_v65 (F := Ideal)
      (m ((c : Thread Cert.Experts.nD Cert.Experts.τ).loc Cert.Experts.main_arg0)) (m ((c : Thread Cert.Experts.nD Cert.Experts.τ).loc Cert.Experts.main_arg1))
      (m ((c : Thread Cert.Experts.nD Cert.Experts.τ).loc Cert.Experts.main_arg2)) (m ((c : Thread Cert.Experts.nD Cert.Experts.τ).loc Cert.Experts.main_arg3))
      (m ((c : Thread Cert.Experts.nD Cert.Experts.τ).loc Cert.Experts.main_arg4)) (m ((c : Thread Cert.Experts.nD Cert.Experts.τ).loc Cert.Experts.main_arg5))
      (m ((c : Thread Cert.Experts.nD Cert.Experts.τ).loc Cert.Experts.main_arg6)) (m ((c : Thread Cert.Experts.nD Cert.Experts.τ).loc Cert.Experts.main_arg7))
    = result (within m h0 h1) m c h0 h1 := by
  obtain rfl : c = 0 := Subsingleton.elim c 0
  funext i
  exact Cert.ExpertsReferenceIdeal.Entry.result_apply _ _ _ _ _ _ _ _ h0 h1 i (i 0).isLt (i 1).isLt

end

/-- Both programs end with the experts' results of the same arguments. -/
theorem algebraic : @Cert.algebraic_ExpertsIdeal_ExpertsReferenceIdeal Cert.ExpertsIdeal.Gen.facts Cert.ExpertsReferenceIdeal.Gen.facts Cert.Pre_blocks_in_range.Gen.facts := by
  intro m ρ m' ρ' hpre hagree
  have h0 := block_lt (hpre 0).1
  have h1 := expert_in (hpre 0).2
  refine ⟨fun c => result (tables m hpre) m c h0 h1, ?_, ?_⟩
  · refine (θ_run Cert.ExpertsIdeal.defs _ _).mono (fun r h c => ?_) (run_ideal m ρ hpre)
    obtain ⟨a0, a1, a2, a3, a4, a5, a6, a7, v⟩ := h.1 c
    exact ⟨v.trans (final (tables m hpre) m c h0 h1), a0, a1, a2, a3, a4, a5, a6, a7⟩
  · refine (θ_run Cert.ExpertsReferenceIdeal.defs _ _).mono
      (fun r h c => ⟨(h c).1.trans ?_, (h c).2⟩) (Cert.ExpertsReferenceIdeal.Value.run (F := Ideal) m' ρ')
    obtain ⟨e0, e1, e2, e3, e4, e5, e6, e7⟩ := hagree c
    refine (Cert.ExpertsReferenceIdeal.Read.val_main_v65_eq _ _).trans ?_
    rw [e0, e1, e2, e3, e4, e5, e6, e7]
    exact same_result m c h0 h1

end Cert.ExpertsClaims
-- ==== Proof.ShiftData.lean ====
/- What one grid point of the shift kernel reads and what it leaves in each of its result blocks. -/
module

public import proofs.«01_k».proof.Proof.Gen.Shift.Skeleton
public import Idealize.ShloMosaic.Lib.Pipeline.FrameBody
public import Idealize.ShloMosaic.Lib.Tactic

@[expose] public section

set_option maxRecDepth 16384

noncomputable section

namespace Cert.Shift.Point

open Cert.Shift Cert.Shift.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The fourteen blocks that a grid point reads. -/
structure Blocks (F : FTy → Type) where
  x0 : Vec F S1x512x1920 .bf16
  x1 : Vec F S1x16x1920 .bf16
  x2 : Vec F S1x16x1920 .bf16
  x3 : Vec F S1x1920 .f32
  x4 : Vec F S1x1920 .f32
  x5 : Vec F S1x1024 .f32
  x6 : Vec F S2x128x1024 .bf16
  x7 : Vec F S1x1024 .f32
  x8 : Vec F S2x128x1024 .bf16
  x9 : Vec F S2x128x512 .bf16
  x10 : Vec F S1x512 .f32
  x11 : Vec F S1x512 .f32
  x12 : Vec F S1x512 .f32
  x13 : Vec F S512x512 .bf16

abbrev r0_0 : Rect S1x512x1920 := Rect.unit (s := S1x512x1920) ![0, 0, 0] S1x512x1920.size inb_S1x512x1920_S1x512x1920_0_0_0
abbrev r0_1 : Rect S1x16x1920 := Rect.unit (s := S1x16x1920) ![0, 15, 0] S1x1x1920.size inb_S1x16x1920_S1x1x1920_0_15_0
abbrev r0_2 : Rect S1x16x1920 := Rect.unit (s := S1x16x1920) ![0, 0, 0] S1x1x1920.size inb_S1x16x1920_S1x1x1920_0_0_0
abbrev r0_3 : Rect S1x1920 := Rect.unit (s := S1x1920) ![0, 0] S1x1920.size inb_S1x1920_S1x1920_0_0
abbrev r0_4 : Rect S1x1024 := Rect.unit (s := S1x1024) ![0, 0] S1x1024.size inb_S1x1024_S1x1024_0_0
abbrev r0_5 : Rect S2x128x1024 := Rect.unit (s := S2x128x1024) ![0, 0, 0] S1x128x1024.size inb_S2x128x1024_S1x128x1024_0_0_0
abbrev r0_6 : Rect S2x128x1024 := Rect.unit (s := S2x128x1024) ![1, 0, 0] S1x128x1024.size inb_S2x128x1024_S1x128x1024_1_0_0
abbrev r0_7 : Rect S2x128x512 := Rect.unit (s := S2x128x512) ![0, 0, 0] S1x128x512.size inb_S2x128x512_S1x128x512_0_0_0
abbrev r0_8 : Rect S2x128x512 := Rect.unit (s := S2x128x512) ![1, 0, 0] S1x128x512.size inb_S2x128x512_S1x128x512_1_0_0
abbrev r0_9 : Rect S512x512 := Rect.unit (s := S512x512) ![0, 0] S512x512.size inb_S512x512_S512x512_0_0
abbrev r0_10 : Rect S1x512 := Rect.unit (s := S1x512) ![0, 0] S1x512.size inb_S1x512_S1x512_0_0
abbrev r0_11 : Rect S1x512x512 := Rect.unit (s := S1x512x512) ![0, 0, 0] S1x512x512.size inb_S1x512x512_S1x512x512_0_0_0
abbrev r0_12 : Rect S1x4x512x128 := Rect.unit (s := S1x4x512x128) ![0, 0, 0, 0] S1x1x512x128.size inb_S1x4x512x128_S1x1x512x128_0_0_0_0
abbrev r0_13 : Rect S1x4x512x128 := Rect.unit (s := S1x4x512x128) ![0, 1, 0, 0] S1x1x512x128.size inb_S1x4x512x128_S1x1x512x128_0_1_0_0
abbrev r0_14 : Rect S1x4x512x128 := Rect.unit (s := S1x4x512x128) ![0, 2, 0, 0] S1x1x512x128.size inb_S1x4x512x128_S1x1x512x128_0_2_0_0
abbrev r0_15 : Rect S1x4x512x128 := Rect.unit (s := S1x4x512x128) ![0, 3, 0, 0] S1x1x512x128.size inb_S1x4x512x128_S1x1x512x128_0_3_0_0

def value0 (i : grid0.Coords) (b : Blocks F) : FVec F S512x1920 .f32 :=
  k0_pay3 (View.ld b.x0 r0_0)

def value1 (i : grid0.Coords) (b : Blocks F) : FVec F S512x1920 .f32 :=
  k0_pay4 i (View.ld b.x0 r0_0) (View.ld b.x2 r0_2)

def value2 (i : grid0.Coords) (b : Blocks F) : FVec F S512x1920 .f32 :=
  k0_pay5 i (View.ld b.x0 r0_0) (View.ld b.x1 r0_1) (View.ld b.x3 r0_3)

def value3 (i : grid0.Coords) (b : Blocks F) : FVec F S512x512 .f32 :=
  k0_pay7 (value0 i b) (value1 i b) (value2 i b) (View.ld b.x4 r0_3)

def value4 (i : grid0.Coords) (b : Blocks F) : FVec F S512x512 .f32 :=
  k0_pay8 (value0 i b) (value1 i b) (value2 i b) (View.ld b.x4 r0_3)

def value5 (i : grid0.Coords) (b : Blocks F) : FVec F S512x512 .f32 :=
  k0_pay9 (value0 i b) (value1 i b) (value2 i b) (View.ld b.x4 r0_3)

def value6 (i : grid0.Coords) (b : Blocks F) : FVec F S512x1024 .f32 :=
  k0_pay16 (k0_pay12 (value0 i b) (value1 i b) (value2 i b) (View.ld b.x4 r0_3) (View.ld b.x5 r0_4) (View.ld b.x6 r0_5) (View.ld b.x6 r0_6))

def value7 (i : grid0.Coords) (b : Blocks F) : FVec F S512x1024 .f32 :=
  k0_pay17 (View.ld b.x7 r0_4) (k0_pay13 (value0 i b) (value1 i b) (value2 i b) (View.ld b.x4 r0_3)) (k0_pay14 (value0 i b) (value1 i b) (value2 i b) (View.ld b.x4 r0_3) (View.ld b.x8 r0_5)) (View.ld b.x8 r0_6)

def value8 (i : grid0.Coords) (b : Blocks F) : FVec F S512x1024 .f32 :=
  k0_pay18 (F := F)

def value9 (i : grid0.Coords) (b : Blocks F) : FVec F S512x512 .f32 :=
  k0_pay21 (value4 i b) (View.ld b.x13 r0_9) (View.ld b.x10 r0_10)

def value10 (i : grid0.Coords) (b : Blocks F) : FVec F S512x512 .f32 :=
  k0_pay22 (value4 i b) (value7 i b) (value8 i b) (View.ld b.x11 r0_10)

def value11 (i : grid0.Coords) (b : Blocks F) : FVec F S512x512 .f32 :=
  k0_pay23 (value4 i b) (value7 i b) (value8 i b) (View.ld b.x11 r0_10)

def value12 (i : grid0.Coords) (b : Blocks F) : FVec F S512x512 .f32 :=
  k0_pay24 (value4 i b) (value7 i b) (value8 i b) (View.ld b.x13 r0_9) (View.ld b.x10 r0_10)

def value13 (i : grid0.Coords) (b : Blocks F) : FVec F S512x512 .f32 :=
  k0_pay25 (value4 i b) (value7 i b) (value8 i b) (View.ld b.x13 r0_9) (View.ld b.x10 r0_10)

/-- The block of window 14 after the point. -/
def left14 (i : grid0.Coords) (b : Blocks F) : Vec F S1x4x512x128 .bf16 :=
  View.canon [⟨r0_15, k0_pay59 (value3 i b)⟩,
    ⟨r0_14, k0_pay50 (value3 i b)⟩,
    ⟨r0_13, k0_pay41 (k0_pay40 (value3 i b))⟩,
    ⟨r0_12, k0_pay30 (value3 i b)⟩]

/-- The block of window 15 after the point. -/
def left15 (i : grid0.Coords) (b : Blocks F) : Vec F S1x4x512x128 .bf16 :=
  View.canon [⟨r0_15, k0_pay61 (k0_pay60 (value5 i b))⟩,
    ⟨r0_14, k0_pay51 (value5 i b)⟩,
    ⟨r0_13, k0_pay42 (value5 i b)⟩,
    ⟨r0_12, k0_pay31 (value5 i b)⟩]

/-- The block of window 16 after the point. -/
def left16 (i : grid0.Coords) (b : Blocks F) : Vec F S1x4x512x128 .bf16 :=
  View.canon [⟨r0_15, k0_pay62 (value9 i b)⟩,
    ⟨r0_14, k0_pay52 (value9 i b)⟩,
    ⟨r0_13, k0_pay43 (value9 i b)⟩,
    ⟨r0_12, k0_pay32 (value9 i b)⟩]

/-- The block of window 17 after the point. -/
def left17 (i : grid0.Coords) (b : Blocks F) : Vec F S1x4x512x128 .f32 :=
  View.canon [⟨r0_15, k0_pay63 (value6 i b)⟩,
    ⟨r0_14, k0_pay53 (value6 i b)⟩,
    ⟨r0_13, k0_pay44 (value6 i b)⟩,
    ⟨r0_12, k0_pay34 (k0_pay33 (value6 i b))⟩]

/-- The block of window 18 after the point. -/
def left18 (i : grid0.Coords) (b : Blocks F) : Vec F S1x4x512x128 .f32 :=
  View.canon [⟨r0_15, k0_pay64 (value6 i b)⟩,
    ⟨r0_14, k0_pay54 (value6 i b)⟩,
    ⟨r0_13, k0_pay45 (value6 i b)⟩,
    ⟨r0_12, k0_pay35 (value6 i b)⟩]

/-- The block of window 19 after the point. -/
def left19 (i : grid0.Coords) (b : Blocks F) : Vec F S1x4x512x128 .bf16 :=
  View.canon [⟨r0_15, k0_pay65 (value10 i b)⟩,
    ⟨r0_14, k0_pay55 (value10 i b)⟩,
    ⟨r0_13, k0_pay46 (value10 i b)⟩,
    ⟨r0_12, k0_pay36 (value10 i b)⟩]

/-- The block of window 20 after the point. -/
def left20 (i : grid0.Coords) (b : Blocks F) : Vec F S1x4x512x128 .bf16 :=
  View.canon [⟨r0_15, k0_pay66 (value11 i b)⟩,
    ⟨r0_14, k0_pay56 (value11 i b)⟩,
    ⟨r0_13, k0_pay47 (value11 i b)⟩,
    ⟨r0_12, k0_pay37 (value11 i b)⟩]

/-- The block of window 21 after the point. -/
def left21 (i : grid0.Coords) (b : Blocks F) : Vec F S1x4x512x128 .bf16 :=
  View.canon [⟨r0_15, k0_pay1 (k0_pay67 (value12 i b))⟩,
    ⟨r0_14, k0_pay57 (value12 i b)⟩,
    ⟨r0_13, k0_pay48 (value12 i b)⟩,
    ⟨r0_12, k0_pay38 (value12 i b)⟩]

/-- The block of window 22 after the point. -/
def left22 (i : grid0.Coords) (b : Blocks F) : Vec F S1x4x512x128 .bf16 :=
  View.canon [⟨r0_15, k0_pay2 (value13 i b)⟩,
    ⟨r0_14, k0_pay58 (value13 i b)⟩,
    ⟨r0_13, k0_pay49 (value13 i b)⟩,
    ⟨r0_12, k0_pay39 (value13 i b)⟩]

/-- The block of window 23 after the point. -/
def left23 (i : grid0.Coords) (b : Blocks F) : Vec F S1x512x512 .bf16 :=
  View.canon [⟨r0_11, k0_pay28 (value5 i b) (k0_pay20 (View.ld b.x13 r0_9)) (k0_pay26 (value3 i b) (value4 i b) (value7 i b) (value8 i b) (View.ld b.x11 r0_10) (View.ld b.x12 r0_10)) (k0_pay27 (value3 i b) (value4 i b) (value7 i b) (value8 i b) (View.ld b.x11 r0_10) (View.ld b.x12 r0_10))⟩]

/-- The block of window 24 after the point. -/
def left24 (i : grid0.Coords) (b : Blocks F) : Vec F S1x512x512 .bf16 :=
  View.canon [⟨r0_11, k0_pay29 (k0_pay15 (k0_pay11 (value0 i b) (value1 i b) (value2 i b) (View.ld b.x4 r0_3)) (View.ld b.x9 r0_7) (View.ld b.x9 r0_8))⟩]

/-- The four stores of a block by pairs of heads cover it. -/
theorem cover4 {e : EltTy} (p0 p1 p2 p3 : Vec F S1x1x512x128 e) (y : S1x4x512x128.Idx) :
    ∃ pc ∈ ([⟨r0_15, p0⟩, ⟨r0_14, p1⟩, ⟨r0_13, p2⟩, ⟨r0_12, p3⟩] : List (View.Piece (Elt F) S1x4x512x128 e)), y ∈ pc.1.set :=
  View.cover_of_tiled [⟨r0_15, p0⟩, ⟨r0_14, p1⟩, ⟨r0_13, p2⟩, ⟨r0_12, p3⟩] S1x1x512x128.size (by rfl) y

/-- The one store of a block of rows covers it. -/
theorem cover1 {e : EltTy} (p0 : Vec F S1x512x512 e) (y : S1x512x512.Idx) :
    ∃ pc ∈ ([⟨r0_11, p0⟩] : List (View.Piece (Elt F) S1x512x512 e)), y ∈ pc.1.set :=
  View.cover_of_tiled [⟨r0_11, p0⟩] S1x512x512.size (by rfl) y

end Cert.Shift.Point

end
-- ==== Proof.ShiftRun.lean ====
/- The shift kernel at one grid point: from its input blocks to its result blocks. -/
module

public import proofs.«01_k».proof.Proof.ShiftData

@[expose] public section

set_option maxRecDepth 16384

noncomputable section

namespace Cert.Shift.Point

open Cert.Shift Cert.Shift.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The kernel leaves the blocks it reads as they were and every result block as `ShiftData` says. -/
theorem body (c : Dev nD) (E : Set ℕ) (i : grid0.Coords) (arg2 : Memref sig .tc .vmem S1x512x1920 .bf16) (harg2 : arg2.IsWhole) (arg3 : Memref sig .tc .vmem S1x16x1920 .bf16) (harg3 : arg3.IsWhole) (arg4 : Memref sig .tc .vmem S1x16x1920 .bf16) (harg4 : arg4.IsWhole) (arg5 : Memref sig .tc .vmem S1x1920 .f32) (harg5 : arg5.IsWhole) (arg6 : Memref sig .tc .vmem S1x1920 .f32) (harg6 : arg6.IsWhole) (arg7 : Memref sig .tc .vmem S1x1024 .f32) (harg7 : arg7.IsWhole) (arg8 : Memref sig .tc .vmem S2x128x1024 .bf16) (harg8 : arg8.IsWhole) (arg9 : Memref sig .tc .vmem S1x1024 .f32) (harg9 : arg9.IsWhole) (arg10 : Memref sig .tc .vmem S2x128x1024 .bf16) (harg10 : arg10.IsWhole) (arg11 : Memref sig .tc .vmem S2x128x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .bf16) (harg15 : arg15.IsWhole) (arg16 : Memref sig .tc .vmem S1x4x512x128 .bf16) (harg16 : arg16.IsWhole) (arg17 : Memref sig .tc .vmem S1x4x512x128 .bf16) (harg17 : arg17.IsWhole) (arg18 : Memref sig .tc .vmem S1x4x512x128 .bf16) (harg18 : arg18.IsWhole) (arg19 : Memref sig .tc .vmem S1x4x512x128 .f32) (harg19 : arg19.IsWhole) (arg20 : Memref sig .tc .vmem S1x4x512x128 .f32) (harg20 : arg20.IsWhole) (arg21 : Memref sig .tc .vmem S1x4x512x128 .bf16) (harg21 : arg21.IsWhole) (arg22 : Memref sig .tc .vmem S1x4x512x128 .bf16) (harg22 : arg22.IsWhole) (arg23 : Memref sig .tc .vmem S1x4x512x128 .bf16) (harg23 : arg23.IsWhole) (arg24 : Memref sig .tc .vmem S1x4x512x128 .bf16) (harg24 : arg24.IsWhole) (arg25 : Memref sig .tc .vmem S1x512x512 .bf16) (harg25 : arg25.IsWhole) (arg26 : Memref sig .tc .vmem S1x512x512 .bf16) (harg26 : arg26.IsWhole)
    (b : Blocks F) (K : PUnit → sProp 𝕄) :
    iprop(owns (c : Thread nD τ) arg2 fullShare b.x0 ∗ owns (c : Thread nD τ) arg3 fullShare b.x1 ∗ owns (c : Thread nD τ) arg4 fullShare b.x2 ∗ owns (c : Thread nD τ) arg5 fullShare b.x3 ∗ owns (c : Thread nD τ) arg6 fullShare b.x4 ∗ owns (c : Thread nD τ) arg7 fullShare b.x5 ∗ owns (c : Thread nD τ) arg8 fullShare b.x6 ∗ owns (c : Thread nD τ) arg9 fullShare b.x7 ∗ owns (c : Thread nD τ) arg10 fullShare b.x8 ∗ owns (c : Thread nD τ) arg11 fullShare b.x9 ∗ owns (c : Thread nD τ) arg12 fullShare b.x10 ∗ owns (c : Thread nD τ) arg13 fullShare b.x11 ∗ owns (c : Thread nD τ) arg14 fullShare b.x12 ∗ owns (c : Thread nD τ) arg15 fullShare b.x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare b.x0 ∗ owns (c : Thread nD τ) arg3 fullShare b.x1 ∗ owns (c : Thread nD τ) arg4 fullShare b.x2 ∗ owns (c : Thread nD τ) arg5 fullShare b.x3 ∗ owns (c : Thread nD τ) arg6 fullShare b.x4 ∗ owns (c : Thread nD τ) arg7 fullShare b.x5 ∗ owns (c : Thread nD τ) arg8 fullShare b.x6 ∗ owns (c : Thread nD τ) arg9 fullShare b.x7 ∗ owns (c : Thread nD τ) arg10 fullShare b.x8 ∗ owns (c : Thread nD τ) arg11 fullShare b.x9 ∗ owns (c : Thread nD τ) arg12 fullShare b.x10 ∗ owns (c : Thread nD τ) arg13 fullShare b.x11 ∗ owns (c : Thread nD τ) arg14 fullShare b.x12 ∗ owns (c : Thread nD τ) arg15 fullShare b.x13 ∗ owns (c : Thread nD τ) arg16 fullShare (left14 i b) ∗ owns (c : Thread nD τ) arg17 fullShare (left15 i b) ∗ owns (c : Thread nD τ) arg18 fullShare (left16 i b) ∗ owns (c : Thread nD τ) arg19 fullShare (left17 i b) ∗ owns (c : Thread nD τ) arg20 fullShare (left18 i b) ∗ owns (c : Thread nD τ) arg21 fullShare (left19 i b) ∗ owns (c : Thread nD τ) arg22 fullShare (left20 i b) ∗ owns (c : Thread nD τ) arg23 fullShare (left21 i b) ∗ owns (c : Thread nD τ) arg24 fullShare (left22 i b) ∗ owns (c : Thread nD τ) arg25 fullShare (left23 i b) ∗ owns (c : Thread nD τ) arg26 fullShare (left24 i b)) -∗ K ⟨⟩))
      ⊢ wp frame (wpE (defs₀ (F := F)) Variants.none c none) E (cc0_rwkv_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨x0, x1, x2, x3, x4, x5, x6, x7, x8, x9, x10, x11, x12, x13⟩ := b
  dsimp only
  simp only [cc0_rwkv_prep_eq_skeleton]; unfold cc0_rwkv_prep_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover4 _ _ _ _)).trans ?_
    rfl
  isplitl [H15]
  · iexists _; isplitr
    swap; · iexact H15
    ipureintro
    refine (View.read_writes_eq_canon _ _ _ (cover4 _ _ _ _)).trans ?_
    rfl
  isplitl [H16]
  · iexists _; isplitr
    swap; · iexact H16
    ipureintro
    refine (View.read_writes_eq_canon _ _ _ (cover4 _ _ _ _)).trans ?_
    rfl
  isplitl [H17]
  · iexists _; isplitr
    swap; · iexact H17
    ipureintro
    refine (View.read_writes_eq_canon _ _ _ (cover4 _ _ _ _)).trans ?_
    rfl
  isplitl [H18]
  · iexists _; isplitr
    swap; · iexact H18
    ipureintro
    refine (View.read_writes_eq_canon _ _ _ (cover4 _ _ _ _)).trans ?_
    rfl
  isplitl [H19]
  · iexists _; isplitr
    swap; · iexact H19
    ipureintro
    refine (View.read_writes_eq_canon _ _ _ (cover4 _ _ _ _)).trans ?_
    rfl
  isplitl [H20]
  · iexists _; isplitr
    swap; · iexact H20
    ipureintro
    refine (View.read_writes_eq_canon _ _ _ (cover4 _ _ _ _)).trans ?_
    rfl
  isplitl [H21]
  · iexists _; isplitr
    swap; · iexact H21
    ipureintro
    refine (View.read_writes_eq_canon _ _ _ (cover4 _ _ _ _)).trans ?_
    rfl
  isplitl [H22]
  · iexists _; isplitr
    swap; · iexact H22
    ipureintro
    refine (View.read_writes_eq_canon _ _ _ (cover4 _ _ _ _)).trans ?_
    rfl
  isplitl [H23]
  · iexists _; isplitr
    swap; · iexact H23
    ipureintro
    refine (View.read_writes_eq_canon _ _ _ (cover1 _)).trans ?_
    rfl
  iexists _; isplitr
  swap; · iexact H24
  ipureintro
  refine (View.read_writes_eq_canon _ _ _ (cover1 _)).trans ?_
  rfl

end Cert.Shift.Point

end
-- ==== Proof.ShiftLaunch.lean ====
/- The launch of the shift kernel: its grid points, what they leave, and the whole run. -/
module

public import proofs.«01_k».proof.Proof.ShiftRun
public import proofs.«01_k».proof.Proof.Gen.Shift.Frame
public import Idealize.ShloMosaic.Lib.Claim

@[expose] public section

set_option maxRecDepth 16384

noncomputable section

namespace Cert.Shift.Point

open Cert.Shift Cert.Shift.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks that point `t` reads. -/
abbrev blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The data of the launch: the arrays as it finds them, what every point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => left14 (grid0.coords t) (blocks m c t)
    | ⟨15, _⟩ => left15 (grid0.coords t) (blocks m c t)
    | ⟨16, _⟩ => left16 (grid0.coords t) (blocks m c t)
    | ⟨17, _⟩ => left17 (grid0.coords t) (blocks m c t)
    | ⟨18, _⟩ => left18 (grid0.coords t) (blocks m c t)
    | ⟨19, _⟩ => left19 (grid0.coords t) (blocks m c t)
    | ⟨20, _⟩ => left20 (grid0.coords t) (blocks m c t)
    | ⟨21, _⟩ => left21 (grid0.coords t) (blocks m c t)
    | ⟨22, _⟩ => left22 (grid0.coords t) (blocks m c t)
    | ⟨23, _⟩ => left23 (grid0.coords t) (blocks m c t)
    | ⟨24, _⟩ => left24 (grid0.coords t) (blocks m c t)
    | ⟨_ + 25, h⟩ => absurd h (Nat.not_lt.2 (Nat.le_add_left _ _))
  Φ _ := Pipeline.ΦA spec0 c
  q w := Pipeline.shareOf spec0 w
  owed _ := 0

/-- The arrays are as the launch finds them. -/
theorem A_eq (c : Dev nD) (w : Fin cfg0.W) : (dats m 0 c).A w = V m c (Pipeline.arrRef spec0 w) := by
  dsimp only [dats]

/-- What a point leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = left14 (grid0.coords t) (blocks m c t) := by dsimp only [dats]
theorem after0_15 (c : Dev nD) (t : Fin cfg0.N) : (dats m 0 c).after 15 t = left15 (grid0.coords t) (blocks m c t) := by dsimp only [dats]
theorem after0_16 (c : Dev nD) (t : Fin cfg0.N) : (dats m 0 c).after 16 t = left16 (grid0.coords t) (blocks m c t) := by dsimp only [dats]
theorem after0_17 (c : Dev nD) (t : Fin cfg0.N) : (dats m 0 c).after 17 t = left17 (grid0.coords t) (blocks m c t) := by dsimp only [dats]
theorem after0_18 (c : Dev nD) (t : Fin cfg0.N) : (dats m 0 c).after 18 t = left18 (grid0.coords t) (blocks m c t) := by dsimp only [dats]
theorem after0_19 (c : Dev nD) (t : Fin cfg0.N) : (dats m 0 c).after 19 t = left19 (grid0.coords t) (blocks m c t) := by dsimp only [dats]
theorem after0_20 (c : Dev nD) (t : Fin cfg0.N) : (dats m 0 c).after 20 t = left20 (grid0.coords t) (blocks m c t) := by dsimp only [dats]
theorem after0_21 (c : Dev nD) (t : Fin cfg0.N) : (dats m 0 c).after 21 t = left21 (grid0.coords t) (blocks m c t) := by dsimp only [dats]
theorem after0_22 (c : Dev nD) (t : Fin cfg0.N) : (dats m 0 c).after 22 t = left22 (grid0.coords t) (blocks m c t) := by dsimp only [dats]
theorem after0_23 (c : Dev nD) (t : Fin cfg0.N) : (dats m 0 c).after 23 t = left23 (grid0.coords t) (blocks m c t) := by dsimp only [dats]
theorem after0_24 (c : Dev nD) (t : Fin cfg0.N) : (dats m 0 c).after 24 t = left24 (grid0.coords t) (blocks m c t) := by dsimp only [dats]

/-- Every input window holds its block when a point begins. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What a point begins with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- What a point ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 2000000 in
/-- The kernel at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (body c Set.univ (grid0.coords t) _ _ _ _ _ _ _ _ _ _ _ _ _ _ _ _ _ _ _ _ _ _ _ _ _ _ _ _ _ _ _ _ _ _ _ _ _ _ _ _ _ _ _ _ _ _ _ _ _ _ (blocks m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The table of kernels at a point. -/
theorem defs₀_row (t : Fin cfg0.N) :
    defs₀ (F := F) .tc cfg0.body (cfg0.bodyArgs t (cfg0.slots t)) = bodyAt0 t := by
  unfold defs₀; rw [Defs.onTc_tc]

set_option maxHeartbeats 400000 in
/-- The kernel does at every point what the data say. -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

set_option backward.isDefEq.respectTransparency.types false in
set_option maxHeartbeats 800000 in
/-- The whole run, with the semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The whole run. -/
theorem run_main : θ_run defs (onTc (τ := τ) (main (F := F))) (s₀ m ρ) (Pipeline.FramePost cfgs (dats m) 0 (V m)) :=
  (θ_run defs _ _).mono (fun _ h => h.1) (run_main_quiescent m ρ)

end Cert.Shift.Point

end
-- ==== Proof.ShiftSpec.lean ====
/- The token shift of an entry, over the extended reals. -/
module

public import Idealize.ShloMosaic.PureOps.Ideal

@[expose] public section

noncomputable section

namespace Cert.Shift

/-- An entry mixed with the entries of the token before it and of the token after it. -/
def mixed (p before next mb mn : EReal) : EReal := p + mb * (before - p) + mn * (next - p)

/-- The entry of the token before token `t`; before the first token it is zero. -/
def previous (p : Fin 2048 → EReal) (t : Fin 2048) : EReal := if t.val = 0 then 0 else p ⟨t.val - 1, by omega⟩

/-- The entry of the token after token `t`; after the last token it is zero. -/
def following (p : Fin 2048 → EReal) (t : Fin 2048) : EReal := if h : t.val + 1 < 2048 then p ⟨t.val + 1, h⟩ else 0

/-- The shifted entry of token `t`, with the weights of the token before and of the token after. -/
def shifted (p : Fin 2048 → EReal) (mb mn : EReal) (t : Fin 2048) : EReal := mixed (p t) (previous p t) (following p t) mb mn

end Cert.Shift

end
-- ==== Proof.ShiftBlock.lean ====
/- One block of tokens of the shift kernel, entry by entry. -/
module

public import proofs.«01_k».proof.Proof.ShiftData
public import proofs.«01_k».proof.Proof.ShiftSpec
public import Idealize.ShloMosaic.Lib.Pointwise
public import Idealize.ShloMosaic.Lib.WordCmp
public import Idealize.ShloMosaic.Lib.Pipeline.ValueKit.Geometry

@[expose] public section

noncomputable section

namespace Cert.Shift.Point

open Cert.Shift Cert.Shift.Gen Idealize.ShloMosaic

theorem here_apply (x : Vec Ideal S1x512x1920 .bf16) (r : Fin 512) (l : Fin 1920) : k0_pay3 x (ix2 r l) = x (ix3 0 r l) := by
  pointwise [k0_pay3]

theorem last_word (r : Fin 512) : IntOp.cmpi .eq (BitVec.ofNat 32 r.val) 511#32 = BitVec.ofBool (decide (r.val = 511)) := by
  revert r; decide +kernel

theorem first_word (r : Fin 512) : IntOp.cmpi .eq (BitVec.ofNat 32 r.val) 0#32 = BitVec.ofBool (decide (r.val = 0)) := by
  revert r; decide +kernel

theorem later_word (n : Fin 4) : Scalar.cmpi .slt (BitVec.ofNat 32 n.val) 3#32 = BitVec.ofBool (decide (n.val < 3)) := by
  revert n; decide +kernel

theorem earlier_word (n : Fin 4) : Scalar.cmpi .sgt (BitVec.ofNat 32 n.val) 0#32 = BitVec.ofBool (decide (0 < n.val)) := by
  revert n; decide +kernel

theorem chosen {α : Type} (p : Prop) [Decidable p] (a b : α) : Scalar.select (BitVec.ofBool (decide p)) a b = if p then a else b := by
  by_cases h : p <;> simp [Scalar.select, h]

/-- The rows one down, with the row that follows the block put last. -/
theorem next_apply (i : grid0.Coords) (x : Vec Ideal S1x512x1920 .bf16) (z : Vec Ideal S1x1x1920 .bf16) (r : Fin 512) (l : Fin 1920) :
    k0_pay4 i x z (ix2 r l)
      = if r.val = 511 then (if (i 1).val < 3 then z (ix3 0 0 l) else 0) else x (ix3 0 ⟨(r.val + 1) % 512, Nat.mod_lt _ (by decide)⟩ l) := by
  pointwise [k0_pay4, k0_pay3]
  rw [last_word, later_word (i 1), chosen, chosen]
  refine if_congr Iff.rfl rfl (congrArg (fun k => x (ix3 0 k l)) (Fin.ext ?_))
  show (r.val + 512 - 511) % 512 = (r.val + 1) % 512
  omega

/-- The entry mixed with the rows one up, with the row that precedes the block put first. -/
theorem before_apply (i : grid0.Coords) (x : Vec Ideal S1x512x1920 .bf16) (z : Vec Ideal S1x1x1920 .bf16) (w : Vec Ideal S1x1920 .f32) (r : Fin 512) (l : Fin 1920) :
    k0_pay5 i x z w (ix2 r l) = x (ix3 0 r l) + w (ix2 0 l)
      * ((if r.val = 0 then (if 0 < (i 1).val then z (ix3 0 0 l) else 0) else x (ix3 0 ⟨(r.val + 511) % 512, Nat.mod_lt _ (by decide)⟩ l)) - x (ix3 0 r l)) := by
  pointwise [k0_pay5, k0_pay3]
  rw [first_word, earlier_word (i 1), chosen, chosen]
  refine congrArg (fun e => x (ix3 0 r l) + w (ix2 0 l) * (e - x (ix3 0 r l))) (if_congr Iff.rfl rfl (congrArg (fun k => x (ix3 0 k l)) (Fin.ext ?_)))
  show (r.val + 512 - 1) % 512 = (r.val + 511) % 512
  omega

theorem mixed_apply (a b c : FVec Ideal S512x1920 .f32) (w : Vec Ideal S1x1920 .f32) (r : Fin 512) (l : Fin 1920) :
    k0_pay6 a b c w (ix2 r l) = c (ix2 r l) + w (ix2 0 l) * (b (ix2 r l) - a (ix2 r l)) := by
  pointwise [k0_pay6]

/-- The mixed rows of a block, from a series of tokens of which the block holds the `n`th 512. -/
theorem shifted_apply (i : grid0.Coords) (x : Vec Ideal S1x512x1920 .bf16) (z1 z2 : Vec Ideal S1x1x1920 .bf16) (mb mn : Vec Ideal S1x1920 .f32)
    (p : Fin 2048 → EReal) (r : Fin 512) (l : Fin 1920) (n : Nat) (hn : n < 4) (hi : (i 1).val = n)
    (hx : ∀ k : Fin 512, x (ix3 0 k l) = p ⟨512 * n + k.val, by omega⟩)
    (h1 : ∀ h : 0 < n, z1 (ix3 0 0 l) = p ⟨512 * n - 1, by omega⟩) (h2 : ∀ h : n < 3, z2 (ix3 0 0 l) = p ⟨512 * n + 512, by omega⟩) :
    k0_pay6 (k0_pay3 x) (k0_pay4 i x z2) (k0_pay5 i x z1 mb) mn (ix2 r l)
      = shifted p (mb (ix2 0 l)) (mn (ix2 0 l)) ⟨512 * n + r.val, by omega⟩ := by
  have hr := r.isLt
  rw [mixed_apply, before_apply, next_apply, here_apply, hi, hx, hx, hx]
  have e1 : (if r.val = 0 then (if 0 < n then z1 (ix3 0 0 l) else 0) else p ⟨512 * n + (r.val + 511) % 512, by omega⟩)
      = previous p ⟨512 * n + r.val, by omega⟩ := by
    unfold previous
    simp only
    by_cases h0 : r.val = 0
    · rw [if_pos h0]
      by_cases hp : 0 < n
      · rw [if_pos hp, h1 hp, if_neg (by omega)]
        exact congrArg p (Fin.ext (by simp only; omega))
      · rw [if_neg hp, if_pos (by omega)]
    · rw [if_neg h0, if_neg (by omega)]
      exact congrArg p (Fin.ext (by simp only; omega))
  have e2 : (if r.val = 511 then (if n < 3 then z2 (ix3 0 0 l) else 0) else p ⟨512 * n + (r.val + 1) % 512, by omega⟩)
      = following p ⟨512 * n + r.val, by omega⟩ := by
    unfold following
    simp only
    by_cases h0 : r.val = 511
    · rw [if_pos h0]
      by_cases hp : n < 3
      · rw [if_pos hp, h2 hp, dif_pos (by omega)]
        exact congrArg p (Fin.ext (by simp only; omega))
      · rw [if_neg hp, dif_neg (by omega)]
    · rw [if_neg h0, dif_pos (by omega)]
      exact congrArg p (Fin.ext (by simp only; omega))
  rw [e1, e2]
  rfl

/-! The four pairs of heads of a result block. -/

/-- A store to the pair of heads `k`, read at an index. -/
theorem canon_pair (k : Nat) (h) (p : Vec Ideal S1x1x512x128 .bf16) (L : List (View.Piece (Elt Ideal) S1x4x512x128 .bf16)) (j : Fin 4) (r : Fin 512) (q : Fin 128) :
    View.canon (⟨Rect.unit (s := S1x4x512x128) ![0, k, 0, 0] S1x1x512x128.size h, p⟩ :: L) (ix4 0 j r q)
      = if j.val = k then p (ix4 0 0 r q) else View.canon L (ix4 0 j r q) := by
  by_cases hj : j.val = k
  · rw [if_pos hj]
    have he : (Rect.unit (s := S1x4x512x128) ![0, k, 0, 0] S1x1x512x128.size h).emb (ix4 (0 : Fin 1) (0 : Fin 1) r q) = ix4 0 j r q :=
      funext fun a => Fin.ext ((ValueKit.rect_emb_unit_val _ _ _ _ a).trans (by
        match a with
        | ⟨0, _⟩ => rfl
        | ⟨1, _⟩ => show k + 0 = j.val; omega
        | ⟨2, _⟩ => exact Nat.zero_add _
        | ⟨3, _⟩ => exact Nat.zero_add _))
    rw [← he]
    exact View.canon_cons_emb _ _ _ _
  · rw [if_neg hj]
    refine View.canon_cons_of_not_mem _ _ fun hm => hj ?_
    have hb : ix4 0 j r q ∈ (Rect.unit (s := S1x4x512x128) ![0, k, 0, 0] S1x1x512x128.size h).set := hm
    rw [Rect.mem_set_unit] at hb
    have hb' : k ≤ j.val ∧ j.val < k + 1 := hb 1
    omega

theorem canon_pairs (h0 h1 h2 h3) (p0 p1 p2 p3 : Vec Ideal S1x1x512x128 .bf16) (a : FVec Ideal S512x512 .f32) (j : Fin 4) (r : Fin 512) (q : Fin 128)
    (e0 : p0 (ix4 0 0 r q) = a (ix2 r ⟨q.val, by omega⟩)) (e1 : p1 (ix4 0 0 r q) = a (ix2 r ⟨128 + q.val, by omega⟩))
    (e2 : p2 (ix4 0 0 r q) = a (ix2 r ⟨256 + q.val, by omega⟩)) (e3 : p3 (ix4 0 0 r q) = a (ix2 r ⟨384 + q.val, by omega⟩)) :
    View.canon ([⟨Rect.unit (s := S1x4x512x128) ![0, 3, 0, 0] S1x1x512x128.size h3, p3⟩, ⟨Rect.unit (s := S1x4x512x128) ![0, 2, 0, 0] S1x1x512x128.size h2, p2⟩,
      ⟨Rect.unit (s := S1x4x512x128) ![0, 1, 0, 0] S1x1x512x128.size h1, p1⟩, ⟨Rect.unit (s := S1x4x512x128) ![0, 0, 0, 0] S1x1x512x128.size h0, p0⟩] :
        List (View.Piece (Elt Ideal) S1x4x512x128 .bf16)) (ix4 0 j r q) = a (ix2 r ⟨128 * j.val + q.val, by omega⟩) := by
  rw [canon_pair, canon_pair, canon_pair, canon_pair, e0, e1, e2, e3]
  match j with
  | ⟨0, _⟩ => exact congrArg (fun k => a (ix2 r k)) (Fin.ext (by show q.val = 128 * 0 + q.val; omega))
  | ⟨1, _⟩ => rfl
  | ⟨2, _⟩ => rfl
  | ⟨3, _⟩ => rfl

theorem left14_pair (i : grid0.Coords) (b : Blocks Ideal) (j : Fin 4) (r : Fin 512) (q : Fin 128) :
    left14 i b (ix4 0 j r q) = value3 i b (ix2 r ⟨128 * j.val + q.val, by omega⟩) := by
  unfold left14
  generalize value3 i b = a
  exact canon_pairs _ _ _ _ _ _ _ _ a j r q (by pointwise [k0_pay30]) (by pointwise [k0_pay41, k0_pay40]) (by pointwise [k0_pay50]) (by pointwise [k0_pay59])

theorem left15_pair (i : grid0.Coords) (b : Blocks Ideal) (j : Fin 4) (r : Fin 512) (q : Fin 128) :
    left15 i b (ix4 0 j r q) = value5 i b (ix2 r ⟨128 * j.val + q.val, by omega⟩) := by
  unfold left15
  generalize value5 i b = a
  exact canon_pairs _ _ _ _ _ _ _ _ a j r q (by pointwise [k0_pay31]) (by pointwise [k0_pay42]) (by pointwise [k0_pay51]) (by pointwise [k0_pay61, k0_pay60])

theorem receptance_apply (a b c : FVec Ideal S512x1920 .f32) (w : Vec Ideal S1x1920 .f32) (r : Fin 512) (l : Fin 512) :
    k0_pay7 a b c w (ix2 r l) = k0_pay6 a b c w (ix2 r ⟨l.val, by omega⟩) := by
  pointwise [k0_pay7]

theorem value_apply (a b c : FVec Ideal S512x1920 .f32) (w : Vec Ideal S1x1920 .f32) (r : Fin 512) (l : Fin 512) :
    k0_pay9 a b c w (ix2 r l) = k0_pay6 a b c w (ix2 r ⟨1024 + l.val, by omega⟩) := by
  pointwise [k0_pay9]

/-! Loads of whole blocks and of the rows next to a block. -/

theorem load0 (x : Vec Ideal S1x512x1920 .bf16) : View.ld x r0_0 = x :=
  funext fun y => congrArg x (funext fun a => Fin.ext ((ValueKit.rect_emb_unit_val _ _ _ _ a).trans (by
    match a with
    | ⟨0, _⟩ => exact Nat.zero_add _
    | ⟨1, _⟩ => exact Nat.zero_add _
    | ⟨2, _⟩ => exact Nat.zero_add _)))

theorem load3 (x : Vec Ideal S1x1920 .f32) : View.ld x r0_3 = x :=
  funext fun y => congrArg x (funext fun a => Fin.ext ((ValueKit.rect_emb_unit_val _ _ _ _ a).trans (by
    match a with
    | ⟨0, _⟩ => exact Nat.zero_add _
    | ⟨1, _⟩ => exact Nat.zero_add _)))

theorem load1 (x : Vec Ideal S1x16x1920 .bf16) (l : Fin 1920) : View.ld x r0_1 (ix3 0 0 l) = x (ix3 0 15 l) :=
  congrArg x (funext fun a => Fin.ext ((ValueKit.rect_emb_unit_val _ _ _ _ a).trans (by
    match a with
    | ⟨0, _⟩ => rfl
    | ⟨1, _⟩ => rfl
    | ⟨2, _⟩ => exact Nat.zero_add _)))

theorem load2 (x : Vec Ideal S1x16x1920 .bf16) (l : Fin 1920) : View.ld x r0_2 (ix3 0 0 l) = x (ix3 0 0 l) :=
  congrArg x (funext fun a => Fin.ext ((ValueKit.rect_emb_unit_val _ _ _ _ a).trans (by
    match a with
    | ⟨0, _⟩ => rfl
    | ⟨1, _⟩ => rfl
    | ⟨2, _⟩ => exact Nat.zero_add _)))

section

variable (i : grid0.Coords) (b : Blocks Ideal) (j : Fin 4) (r : Fin 512) (q : Fin 128) (n : Nat) (hn : n < 4) (hi : (i 1).val = n) (p : Fin 2048 → EReal)

/-- The receptance of a point's block. -/
theorem left14_apply (hx : ∀ k : Fin 512, b.x0 (ix3 0 k (⟨128 * j.val + q.val, by omega⟩ : Fin 1920)) = p ⟨512 * n + k.val, by omega⟩)
    (h1 : ∀ h : 0 < n, b.x1 (ix3 0 15 (⟨128 * j.val + q.val, by omega⟩ : Fin 1920)) = p ⟨512 * n - 1, by omega⟩)
    (h2 : ∀ h : n < 3, b.x2 (ix3 0 0 (⟨128 * j.val + q.val, by omega⟩ : Fin 1920)) = p ⟨512 * n + 512, by omega⟩) :
    left14 i b (ix4 0 j r q) = shifted p (b.x3 (ix2 0 (⟨128 * j.val + q.val, by omega⟩ : Fin 1920))) (b.x4 (ix2 0 (⟨128 * j.val + q.val, by omega⟩ : Fin 1920)))
      ⟨512 * n + r.val, by omega⟩ := by
  rw [left14_pair]
  unfold value3 value0 value1 value2
  rw [receptance_apply, load0, load3, load3]
  exact shifted_apply i _ _ _ _ _ p r _ n hn hi hx (fun h => (load1 _ _).trans (h1 h)) (fun h => (load2 _ _).trans (h2 h))

/-- The values of a point's block. -/
theorem left15_apply (hx : ∀ k : Fin 512, b.x0 (ix3 0 k (⟨1024 + (128 * j.val + q.val), by omega⟩ : Fin 1920)) = p ⟨512 * n + k.val, by omega⟩)
    (h1 : ∀ h : 0 < n, b.x1 (ix3 0 15 (⟨1024 + (128 * j.val + q.val), by omega⟩ : Fin 1920)) = p ⟨512 * n - 1, by omega⟩)
    (h2 : ∀ h : n < 3, b.x2 (ix3 0 0 (⟨1024 + (128 * j.val + q.val), by omega⟩ : Fin 1920)) = p ⟨512 * n + 512, by omega⟩) :
    left15 i b (ix4 0 j r q) = shifted p (b.x3 (ix2 0 (⟨1024 + (128 * j.val + q.val), by omega⟩ : Fin 1920)))
      (b.x4 (ix2 0 (⟨1024 + (128 * j.val + q.val), by omega⟩ : Fin 1920))) ⟨512 * n + r.val, by omega⟩ := by
  rw [left15_pair]
  unfold value5 value0 value1 value2
  rw [value_apply, load0, load3, load3]
  exact shifted_apply i _ _ _ _ _ p r _ n hn hi hx (fun h => (load1 _ _).trans (h1 h)) (fun h => (load2 _ _).trans (h2 h))

end

end Cert.Shift.Point

end
-- ==== Proof.ShiftArray.lean ====
/- The receptance and the values that the shift kernel leaves, entry by entry. -/
module

public import proofs.«01_k».proof.Proof.ShiftLaunch
public import proofs.«01_k».proof.Proof.ShiftBlock

@[expose] public section

set_option maxRecDepth 16384

noncomputable section

namespace Cert.Shift.Point

open Cert.Shift Cert.Shift.Gen
open Idealize.ShloMosaic Idealize.ShloMosaic.TcCoe
open Idealize.ShloMosaic.Pipeline (Dat)

theorem index0 : ∀ t : Fin grid0.N, win0_0.index t 0 = t.val / 4 ∧ win0_0.index t 1 = t.val % 4 ∧ win0_0.index t 2 = 0 := by decide +kernel
theorem index1 : ∀ t : Fin grid0.N, win0_1.index t 0 = t.val / 4 ∧ win0_1.index t 1 = 32 * (t.val % 4) - 1 ∧ win0_1.index t 2 = 0 := by decide +kernel
theorem index2 : ∀ t : Fin grid0.N, win0_2.index t 0 = t.val / 4 ∧ win0_2.index t 1 = min (32 * (t.val % 4) + 32) 127 ∧ win0_2.index t 2 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index14 : ∀ t : Fin grid0.N, win0_14.index t 0 = t.val / 4 ∧ win0_14.index t 1 = 0 ∧ win0_14.index t 2 = t.val % 4 ∧ win0_14.index t 3 = 0 := by decide +kernel
theorem index15 : ∀ t : Fin grid0.N, win0_15.index t 0 = t.val / 4 ∧ win0_15.index t 1 = 0 ∧ win0_15.index t 2 = t.val % 4 ∧ win0_15.index t 3 = 0 := by decide +kernel
theorem coord1 : ∀ t : Fin grid0.N, (grid0.coords t 1).val = t.val % 4 := by decide +kernel

theorem point_lt (t : Fin grid0.N) : t.val < 64 := t.isLt

variable (m : (ℓ : Loc nD τ sig) → Buf (Elt Ideal) ℓ) (c : Dev nD)

/-- Column `l` of the tokens of batch entry `b`. -/
def series (b : Fin 16) (l : Fin 1920) (s : Fin 2048) : EReal := m ((c : Thread nD τ).loc main_arg0) (ix3 b s l)

/-- Column `l` of the weights of the token before, and of the token after. -/
def weightBefore (l : Fin 1920) : EReal := m ((c : Thread nD τ).loc main_arg1) (ix2 (0 : Fin 1) l)
def weightAfter (l : Fin 1920) : EReal := m ((c : Thread nD τ).loc main_arg2) (ix2 (0 : Fin 1) l)

/-- The shifted entry of token `s` in column `l` of batch entry `b`. -/
def entry (b : Fin 16) (l : Fin 1920) (s : Fin 2048) : EReal := shifted (series m c b l) (weightBefore m c l) (weightAfter m c l) s

/-- The batch entry of a point. -/
def batch (t : Fin grid0.N) : Fin 16 := ⟨t.val / 4, by have := point_lt t; omega⟩

theorem read0 (t : Fin grid0.N) (k : Fin 512) (l : Fin 1920) : iblk m c 0 t (ix3 0 k l) = series m c (batch t) l ⟨512 * (t.val % 4) + k.val, by omega⟩ := by
  show ((cfg0.win 0).blk t).view.read (Elt Ideal) (V m c main_arg0) (ix3 0 k l) = _
  rw [V_main_arg0]
  obtain ⟨h0, h1, h2⟩ := index0 t
  refine congrArg (m ((c : Thread nD τ).loc main_arg0)) (funext fun a => Fin.ext ((ValueKit.rect_emb_unit_val _ _ _ _ a).trans ?_))
  match a with
  | ⟨0, _⟩ => show win0_0.index t 0 * 1 + 0 = t.val / 4; omega
  | ⟨1, _⟩ => show win0_0.index t 1 * 512 + k.val = 512 * (t.val % 4) + k.val; omega
  | ⟨2, _⟩ => show win0_0.index t 2 * 1920 + l.val = l.val; omega

theorem read1 (t : Fin grid0.N) (l : Fin 1920) (h : 0 < t.val % 4) :
    iblk m c 1 t (ix3 0 15 l) = series m c (batch t) l ⟨512 * (t.val % 4) - 1, by omega⟩ := by
  show ((cfg0.win 1).blk t).view.read (Elt Ideal) (V m c main_arg0) (ix3 0 15 l) = _
  rw [V_main_arg0]
  obtain ⟨h0, h1, h2⟩ := index1 t
  refine congrArg (m ((c : Thread nD τ).loc main_arg0)) (funext fun a => Fin.ext ((ValueKit.rect_emb_unit_val _ _ _ _ a).trans ?_))
  match a with
  | ⟨0, _⟩ => show win0_1.index t 0 * 1 + 0 = t.val / 4; omega
  | ⟨1, _⟩ => show win0_1.index t 1 * 16 + 15 = 512 * (t.val % 4) - 1; omega
  | ⟨2, _⟩ => show win0_1.index t 2 * 1920 + l.val = l.val; omega

theorem read2 (t : Fin grid0.N) (l : Fin 1920) (h : t.val % 4 < 3) :
    iblk m c 2 t (ix3 0 0 l) = series m c (batch t) l ⟨512 * (t.val % 4) + 512, by omega⟩ := by
  show ((cfg0.win 2).blk t).view.read (Elt Ideal) (V m c main_arg0) (ix3 0 0 l) = _
  rw [V_main_arg0]
  obtain ⟨h0, h1, h2⟩ := index2 t
  refine congrArg (m ((c : Thread nD τ).loc main_arg0)) (funext fun a => Fin.ext ((ValueKit.rect_emb_unit_val _ _ _ _ a).trans ?_))
  match a with
  | ⟨0, _⟩ => show win0_2.index t 0 * 1 + 0 = t.val / 4; omega
  | ⟨1, _⟩ => show win0_2.index t 1 * 16 + 0 = 512 * (t.val % 4) + 512; omega
  | ⟨2, _⟩ => show win0_2.index t 2 * 1920 + l.val = l.val; omega

theorem read3 (t : Fin grid0.N) (l : Fin 1920) : iblk m c 3 t (ix2 0 l) = weightBefore m c l := by
  show ((cfg0.win 3).blk t).view.read (Elt Ideal) (V m c main_arg1) (ix2 0 l) = _
  rw [V_main_arg1]
  obtain ⟨h0, h1⟩ := index3 t
  refine congrArg (m ((c : Thread nD τ).loc main_arg1)) (funext fun a => Fin.ext ((ValueKit.rect_emb_unit_val _ _ _ _ a).trans ?_))
  match a with
  | ⟨0, _⟩ => show win0_3.index t 0 * 1 + 0 = 0; omega
  | ⟨1, _⟩ => show win0_3.index t 1 * 1920 + l.val = l.val; omega

theorem read4 (t : Fin grid0.N) (l : Fin 1920) : iblk m c 4 t (ix2 0 l) = weightAfter m c l := by
  show ((cfg0.win 4).blk t).view.read (Elt Ideal) (V m c main_arg2) (ix2 0 l) = _
  rw [V_main_arg2]
  obtain ⟨h0, h1⟩ := index4 t
  refine congrArg (m ((c : Thread nD τ).loc main_arg2)) (funext fun a => Fin.ext ((ValueKit.rect_emb_unit_val _ _ _ _ a).trans ?_))
  match a with
  | ⟨0, _⟩ => show win0_4.index t 0 * 1 + 0 = 0; omega
  | ⟨1, _⟩ => show win0_4.index t 1 * 1920 + l.val = l.val; omega

/-- The receptance, by pairs of heads. -/
def receptance : Buf (Elt Ideal) ((c : Thread nD τ).loc main_v29_0) := fun i : S16x4x2048x128.Idx =>
  have h1 : (i 1).val < 4 := (i 1).isLt
  have h3 : (i 3).val < 128 := (i 3).isLt
  entry m c (i 0) ⟨128 * (i 1).val + (i 3).val, by omega⟩ (i 2)

/-- The values, by pairs of heads. -/
def values : Buf (Elt Ideal) ((c : Thread nD τ).loc main_v29_1) := fun i : S16x4x2048x128.Idx =>
  have h1 : (i 1).val < 4 := (i 1).isLt
  have h3 : (i 3).val < 128 := (i 3).isLt
  entry m c (i 0) ⟨1024 + (128 * (i 1).val + (i 3).val), by omega⟩ (i 2)

/-- Row `r` of a point's block as a token. -/
def tokenOf (t : Fin grid0.N) (r : Fin 512) : Fin 2048 := ⟨512 * (t.val % 4) + r.val, by omega⟩

theorem left14_eq (t : Fin grid0.N) (j : Fin 4) (r : Fin 512) (q : Fin 128) :
    left14 (grid0.coords t) (blocks m c t) (ix4 0 j r q) = entry m c (batch t) ⟨128 * j.val + q.val, by omega⟩ (tokenOf t r) := by
  refine (left14_apply _ _ j r q (t.val % 4) (Nat.mod_lt _ (by decide)) (coord1 t) (series m c (batch t) ⟨128 * j.val + q.val, by omega⟩)
    (fun k => read0 m c t k _) (fun h => read1 m c t _ h) (fun h => read2 m c t _ h)).trans ?_
  exact congrArg₂ (fun u v => shifted _ u v _) (read3 m c t _) (read4 m c t _)

theorem left15_eq (t : Fin grid0.N) (j : Fin 4) (r : Fin 512) (q : Fin 128) :
    left15 (grid0.coords t) (blocks m c t) (ix4 0 j r q) = entry m c (batch t) ⟨1024 + (128 * j.val + q.val), by omega⟩ (tokenOf t r) := by
  refine (left15_apply _ _ j r q (t.val % 4) (Nat.mod_lt _ (by decide)) (coord1 t) (series m c (batch t) ⟨1024 + (128 * j.val + q.val), by omega⟩)
    (fun k => read0 m c t k _) (fun h => read1 m c t _ h) (fun h => read2 m c t _ h)).trans ?_
  exact congrArg₂ (fun u v => shifted _ u v _) (read3 m c t _) (read4 m c t _)

theorem flushed14 (t : Fin cfg0.N) : (dats m 0 c).flushed 14 t = ((cfg0.win 14).blk t).view.read (Elt Ideal) (receptance m c) := by
  show (cfg0.win 14).cut (grid0.coords t) ((dats m 0 c).after 14 t) = _
  rw [after0_14]
  funext y
  obtain ⟨h0, h1, h2, h3⟩ := index14 t
  have hy0 : (y 0).val < 1 := (y 0).isLt
  have hy1 : (y 1).val < 4 := (y 1).isLt
  have hy2 : (y 2).val < 512 := (y 2).isLt
  have hy3 : (y 3).val < 128 := (y 3).isLt
  have hl : (cfg0.win 14).xinj (grid0.coords t) y = ix4 (0 : Fin 1) (⟨(y 1).val, hy1⟩ : Fin 4) (⟨(y 2).val, hy2⟩ : Fin 512) (⟨(y 3).val, hy3⟩ : Fin 128) :=
    funext fun a => Fin.ext (by
      match a with
      | ⟨0, _⟩ => show (y 0).val = 0; omega
      | ⟨1, _⟩ => rfl
      | ⟨2, _⟩ => rfl
      | ⟨3, _⟩ => rfl)
  have hr : ((cfg0.win 14).blk t).view.emb y = ix4 (batch t) (⟨(y 1).val, hy1⟩ : Fin 4) (tokenOf t ⟨(y 2).val, hy2⟩) (⟨(y 3).val, hy3⟩ : Fin 128) :=
    funext fun a => Fin.ext ((ValueKit.rect_emb_unit_val _ _ _ _ a).trans (by
      match a with
      | ⟨0, _⟩ => show win0_14.index t 0 * 1 + (y 0).val = t.val / 4; omega
      | ⟨1, _⟩ => show win0_14.index t 1 * 4 + (y 1).val = (y 1).val; omega
      | ⟨2, _⟩ => show win0_14.index t 2 * 512 + (y 2).val = 512 * (t.val % 4) + (y 2).val; omega
      | ⟨3, _⟩ => show win0_14.index t 3 * 128 + (y 3).val = (y 3).val; omega))
  show left14 _ _ ((cfg0.win 14).xinj (grid0.coords t) y) = receptance m c (((cfg0.win 14).blk t).view.emb y)
  rw [hl, hr]
  exact left14_eq m c t _ _ _

theorem flushed15 (t : Fin cfg0.N) : (dats m 0 c).flushed 15 t = ((cfg0.win 15).blk t).view.read (Elt Ideal) (values m c) := by
  show (cfg0.win 15).cut (grid0.coords t) ((dats m 0 c).after 15 t) = _
  rw [after0_15]
  funext y
  obtain ⟨h0, h1, h2, h3⟩ := index15 t
  have hy0 : (y 0).val < 1 := (y 0).isLt
  have hy1 : (y 1).val < 4 := (y 1).isLt
  have hy2 : (y 2).val < 512 := (y 2).isLt
  have hy3 : (y 3).val < 128 := (y 3).isLt
  have hl : (cfg0.win 15).xinj (grid0.coords t) y = ix4 (0 : Fin 1) (⟨(y 1).val, hy1⟩ : Fin 4) (⟨(y 2).val, hy2⟩ : Fin 512) (⟨(y 3).val, hy3⟩ : Fin 128) :=
    funext fun a => Fin.ext (by
      match a with
      | ⟨0, _⟩ => show (y 0).val = 0; omega
      | ⟨1, _⟩ => rfl
      | ⟨2, _⟩ => rfl
      | ⟨3, _⟩ => rfl)
  have hr : ((cfg0.win 15).blk t).view.emb y = ix4 (batch t) (⟨(y 1).val, hy1⟩ : Fin 4) (tokenOf t ⟨(y 2).val, hy2⟩) (⟨(y 3).val, hy3⟩ : Fin 128) :=
    funext fun a => Fin.ext ((ValueKit.rect_emb_unit_val _ _ _ _ a).trans (by
      match a with
      | ⟨0, _⟩ => show win0_15.index t 0 * 1 + (y 0).val = t.val / 4; omega
      | ⟨1, _⟩ => show win0_15.index t 1 * 4 + (y 1).val = (y 1).val; omega
      | ⟨2, _⟩ => show win0_15.index t 2 * 512 + (y 2).val = 512 * (t.val % 4) + (y 2).val; omega
      | ⟨3, _⟩ => show win0_15.index t 3 * 128 + (y 3).val = (y 3).val; omega))
  show left15 _ _ ((cfg0.win 15).xinj (grid0.coords t) y) = values m c (((cfg0.win 15).blk t).view.emb y)
  rw [hl, hr]
  exact left15_eq m c t _ _ _

theorem cover14 (i : S16x4x2048x128.Idx) : ∃ t : Fin cfg0.N, (cfg0.win 14).flush t = true ∧ i ∈ ((cfg0.win 14).blk t).view.set := by
  have h0 : (i 0).val < 16 := (i 0).isLt
  have h1 : (i 1).val < 4 := (i 1).isLt
  have h2 : (i 2).val < 2048 := (i 2).isLt
  have h3 : (i 3).val < 128 := (i 3).isLt
  have ht : 4 * (i 0).val + (i 2).val / 512 < grid0.N := by show _ < 64; omega
  refine ⟨⟨4 * (i 0).val + (i 2).val / 512, ht⟩, flush0_14 _, ?_⟩
  obtain ⟨e0, e1, e2, e3⟩ := index14 ⟨4 * (i 0).val + (i 2).val / 512, ht⟩
  show i ∈ ((View.whole main_v29_0).slice (win0_14.rect ⟨4 * (i 0).val + (i 2).val / 512, ht⟩)).set
  rw [View.set_slice_whole, Rect.mem_set_unit]
  intro a
  match a with
  | ⟨0, _⟩ => show win0_14.index _ 0 * 1 ≤ (i 0).val ∧ (i 0).val < win0_14.index _ 0 * 1 + 1; rw [e0]; simp only; omega
  | ⟨1, _⟩ => show win0_14.index _ 1 * 4 ≤ (i 1).val ∧ (i 1).val < win0_14.index _ 1 * 4 + 4; rw [e1]; omega
  | ⟨2, _⟩ => show win0_14.index _ 2 * 512 ≤ (i 2).val ∧ (i 2).val < win0_14.index _ 2 * 512 + 512; rw [e2]; simp only; omega
  | ⟨3, _⟩ => show win0_14.index _ 3 * 128 ≤ (i 3).val ∧ (i 3).val < win0_14.index _ 3 * 128 + 128; rw [e3]; omega

theorem cover15 (i : S16x4x2048x128.Idx) : ∃ t : Fin cfg0.N, (cfg0.win 15).flush t = true ∧ i ∈ ((cfg0.win 15).blk t).view.set := by
  have h0 : (i 0).val < 16 := (i 0).isLt
  have h1 : (i 1).val < 4 := (i 1).isLt
  have h2 : (i 2).val < 2048 := (i 2).isLt
  have h3 : (i 3).val < 128 := (i 3).isLt
  have ht : 4 * (i 0).val + (i 2).val / 512 < grid0.N := by show _ < 64; omega
  refine ⟨⟨4 * (i 0).val + (i 2).val / 512, ht⟩, flush0_15 _, ?_⟩
  obtain ⟨e0, e1, e2, e3⟩ := index15 ⟨4 * (i 0).val + (i 2).val / 512, ht⟩
  show i ∈ ((View.whole main_v29_1).slice (win0_15.rect ⟨4 * (i 0).val + (i 2).val / 512, ht⟩)).set
  rw [View.set_slice_whole, Rect.mem_set_unit]
  intro a
  match a with
  | ⟨0, _⟩ => show win0_15.index _ 0 * 1 ≤ (i 0).val ∧ (i 0).val < win0_15.index _ 0 * 1 + 1; rw [e0]; simp only; omega
  | ⟨1, _⟩ => show win0_15.index _ 1 * 4 ≤ (i 1).val ∧ (i 1).val < win0_15.index _ 1 * 4 + 4; rw [e1]; omega
  | ⟨2, _⟩ => show win0_15.index _ 2 * 512 ≤ (i 2).val ∧ (i 2).val < win0_15.index _ 2 * 512 + 512; rw [e2]; simp only; omega
  | ⟨3, _⟩ => show win0_15.index _ 3 * 128 ≤ (i 3).val ∧ (i 3).val < win0_15.index _ 3 * 128 + 128; rw [e3]; omega

theorem final14 : (dats m 0 c).arrAt 14 cfg0.N = receptance m c :=
  (dats m 0 c).arrAt_eq_of_cover 14 (receptance m c) (fun t _ => flushed14 m c t) cover14

theorem final15 : (dats m 0 c).arrAt 15 cfg0.N = values m c :=
  (dats m 0 c).arrAt_eq_of_cover 15 (values m c) (fun t _ => flushed15 m c t) cover15

end Cert.Shift.Point

end
-- ==== Proof.ShiftSameBody.lean ====
/- The body of the shift kernel and of its idealization are one text. -/
module

public import proofs.«01_k».proof.Proof.Gen.Shift.Skeleton
public import proofs.«01_k».proof.Proof.Gen.ShiftIdeal.Skeleton

@[expose] public section

set_option maxRecDepth 16384
set_option maxHeartbeats 400000

namespace Cert.Shift.Same

open Idealize.ShloMosaic

variable {F : FTy → Type} [FloatOps F]

theorem body : @Cert.ShiftIdeal.cc0_rwkv_prep F _ Cert.ShiftIdeal.Gen.facts = @Cert.Shift.cc0_rwkv_prep F _ Cert.Shift.Gen.facts := rfl

end Cert.Shift.Same

end
-- ==== Proof.ShiftSame.lean ====
/- The shift kernel's program and its idealization are one text. -/
module

public import proofs.«01_k».proof.Proof.ShiftSameBody

@[expose] public section

set_option maxRecDepth 16384
set_option maxHeartbeats 4000000

namespace Cert.Shift.Same

open Idealize.ShloMosaic

variable {F : FTy → Type} [FloatOps F]

theorem defs₀ : @Cert.ShiftIdeal.defs₀ F _ Cert.ShiftIdeal.Gen.facts = @Cert.Shift.defs₀ F _ Cert.Shift.Gen.facts := by
  unfold Cert.ShiftIdeal.defs₀ Cert.Shift.defs₀
  rw [body]
  refine congrArg (Defs.onTc (nD := Cert.Shift.nD) (τ := Cert.Shift.τ) (sig := Cert.Shift.sig) (Val := Elt F) (Λ := Cert.Shift.Λ₀)) ?_
  funext l x
  match l, x with
  | ⟨0, _⟩, (t, s) => rfl

theorem defs : @Cert.ShiftIdeal.defs F _ Cert.ShiftIdeal.Gen.facts = @Cert.Shift.defs F _ Cert.Shift.Gen.facts := by
  unfold Cert.ShiftIdeal.defs Cert.Shift.defs
  rw [defs₀]
  rfl

theorem main : @Cert.ShiftIdeal.main F _ Cert.ShiftIdeal.Gen.facts = @Cert.Shift.main F _ Cert.Shift.Gen.facts := by
  unfold Cert.ShiftIdeal.main Cert.Shift.main
  rfl

end Cert.Shift.Same

end
-- ==== Proof.ShiftRef.lean ====
/- The reference's token shift, read at an index. -/
module

public import proofs.«01_k».proof.Proof.Gen.ShiftReferenceIdeal.Read
public import proofs.«01_k».proof.Proof.ShiftSpec
public import Idealize.ShloMosaic.Lib.Pointwise

@[expose] public section

noncomputable section

namespace Cert.ShiftReferenceIdeal.Entry

open Cert.ShiftReferenceIdeal Cert.ShiftReferenceIdeal.Gen Cert.ShiftReferenceIdeal.Read Idealize.ShloMosaic

variable (x0 : (⟨S16x2048x1920, .bf16⟩ : BufTy).Contents (Elt Ideal)) (x1 x2 : (⟨S1x1920, .f32⟩ : BufTy).Contents (Elt Ideal))

theorem zero_apply (i : S16x1x1920.Idx) : val_main_v1 (F := Ideal) i = 0 := by
  rw [val_main_v1_apply]
  show Ideal.ofBits .f32 0x00000000#32 = 0
  simp [Ideal.ofBits, Ideal.ieee]

theorem early_apply (b : Fin 16) (s : Fin 2047) (l : Fin 1920) : val_main_v2 (F := Ideal) x0 (ix3 b s l) = x0 (ix3 b ⟨s.val, by omega⟩ l) := by
  rw [val_main_v2_apply, val_main_v0_apply]
  refine congrArg x0 (funext fun a => Fin.ext ?_)
  match a with
  | ⟨0, _⟩ => rfl
  | ⟨1, _⟩ => rfl
  | ⟨2, _⟩ => rfl

theorem late_apply (b : Fin 16) (s : Fin 2047) (l : Fin 1920) : val_main_v4 (F := Ideal) x0 (ix3 b s l) = x0 (ix3 b ⟨1 + s.val, by omega⟩ l) := by
  rw [val_main_v4_apply, val_main_v0_apply]
  refine congrArg x0 (funext fun a => Fin.ext ?_)
  match a with
  | ⟨0, _⟩ => rfl
  | ⟨1, _⟩ => rfl
  | ⟨2, _⟩ => rfl

/-- The joined array of the tokens before reads the zero row at the first token and the row above elsewhere. -/
theorem front_apply (z : Vec Ideal S16x1x1920 .f32) (w : Vec Ideal S16x2047x1920 .f32) (h) (b : Fin 16) (s : Fin 2048) (l : Fin 1920) :
    concatenate S16x2048x1920 1 [⟨S16x1x1920, z⟩, ⟨S16x2047x1920, w⟩] h (ix3 b s l)
      = if h : s.val < 1 then z (ix3 b ⟨s.val, h⟩ l) else w (ix3 b ⟨s.val - 1, by omega⟩ l) := by
  pointwise

/-- The joined array of the tokens after reads the row below, and the zero row at the last token. -/
theorem back_apply (z : Vec Ideal S16x1x1920 .f32) (w : Vec Ideal S16x2047x1920 .f32) (h) (b : Fin 16) (s : Fin 2048) (l : Fin 1920) :
    concatenate S16x2048x1920 1 [⟨S16x2047x1920, w⟩, ⟨S16x1x1920, z⟩] h (ix3 b s l)
      = if h : s.val < 2047 then w (ix3 b ⟨s.val, h⟩ l) else z (ix3 b ⟨s.val - 2047, by omega⟩ l) := by
  pointwise

/-- Column `l` of batch entry `b`. -/
def column (b : Fin 16) (l : Fin 1920) (s : Fin 2048) : EReal := x0 (ix3 b s l)

theorem before_apply (b : Fin 16) (s : Fin 2048) (l : Fin 1920) : val_main_v3 (F := Ideal) x0 (ix3 b s l) = Cert.Shift.previous (column x0 b l) s := by
  refine (front_apply _ _ _ b s l).trans ?_
  unfold Cert.Shift.previous
  by_cases h : s.val = 0
  · rw [if_pos h]
    exact (dif_pos (by omega)).trans (zero_apply _)
  · rw [if_neg h]
    exact (dif_neg (by omega)).trans (early_apply x0 b ⟨s.val - 1, by omega⟩ l)

theorem after_apply (b : Fin 16) (s : Fin 2048) (l : Fin 1920) : val_main_v5 (F := Ideal) x0 (ix3 b s l) = Cert.Shift.following (column x0 b l) s := by
  refine (back_apply _ _ _ b s l).trans ?_
  unfold Cert.Shift.following
  by_cases h : s.val + 1 < 2048
  · refine (dif_pos (by omega)).trans ((late_apply x0 b ⟨s.val, by omega⟩ l).trans ?_)
    refine Eq.trans ?_ (dif_pos h).symm
    exact congrArg (column x0 b l) (Fin.ext (Nat.add_comm 1 s.val))
  · refine (dif_neg (by omega)).trans ((zero_apply _).trans ?_)
    rw [dif_neg h]

theorem weight_before (b : Fin 16) (s : Fin 2048) (l : Fin 1920) : val_main_v9 (F := Ideal) x1 (ix3 b s l) = x1 (ix2 0 l) := by
  rw [val_main_v9_apply, val_main_v8_apply, val_main_v6_apply]
  refine congrArg x1 (funext fun a => Fin.ext ?_)
  match a with
  | ⟨0, _⟩ => rfl
  | ⟨1, _⟩ => exact Nat.mod_eq_of_lt l.isLt

theorem weight_after (b : Fin 16) (s : Fin 2048) (l : Fin 1920) : val_main_v15 (F := Ideal) x2 (ix3 b s l) = x2 (ix2 0 l) := by
  rw [val_main_v15_apply, val_main_v14_apply, val_main_v12_apply]
  refine congrArg x2 (funext fun a => Fin.ext ?_)
  match a with
  | ⟨0, _⟩ => rfl
  | ⟨1, _⟩ => exact Nat.mod_eq_of_lt l.isLt

/-- The reference's shifted tokens. -/
theorem shifted_apply (b : Fin 16) (s : Fin 2048) (l : Fin 1920) :
    val_main_v17 (F := Ideal) x0 x1 x2 (ix3 b s l) = Cert.Shift.shifted (column x0 b l) (x1 (ix2 0 l)) (x2 (ix2 0 l)) s := by
  rw [val_main_v17_apply, val_main_v11_apply, val_main_v10_apply, val_main_v16_apply, val_main_v7_apply, val_main_v13_apply,
    before_apply, after_apply, weight_before, weight_after]
  rfl

theorem first (b : Fin 16) (j : Fin 4) (s : Fin 2048) (q : Fin 128) :
    val_main_v21 (F := Ideal) x0 x1 x2 (ix4 b j s q)
      = Cert.Shift.shifted (column x0 b ⟨128 * j.val + q.val, by omega⟩) (x1 (ix2 0 ⟨128 * j.val + q.val, by omega⟩)) (x2 (ix2 0 ⟨128 * j.val + q.val, by omega⟩)) s := by
  rw [val_main_v21_apply]
  show val_main_v20 (F := Ideal) x0 x1 x2 (ix4 b j s q) = _
  rw [val_main_v20_apply, val_main_v19_apply, val_main_v18_apply]
  refine Eq.trans (congrArg _ (funext fun a => Fin.ext ?_)) (shifted_apply x0 x1 x2 b s _)
  match a with
  | ⟨0, _⟩ => show (((b.val * 2048 + s.val) * 4 + j.val) * 128 + q.val) / 1048576 = b.val; omega
  | ⟨1, _⟩ => show (((b.val * 2048 + s.val) * 4 + j.val) * 128 + q.val) / 512 % 2048 = s.val; omega
  | ⟨2, _⟩ => show (((b.val * 2048 + s.val) * 4 + j.val) * 128 + q.val) % 512 = 128 * j.val + q.val; omega

theorem second (b : Fin 16) (j : Fin 4) (s : Fin 2048) (q : Fin 128) :
    val_main_v25 (F := Ideal) x0 x1 x2 (ix4 b j s q)
      = Cert.Shift.shifted (column x0 b ⟨1024 + (128 * j.val + q.val), by omega⟩) (x1 (ix2 0 ⟨1024 + (128 * j.val + q.val), by omega⟩))
        (x2 (ix2 0 ⟨1024 + (128 * j.val + q.val), by omega⟩)) s := by
  rw [val_main_v25_apply]
  show val_main_v24 (F := Ideal) x0 x1 x2 (ix4 b j s q) = _
  rw [val_main_v24_apply, val_main_v23_apply, val_main_v22_apply]
  refine Eq.trans (congrArg _ (funext fun a => Fin.ext ?_)) (shifted_apply x0 x1 x2 b s _)
  match a with
  | ⟨0, _⟩ => show (((b.val * 2048 + s.val) * 4 + j.val) * 128 + q.val) / 1048576 = b.val; omega
  | ⟨1, _⟩ => show (((b.val * 2048 + s.val) * 4 + j.val) * 128 + q.val) / 512 % 2048 = s.val; omega
  | ⟨2, _⟩ => show 1024 + (((b.val * 2048 + s.val) * 4 + j.val) * 128 + q.val) % 512 = 1024 + (128 * j.val + q.val); omega

end Cert.ShiftReferenceIdeal.Entry

end
-- ==== Proof.Shifts.lean ====
/- The claims about the shift kernel. -/
module

public import proofs.«01_k».proof.Defs
public import proofs.«01_k».proof.Proof.ShiftArray
public import proofs.«01_k».proof.Proof.ShiftSame
public import proofs.«01_k».proof.Proof.ShiftRef
public import proofs.«01_k».proof.Proof.Gen.ShiftReferenceIdeal.Run
public import Idealize.ShloMosaic.Adequacy

@[expose] public section

set_option maxRecDepth 16384
set_option maxHeartbeats 4000000

noncomputable section

namespace Cert.ShiftClaims

open Idealize.ShloMosaic Idealize.ShloMosaic.TcCoe Idealize.SL.Sem
open Cert.Shift.Point (dats A_eq run_main run_main_quiescent)

/-- The kernel at any float: it runs, leaves its arguments, and ends with the semaphores at zero. -/
theorem quiet {F : FTy → Type} [FloatOps F] (m : (ℓ : Loc Cert.Shift.nD Cert.Shift.τ Cert.Shift.sig) → Buf (Elt F) ℓ) (ρ : Dev Cert.Shift.nD → PrngReg) :
    θ_run (@Cert.Shift.defs F _ Cert.Shift.Gen.facts) (onTc (τ := Cert.Shift.τ) (@Cert.Shift.main F _ Cert.Shift.Gen.facts)) ⟨m, fun _ => 0, ρ⟩
      (fun r => (Pipeline.FramePost Cert.Shift.cfgs (dats m) 0 (Cert.Shift.Gen.V m) r) ∧ (∀ c : Dev Cert.Shift.nD,
      r.2.mem ((c : Thread Cert.Shift.nD Cert.Shift.τ).loc Cert.Shift.main_arg0) = m ((c : Thread Cert.Shift.nD Cert.Shift.τ).loc Cert.Shift.main_arg0)
      ∧ r.2.mem ((c : Thread Cert.Shift.nD Cert.Shift.τ).loc Cert.Shift.main_arg1) = m ((c : Thread Cert.Shift.nD Cert.Shift.τ).loc Cert.Shift.main_arg1)
      ∧ r.2.mem ((c : Thread Cert.Shift.nD Cert.Shift.τ).loc Cert.Shift.main_arg2) = m ((c : Thread Cert.Shift.nD Cert.Shift.τ).loc Cert.Shift.main_arg2)
      ∧ r.2.mem ((c : Thread Cert.Shift.nD Cert.Shift.τ).loc Cert.Shift.main_arg3) = m ((c : Thread Cert.Shift.nD Cert.Shift.τ).loc Cert.Shift.main_arg3)
      ∧ r.2.mem ((c : Thread Cert.Shift.nD Cert.Shift.τ).loc Cert.Shift.main_arg4) = m ((c : Thread Cert.Shift.nD Cert.Shift.τ).loc Cert.Shift.main_arg4)
      ∧ r.2.mem ((c : Thread Cert.Shift.nD Cert.Shift.τ).loc Cert.Shift.main_arg5) = m ((c : Thread Cert.Shift.nD Cert.Shift.τ).loc Cert.Shift.main_arg5)
      ∧ r.2.mem ((c : Thread Cert.Shift.nD Cert.Shift.τ).loc Cert.Shift.main_arg6) = m ((c : Thread Cert.Shift.nD Cert.Shift.τ).loc Cert.Shift.main_arg6)
      ∧ r.2.mem ((c : Thread Cert.Shift.nD Cert.Shift.τ).loc Cert.Shift.main_arg7) = m ((c : Thread Cert.Shift.nD Cert.Shift.τ).loc Cert.Shift.main_arg7)
      ∧ r.2.mem ((c : Thread Cert.Shift.nD Cert.Shift.τ).loc Cert.Shift.main_arg8) = m ((c : Thread Cert.Shift.nD Cert.Shift.τ).loc Cert.Shift.main_arg8)
      ∧ r.2.mem ((c : Thread Cert.Shift.nD Cert.Shift.τ).loc Cert.Shift.main_arg9) = m ((c : Thread Cert.Shift.nD Cert.Shift.τ).loc Cert.Shift.main_arg9)
      ∧ r.2.mem ((c : Thread Cert.Shift.nD Cert.Shift.τ).loc Cert.Shift.main_arg10) = m ((c : Thread Cert.Shift.nD Cert.Shift.τ).loc Cert.Shift.main_arg10))
      ∧ r.2.sem = fun _ => 0) :=
  (θ_run Cert.Shift.defs _ _).mono (fun _ h => ⟨h.2.1, h.1, h.2.2⟩)
    (θ_run_and (Cert.Shift.Gen.frame_of m ρ (dats m) (A_eq m) (run_main m ρ)) (run_main_quiescent m ρ))

/-- The kernel at `Bits`. -/
theorem frame : @Cert.quiescent_Shift Cert.Shift.Gen.facts := fun m ρ _ =>
  (θ_run Cert.Shift.defs _ _).mono (fun _ h => h.2) (quiet (F := Bits) m ρ)

section

variable (m : (ℓ : Loc Cert.Shift.nD Cert.Shift.τ Cert.Shift.sig) → Buf (Elt Ideal) ℓ) (ρ : Dev Cert.Shift.nD → PrngReg)

/-- What the idealization's run ends with. -/
theorem run_ideal :
    θ_run (@Cert.ShiftIdeal.defs Ideal _ Cert.ShiftIdeal.Gen.facts)
      (onTc (τ := Cert.Shift.τ) (@Cert.ShiftIdeal.main Ideal _ Cert.ShiftIdeal.Gen.facts)) ⟨m, fun _ => 0, ρ⟩
      (fun r => (Pipeline.FramePost Cert.Shift.cfgs (dats m) 0 (Cert.Shift.Gen.V m) r) ∧ (∀ c : Dev Cert.Shift.nD,
      r.2.mem ((c : Thread Cert.Shift.nD Cert.Shift.τ).loc Cert.Shift.main_arg0) = m ((c : Thread Cert.Shift.nD Cert.Shift.τ).loc Cert.Shift.main_arg0)
      ∧ r.2.mem ((c : Thread Cert.Shift.nD Cert.Shift.τ).loc Cert.Shift.main_arg1) = m ((c : Thread Cert.Shift.nD Cert.Shift.τ).loc Cert.Shift.main_arg1)
      ∧ r.2.mem ((c : Thread Cert.Shift.nD Cert.Shift.τ).loc Cert.Shift.main_arg2) = m ((c : Thread Cert.Shift.nD Cert.Shift.τ).loc Cert.Shift.main_arg2)
      ∧ r.2.mem ((c : Thread Cert.Shift.nD Cert.Shift.τ).loc Cert.Shift.main_arg3) = m ((c : Thread Cert.Shift.nD Cert.Shift.τ).loc Cert.Shift.main_arg3)
      ∧ r.2.mem ((c : Thread Cert.Shift.nD Cert.Shift.τ).loc Cert.Shift.main_arg4) = m ((c : Thread Cert.Shift.nD Cert.Shift.τ).loc Cert.Shift.main_arg4)
      ∧ r.2.mem ((c : Thread Cert.Shift.nD Cert.Shift.τ).loc Cert.Shift.main_arg5) = m ((c : Thread Cert.Shift.nD Cert.Shift.τ).loc Cert.Shift.main_arg5)
      ∧ r.2.mem ((c : Thread Cert.Shift.nD Cert.Shift.τ).loc Cert.Shift.main_arg6) = m ((c : Thread Cert.Shift.nD Cert.Shift.τ).loc Cert.Shift.main_arg6)
      ∧ r.2.mem ((c : Thread Cert.Shift.nD Cert.Shift.τ).loc Cert.Shift.main_arg7) = m ((c : Thread Cert.Shift.nD Cert.Shift.τ).loc Cert.Shift.main_arg7)
      ∧ r.2.mem ((c : Thread Cert.Shift.nD Cert.Shift.τ).loc Cert.Shift.main_arg8) = m ((c : Thread Cert.Shift.nD Cert.Shift.τ).loc Cert.Shift.main_arg8)
      ∧ r.2.mem ((c : Thread Cert.Shift.nD Cert.Shift.τ).loc Cert.Shift.main_arg9) = m ((c : Thread Cert.Shift.nD Cert.Shift.τ).loc Cert.Shift.main_arg9)
      ∧ r.2.mem ((c : Thread Cert.Shift.nD Cert.Shift.τ).loc Cert.Shift.main_arg10) = m ((c : Thread Cert.Shift.nD Cert.Shift.τ).loc Cert.Shift.main_arg10))
      ∧ r.2.sem = fun _ => 0) := by
  rw [Cert.Shift.Same.defs, Cert.Shift.Same.main]
  exact quiet (F := Ideal) m ρ

end

/-- The idealization. -/
theorem frame_ideal : @Cert.quiescent_ShiftIdeal Cert.ShiftIdeal.Gen.facts := fun m ρ _ =>
  (θ_run Cert.ShiftIdeal.defs _ _).mono (fun _ h => h.2) (run_ideal m ρ)

/-- The reference. -/
theorem reference_frame : @Cert.quiescent_ShiftReferenceIdeal Cert.ShiftReferenceIdeal.Gen.facts := fun m ρ _ =>
  (θ_run Cert.ShiftReferenceIdeal.defs _ _).mono
    (fun r h => And.intro (fun c => (h c).2.2) (Idealize.ShloMosaic.sem_eq_zero_of_no_sems (by decide) r.2))
    (Cert.ShiftReferenceIdeal.Value.run (F := Ideal) m ρ)

section

variable (m : (ℓ : Loc Cert.Shift.nD Cert.Shift.τ Cert.Shift.sig) → Buf (Elt Ideal) ℓ) (c : Dev Cert.Shift.nD)
variable (x0 : (⟨Cert.ShiftReferenceIdeal.S16x2048x1920, .bf16⟩ : BufTy).Contents (Elt Ideal))
variable (x1 x2 : (⟨Cert.ShiftReferenceIdeal.S1x1920, .f32⟩ : BufTy).Contents (Elt Ideal))
variable (h0 : x0 = m ((c : Thread Cert.Shift.nD Cert.Shift.τ).loc Cert.Shift.main_arg0))
variable (h1 : x1 = m ((c : Thread Cert.Shift.nD Cert.Shift.τ).loc Cert.Shift.main_arg1))
variable (h2 : x2 = m ((c : Thread Cert.Shift.nD Cert.Shift.τ).loc Cert.Shift.main_arg2))

include h0 h1 h2

theorem first : Cert.ShiftReferenceIdeal.Read.val_main_v21 (F := Ideal) x0 x1 x2 = Cert.Shift.Point.receptance m c := by
  subst h0 h1 h2
  funext i
  have hi : i = ix4 (i 0) (i 1) (i 2) (i 3) := funext fun j => by match j with | ⟨0, _⟩ => rfl | ⟨1, _⟩ => rfl | ⟨2, _⟩ => rfl | ⟨3, _⟩ => rfl
  exact (congrArg _ hi).trans (Cert.ShiftReferenceIdeal.Entry.first _ _ _ (i 0) (i 1) (i 2) (i 3))

theorem second : Cert.ShiftReferenceIdeal.Read.val_main_v25 (F := Ideal) x0 x1 x2 = Cert.Shift.Point.values m c := by
  subst h0 h1 h2
  funext i
  have hi : i = ix4 (i 0) (i 1) (i 2) (i 3) := funext fun j => by match j with | ⟨0, _⟩ => rfl | ⟨1, _⟩ => rfl | ⟨2, _⟩ => rfl | ⟨3, _⟩ => rfl
  exact (congrArg _ hi).trans (Cert.ShiftReferenceIdeal.Entry.second _ _ _ (i 0) (i 1) (i 2) (i 3))

end

/-- Both programs end with the receptance and the values of the same arguments. -/
theorem algebraic : @Cert.algebraic_ShiftIdeal_ShiftReferenceIdeal Cert.ShiftIdeal.Gen.facts Cert.ShiftReferenceIdeal.Gen.facts := by
  intro m ρ m' ρ' _ hagree
  refine ⟨fun c => Cert.Shift.Point.receptance m c, fun c => Cert.Shift.Point.values m c, ?_, ?_⟩
  · exact (θ_run Cert.ShiftIdeal.defs _ _).mono
      (fun r h c => ⟨((h.1 c).1 14).trans (Cert.Shift.Point.final14 m c), ((h.1 c).1 15).trans (Cert.Shift.Point.final15 m c), h.2.1 c⟩)
      (run_ideal m ρ)
  · refine (θ_run Cert.ShiftReferenceIdeal.defs _ _).mono (fun r h c => ⟨(h c).1.trans ?_, (h c).2.1.trans ?_, (h c).2.2⟩)
      (Cert.ShiftReferenceIdeal.Value.run (F := Ideal) m' ρ')
    · obtain ⟨h0, h1, h2, _⟩ := hagree c
      exact (Cert.ShiftReferenceIdeal.Read.val_main_v21_eq _ _ _).trans (first m c _ _ _ h0 h1 h2)
    · obtain ⟨h0, h1, h2, _⟩ := hagree c
      exact (Cert.ShiftReferenceIdeal.Read.val_main_v25_eq _ _ _).trans (second m c _ _ _ h0 h1 h2)

end Cert.ShiftClaims

end
-- ==== Proof.lean ====
module

public import proofs.«01_k».proof.Defs
public import proofs.«01_k».proof.Proof.Gen.Kernel.Frame
public import proofs.«01_k».proof.Proof.Attention
public import proofs.«01_k».proof.Proof.Gen.Projection.Frame
public import proofs.«01_k».proof.Proof.Gen.ProjectionIdeal.Frame
public import proofs.«01_k».proof.Proof.Projections
public import proofs.«01_k».proof.Proof.Experts
public import proofs.«01_k».proof.Proof.Shifts

@[expose] public section

noncomputable section

namespace Cert.Proof

open Idealize.ShloMosaic

theorem claim : Cert.Claim :=
  ⟨Cert.Kernel.Gen.facts, Cert.KernelIdeal.Gen.facts, Cert.ReferenceIdeal.Gen.facts,
    Cert.Projection.Gen.facts, Cert.ProjectionIdeal.Gen.facts, Cert.ProjectionReferenceIdeal.Gen.facts,
    Cert.Experts.Gen.facts, Cert.ExpertsIdeal.Gen.facts, Cert.ExpertsReferenceIdeal.Gen.facts,
    Cert.Shift.Gen.facts, Cert.ShiftIdeal.Gen.facts, Cert.ShiftReferenceIdeal.Gen.facts, Cert.Finite.facts, Cert.Pre_blocks_in_range.Gen.facts,
    fun m ρ _ => Cert.Kernel.Gen.frame m ρ, fun m ρ _ => Cert.KernelIdeal.Gen.frame m ρ, fun m ρ _ => Cert.KernelIdeal.Gen.frame m ρ,
    AttentionClaims.reference_frame, fun m ρ _ => AttentionClaims.reference_frame m ρ trivial,
    fun m ρ _ => Cert.Projection.Gen.frame m ρ, fun m ρ _ => Cert.ProjectionIdeal.Gen.frame m ρ, ProjectionClaims.reference_frame,
    ExpertsClaims.frame, ExpertsClaims.frame_ideal, ExpertsClaims.reference_frame, fun m ρ _ => ExpertsClaims.reference_frame m ρ trivial,
    ShiftClaims.frame, ShiftClaims.frame_ideal, ShiftClaims.reference_frame,
    trivial, AttentionClaims.algebraic, trivial, ProjectionClaims.algebraic,
    trivial, ExpertsClaims.algebraic, trivial, ShiftClaims.algebraic⟩

end Cert.Proof

end
